-- ==== Defs.lean ====
def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal [hPre_idx_in_rows : Cert.Pre_idx_in_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_idx_in_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_GatherRef [hPre_idx_in_rows : Cert.Pre_idx_in_rows.Facts] (m : (ℓ : Loc Cert.GatherRef.nD Cert.GatherRef.τ Cert.GatherRef.sig) → Buf (Elt Bits) ℓ) : Prop :=
  ∀ c : Dev Cert.GatherRef.nD,
    (Cert.Pre_idx_in_rows.fn (F := Bits) (m ((c.tc : Thread Cert.GatherRef.nD Cert.GatherRef.τ).loc Cert.GatherRef.main_arg0)) (m ((c.tc : Thread Cert.GatherRef.nD Cert.GatherRef.τ).loc Cert.GatherRef.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] [hPre_idx_in_rows : Cert.Pre_idx_in_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRef [hGatherRef : Cert.GatherRef.Facts] [hPre_idx_in_rows : Cert.Pre_idx_in_rows.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1))
      ∧ r.2.sem = fun _ => 0)

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v18) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Gather_GatherIdeal : Prop :=
  True

def algebraic_GatherIdeal_GatherRefIdeal [hGatherIdeal : Cert.GatherIdeal.Facts] [hGatherRefIdeal : Cert.GatherRefIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v6) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def bitexact_Gather_GatherRef [hGather : Cert.Gather.Facts] [hGatherRef : Cert.GatherRef.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v0)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v0) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherRef.defs (F := Bits)) (onTc (τ := Cert.GatherRef.τ) (Cert.GatherRef.main (F := Bits))) ⟨m', fun _ => 0, g'⟩ (fun r => ∀ c : Dev Cert.GatherRef.nD,
          r.2.mem ((c.tc : Thread Cert.GatherRef.nD Cert.GatherRef.τ).loc Cert.GatherRef.main_v6) = v0 c
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v21)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v59) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v20_0)) (v1 : (c : Dev Cert.InprojIdeal.nD) → Buf (Elt Ideal) ((c.tc : Thread Cert.InprojIdeal.nD Cert.InprojIdeal.τ).loc Cert.InprojIdeal.main_v20_1)) (v2 : (c : Dev Cert.InprojIdeal.nD) → Buf (Elt Ideal) ((c.tc : Thread Cert.InprojIdeal.nD Cert.InprojIdeal.τ).loc Cert.InprojIdeal.main_v20_2)) (v3 : (c : Dev Cert.InprojIdeal.nD) → Buf (Elt Ideal) ((c.tc : Thread Cert.InprojIdeal.nD Cert.InprojIdeal.τ).loc Cert.InprojIdeal.main_v20_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v20_0) = v0 c
          ∧ r.2.mem ((c.tc : Thread Cert.InprojIdeal.nD Cert.InprojIdeal.τ).loc Cert.InprojIdeal.main_v20_1) = v1 c
          ∧ r.2.mem ((c.tc : Thread Cert.InprojIdeal.nD Cert.InprojIdeal.τ).loc Cert.InprojIdeal.main_v20_2) = v2 c
          ∧ r.2.mem ((c.tc : Thread Cert.InprojIdeal.nD Cert.InprojIdeal.τ).loc Cert.InprojIdeal.main_v20_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v29) = v0 c
          ∧ r.2.mem ((c.tc : Thread Cert.InprojRefIdeal.nD Cert.InprojRefIdeal.τ).loc Cert.InprojRefIdeal.main_v31) = v1 c
          ∧ r.2.mem ((c.tc : Thread Cert.InprojRefIdeal.nD Cert.InprojRefIdeal.τ).loc Cert.InprojRefIdeal.main_v33) = v2 c
          ∧ r.2.mem ((c.tc : Thread Cert.InprojRefIdeal.nD Cert.InprojRefIdeal.τ).loc Cert.InprojRefIdeal.main_v35) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v31) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v94_0)) (v1 : (c : Dev Cert.PrepIdeal.nD) → Buf (Elt Ideal) ((c.tc : Thread Cert.PrepIdeal.nD Cert.PrepIdeal.τ).loc Cert.PrepIdeal.main_v94_1)) (v2 : (c : Dev Cert.PrepIdeal.nD) → Buf (Elt Ideal) ((c.tc : Thread Cert.PrepIdeal.nD Cert.PrepIdeal.τ).loc Cert.PrepIdeal.main_v94_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v94_0) = v0 c
          ∧ r.2.mem ((c.tc : Thread Cert.PrepIdeal.nD Cert.PrepIdeal.τ).loc Cert.PrepIdeal.main_v94_1) = v1 c
          ∧ r.2.mem ((c.tc : Thread Cert.PrepIdeal.nD Cert.PrepIdeal.τ).loc Cert.PrepIdeal.main_v94_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v96) = v0 c
          ∧ r.2.mem ((c.tc : Thread Cert.PrepRefIdeal.nD Cert.PrepRefIdeal.τ).loc Cert.PrepRefIdeal.main_v101) = v1 c
          ∧ r.2.mem ((c.tc : Thread Cert.PrepRefIdeal.nD Cert.PrepRefIdeal.τ).loc Cert.PrepRefIdeal.main_v107) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v3) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1))

def Claim : Prop :=
  ∃ (hFinal : Cert.Final.Facts) (hFinalIdeal : Cert.FinalIdeal.Facts) (hFinalRefIdeal : Cert.FinalRefIdeal.Facts) (hGather : Cert.Gather.Facts) (hGatherIdeal : Cert.GatherIdeal.Facts) (hGatherRefIdeal : Cert.GatherRefIdeal.Facts) (hGatherRef : Cert.GatherRef.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hExperts : Cert.Experts.Facts) (hExpertsIdeal : Cert.ExpertsIdeal.Facts) (hExpertsRefIdeal : Cert.ExpertsRefIdeal.Facts) (hPrep : Cert.Prep.Facts) (hPrepIdeal : Cert.PrepIdeal.Facts) (hPrepRefIdeal : Cert.PrepRefIdeal.Facts) (hCombine : Cert.Combine.Facts) (hCombineIdeal : Cert.CombineIdeal.Facts) (hCombineRefIdeal : Cert.CombineRefIdeal.Facts) (hPre_idx_in_rows : Cert.Pre_idx_in_rows.Facts) (hPre_experts_in_range : Cert.Pre_experts_in_range.Facts),
    quiescent_Final (hFinal := hFinal)
    ∧ quiescent_FinalIdeal (hFinalIdeal := hFinalIdeal)
    ∧ quiescent_FinalRefIdeal (hFinalRefIdeal := hFinalRefIdeal)
    ∧ quiescent_Gather (hGather := hGather) (hPre_idx_in_rows := hPre_idx_in_rows)
    ∧ quiescent_GatherIdeal (hGatherIdeal := hGatherIdeal) (hPre_idx_in_rows := hPre_idx_in_rows)
    ∧ quiescent_GatherRefIdeal (hGatherRefIdeal := hGatherRefIdeal) (hPre_idx_in_rows := hPre_idx_in_rows)
    ∧ quiescent_GatherRef (hGatherRef := hGatherRef) (hPre_idx_in_rows := hPre_idx_in_rows)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_Prep (hPrep := hPrep)
    ∧ quiescent_PrepIdeal (hPrepIdeal := hPrepIdeal)
    ∧ quiescent_PrepRefIdeal (hPrepRefIdeal := hPrepRefIdeal)
    ∧ quiescent_Combine (hCombine := hCombine)
    ∧ quiescent_CombineIdeal (hCombineIdeal := hCombineIdeal)
    ∧ quiescent_CombineRefIdeal (hCombineRefIdeal := hCombineRefIdeal)
    ∧ preserves_Final_FinalIdeal
    ∧ algebraic_FinalIdeal_FinalRefIdeal (hFinalIdeal := hFinalIdeal) (hFinalRefIdeal := hFinalRefIdeal)
    ∧ preserves_Gather_GatherIdeal
    ∧ algebraic_GatherIdeal_GatherRefIdeal (hGatherIdeal := hGatherIdeal) (hGatherRefIdeal := hGatherRefIdeal) (hPre_idx_in_rows := hPre_idx_in_rows)
    ∧ bitexact_Gather_GatherRef (hGather := hGather) (hGatherRef := hGatherRef) (hPre_idx_in_rows := hPre_idx_in_rows)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Prep_PrepIdeal
    ∧ algebraic_PrepIdeal_PrepRefIdeal (hPrepIdeal := hPrepIdeal) (hPrepRefIdeal := hPrepRefIdeal)
    ∧ preserves_Combine_CombineIdeal
    ∧ algebraic_CombineIdeal_CombineRefIdeal (hCombineIdeal := hCombineIdeal) (hCombineRefIdeal := hCombineRefIdeal)
-- ==== Pre_experts_in_range.lean ====
abbrev S268 : Shape := ⟨1, ![268]⟩
abbrev S137216x1024 : Shape := ⟨2, ![137216, 1024]⟩
abbrev S137216 : Shape := ⟨1, ![137216]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S268 : S_.BroadcastsInDim S268 (![] : Fin 0 → Fin S268.rank)

variable [Facts]

def fn {F : FTy → Type} [FloatOps F] (main_arg0 : IVec S268 32) (main_arg1 : FVec F S137216x1024 .bf16) (main_arg2 : FVec F S137216 .f32) (main_arg3 : FVec F S8x1024x3584 .f32) (main_arg4 : FVec F S8x1024x3584 .f32) (main_arg5 : FVec F S8x3584x1024 .f32) : IVec S268 1 :=
  let main_c : IVec S_ 32 := constantI S_ 32 0#32
  let main_v0 : IVec S268 32 := broadcastInDim S268 ![] bcast_S_S268 main_c
  let main_v1 : IVec S268 1 := cmpi .sge main_arg0 main_v0
  let main_c_0 : IVec S_ 32 := constantI S_ 32 8#32
  let main_v2 : IVec S268 32 := broadcastInDim S268 ![] bcast_S_S268 main_c_0
  let main_v3 : IVec S268 1 := cmpi .slt main_arg0 main_v2
  let main_v4 : IVec S268 1 := andi main_v1 main_v3
  main_v4
-- ==== Pre_idx_in_rows.lean ====
abbrev S137216x1024 : Shape := ⟨2, ![137216, 1024]⟩
abbrev S133120 : Shape := ⟨1, ![133120]⟩
abbrev S_ : Shape := ⟨0, ![]⟩

class Facts : Prop where
  bcast_S_S133120 : S_.BroadcastsInDim S133120 (![] : Fin 0 → Fin S133120.rank)

variable [Facts]

def fn {F : FTy → Type} [FloatOps F] (main_arg0 : FVec F S137216x1024 .f32) (main_arg1 : IVec S133120 32) : IVec S133120 1 :=
  let main_c : IVec S_ 32 := constantI S_ 32 0#32
  let main_v0 : IVec S133120 32 := broadcastInDim S133120 ![] bcast_S_S133120 main_c
  let main_v1 : IVec S133120 1 := cmpi .sge main_arg1 main_v0
  let main_c_0 : IVec S_ 32 := constantI S_ 32 137216#32
  let main_v2 : IVec S133120 32 := broadcastInDim S133120 ![] bcast_S_S133120 main_c_0
  let main_v3 : IVec S133120 1 := cmpi .slt main_arg1 main_v2
  let main_v4 : IVec S133120 1 := andi main_v1 main_v3
  main_v4
-- ==== Final.lean ====
abbrev S66560x1024 : Shape := ⟨2, ![66560, 1024]⟩
abbrev S133120x1024 : Shape := ⟨2, ![133120, 1024]⟩
abbrev S1024 : Shape := ⟨1, ![1024]⟩
abbrev S1x1024 : Shape := ⟨2, ![1, 1024]⟩
abbrev S8x8192x1024 : Shape := ⟨3, ![8, 8192, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S66560x1024, .f32⟩
  | .hbm, ⟨1, _⟩ => ⟨S133120x1024, .f32⟩
  | .hbm, ⟨2, _⟩ => ⟨S1024, .f32⟩
  | .hbm, ⟨3, _⟩ => ⟨S1x1024, .f32⟩
  | .hbm, ⟨4, _⟩ => ⟨S8x8192x1024, .f32⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024x1024, .f32⟩
  | .local _ .vmem, ⟨8, _⟩ => ⟨S1x1024x1024, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c0_i32 : BitVec 32 := 0#32
  let arg0 : BitVec 32 := BitVec.ofNat 32 (i 0).val
  let c8320_i32 : BitVec 32 := 8320#32
  let v0 : BitVec 32 := Scalar.muli arg0 c8320_i32
  let v1 : BitVec 32 := Scalar.addi c0_i32 v0
  let c16_i32 : BitVec 32 := 16#32
  let v2 : BitVec 32 := Scalar.addi v1 c16_i32
  let arg1 : BitVec 32 := BitVec.ofNat 32 (i 1).val
  let c1024_i32 : BitVec 32 := 1024#32
  let v3 : BitVec 32 := Scalar.muli arg1 c1024_i32
  let v4 : BitVec 32 := Scalar.addi v2 v3
  v4
def k0_mult2 (i : grid0.Coords) : BitVec 32 :=
  let c0_i32 : BitVec 32 := 0#32
  let arg0 : BitVec 32 := BitVec.ofNat 32 (i 0).val
  let c8320_i32 : BitVec 32 := 8320#32
  let v0 : BitVec 32 := Scalar.muli arg0 c8320_i32
  let v1 : BitVec 32 := Scalar.addi c0_i32 v0
  let c16_i32 : BitVec 32 := 16#32
  let v2 : BitVec 32 := Scalar.addi v1 c16_i32
  let arg1 : BitVec 32 := BitVec.ofNat 32 (i 1).val
  let c1024_i32 : BitVec 32 := 1024#32
  let v3 : BitVec 32 := Scalar.muli arg1 c1024_i32
  let v4 : BitVec 32 := Scalar.addi v2 v3
  v4
def k0_mult3 (i : grid0.Coords) : BitVec 32 :=
  let c66560_i32 : BitVec 32 := 66560#32
  let arg0 : BitVec 32 := BitVec.ofNat 32 (i 0).val
  let c8320_i32 : BitVec 32 := 8320#32
  let v0 : BitVec 32 := Scalar.muli arg0 c8320_i32
  let v1 : BitVec 32 := Scalar.addi c66560_i32 v0
  let c16_i32 : BitVec 32 := 16#32
  let v2 : BitVec 32 := Scalar.addi v1 c16_i32
  let arg1 : BitVec 32 := BitVec.ofNat 32 (i 1).val
  let c1024_i32 : BitVec 32 := 1024#32
  let v3 : BitVec 32 := Scalar.muli arg1 c1024_i32
  let v4 : BitVec 32 := Scalar.addi v2 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c0_i32 : BitVec 32 := 0#32
  let v1 : BitVec 32 := Scalar.addi c0_i32 v0
  let c16_i32 : BitVec 32 := 16#32
  let v2 : BitVec 32 := Scalar.addi v1 c16_i32
  let c1024_i32 : BitVec 32 := 1024#32
  let v3 : BitVec 32 := Scalar.muli arg1 c1024_i32
  let v4 : BitVec 32 := Scalar.addi v2 v3
  let v5 : BitVec 32 := v4
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c0_i32 : BitVec 32 := 0#32
  let v1 : BitVec 32 := Scalar.addi c0_i32 v0
  let c16_i32 : BitVec 32 := 16#32
  let v2 : BitVec 32 := Scalar.addi v1 c16_i32
  let c1024_i32 : BitVec 32 := 1024#32
  let v3 : BitVec 32 := Scalar.muli arg1 c1024_i32
  let v4 : BitVec 32 := Scalar.addi v2 v3
  let v5 : BitVec 32 := v4
  let c0_i32_0 : BitVec 32 := 0#32
  let c0_i32_1 : BitVec 32 := 0#32
  ![v5.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c66560_i32 : BitVec 32 := 66560#32
  let v1 : BitVec 32 := Scalar.addi c66560_i32 v0
  let c16_i32 : BitVec 32 := 16#32
  let v2 : BitVec 32 := Scalar.addi v1 c16_i32
  let c1024_i32 : BitVec 32 := 1024#32
  let v3 : BitVec 32 := Scalar.muli arg1 c1024_i32
  let v4 : BitVec 32 := Scalar.addi v2 v3
  let v5 : BitVec 32 := v4
  let c0_i32 : BitVec 32 := 0#32
  let c0_i32_0 : BitVec 32 := 0#32
  ![v5.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S66560x1024 : Shape := ⟨2, ![66560, 1024]⟩
abbrev S133120x1024 : Shape := ⟨2, ![133120, 1024]⟩
abbrev S1024 : Shape := ⟨1, ![1024]⟩
abbrev S8x8320x1024 : Shape := ⟨3, ![8, 8320, 1024]⟩
abbrev S_ : Shape := ⟨0, ![]⟩
abbrev S8x8320 : Shape := ⟨2, ![8, 8320]⟩
abbrev S8x8320x1 : Shape := ⟨3, ![8, 8320, 1]⟩
abbrev S1x1x1024 : Shape := ⟨3, ![1, 1, 1024]⟩
abbrev S8x8192x1024 : Shape := ⟨3, ![8, 8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S133120x1024, .f32⟩
  | .hbm, ⟨2, _⟩ => ⟨S1024, .f32⟩
  | .hbm, ⟨3, _⟩ => ⟨S66560x1024, .f32⟩
  | .hbm, ⟨4, _⟩ => ⟨S66560x1024, .f32⟩
  | .hbm, ⟨5, _⟩ => ⟨S66560x1024, .f32⟩
  | .hbm, ⟨6, _⟩ => ⟨S66560x1024, .f32⟩
  | .hbm, ⟨7, _⟩ => ⟨S8x8320x1024, .f32⟩
  | .hbm, ⟨8, _⟩ => ⟨S8x8320x1024, .f32⟩
  | .hbm, ⟨9, _⟩ => ⟨S_, .f32⟩
  | .hbm, ⟨10, _⟩ => ⟨S8x8320, .f32⟩
  | .hbm, ⟨11, _⟩ => ⟨S8x8320x1, .f32⟩
  | .hbm, ⟨12, _⟩ => ⟨S_, .f32⟩
  | .hbm, ⟨13, _⟩ => ⟨S8x8320x1, .f32⟩
  | .hbm, ⟨14, _⟩ => ⟨S8x8320x1, .f32⟩
  | .hbm, ⟨15, _⟩ => ⟨S_, .f32⟩
  | .hbm, ⟨16, _⟩ => ⟨S8x8320x1, .f32⟩
  | .hbm, ⟨17, _⟩ => ⟨S8x8320x1, .f32⟩
  | .hbm, ⟨18, _⟩ => ⟨S8x8320x1, .f32⟩
  | .hbm, ⟨19, _⟩ => ⟨S8x8320x1024, .f32⟩
  | .hbm, ⟨20, _⟩ => ⟨S8x8320x1024, .f32⟩
  | .hbm, ⟨21, _⟩ => ⟨S1x1x1024, .f32⟩
  | .hbm, ⟨22, _⟩ => ⟨S8x8320x1024, .f32⟩
  | .hbm, ⟨23, _⟩ => ⟨S8x8320x1024, .f32⟩
  | .hbm, ⟨24, _⟩ => ⟨S8x8192x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Gather.lean ====
abbrev S137216x1024 : Shape := ⟨2, ![137216, 1024]⟩
abbrev S133120 : Shape := ⟨1, ![133120]⟩
abbrev S133120x1024 : Shape := ⟨2, ![133120, 1024]⟩
abbrev S64 : Shape := ⟨1, ![64]⟩
abbrev S64x1024 : Shape := ⟨2, ![64, 1024]⟩
abbrev S_ : Shape := ⟨0, ![]⟩
abbrev S64x128 : Shape := ⟨2, ![64, 128]⟩
abbrev S137216x128 : Shape := ⟨2, ![137216, 128]⟩

abbrev nBuf : Table → Nat
  | .hbm => 3
  | .local .scVector .vmem => 2
  | _ => 0

abbrev bufTy : (tb : Table) → Fin (nBuf tb) → BufTy
  | .hbm, ⟨0, _⟩ => ⟨S137216x1024, .f32⟩
  | .hbm, ⟨1, _⟩ => ⟨S133120, .i32⟩
  | .hbm, ⟨2, _⟩ => ⟨S133120x1024, .f32⟩
  | .local .scVector .vmem, ⟨0, _⟩ => ⟨S64, .i32⟩
  | .local .scVector .vmem, ⟨1, _⟩ => ⟨S64x1024, .f32⟩
  | _, _ => ⟨S137216x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c65_i32 : BitVec 32 := 65#32
  let v3 : BitVec 32 := Scalar.addi c0_i32 c65_i32
  let c1_i32 : BitVec 32 := 1#32
  ⟨c0_i32, v3, c1_i32⟩
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4160_i32 : BitVec 32 := 4160#32
  let v2 : BitVec 32 := Scalar.muli v1 c4160_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c64_i32 : BitVec 32 := 64#32
  let v6 : BitVec 32 := Scalar.muli v5 c64_i32
  let v7 : BitVec 32 := Scalar.addi v2 v6
  v7
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4160_i32 : BitVec 32 := 4160#32
  let v2 : BitVec 32 := Scalar.muli v1 c4160_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c64_i32 : BitVec 32 := 64#32
  let v6 : BitVec 32 := Scalar.muli v5 c64_i32
  let v7 : BitVec 32 := Scalar.addi v2 v6
  let v8 : BitVec 32 := v7
  ![v8.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4160_i32 : BitVec 32 := 4160#32
  let v2 : BitVec 32 := Scalar.muli v1 c4160_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c64_i32 : BitVec 32 := 64#32
  let v6 : BitVec 32 := Scalar.muli v5 c64_i32
  let v7 : BitVec 32 := Scalar.addi v2 v6
  let v8 : BitVec 32 := v7
  let c0_i32_92_r1 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRef.lean ====
abbrev S137216x1024 : Shape := ⟨2, ![137216, 1024]⟩
abbrev S133120 : Shape := ⟨1, ![133120]⟩
abbrev S_ : Shape := ⟨0, ![]⟩
abbrev S133120x1 : Shape := ⟨2, ![133120, 1]⟩
abbrev S133120x1024 : Shape := ⟨2, ![133120, 1024]⟩

abbrev nBuf : Space → Nat
  | .hbm => 11
  | .vmem => 0
  | .smem => 0
  | _ => 0

abbrev bufTy : (tb : Table) → Fin (tcTables nBuf tb) → BufTy
  | .hbm, ⟨0, _⟩ => ⟨S137216x1024, .f32⟩
  | .hbm, ⟨1, _⟩ => ⟨S133120, .i32⟩
  | .hbm, ⟨2, _⟩ => ⟨S_, .i32⟩
  | .hbm, ⟨3, _⟩ => ⟨S133120, .i32⟩
  | .hbm, ⟨4, _⟩ => ⟨S133120, .i1⟩
  | .hbm, ⟨5, _⟩ => ⟨S_, .i32⟩
  | .hbm, ⟨6, _⟩ => ⟨S133120, .i32⟩
  | .hbm, ⟨7, _⟩ => ⟨S133120, .i32⟩
  | .hbm, ⟨8, _⟩ => ⟨S133120, .i32⟩
  | .hbm, ⟨9, _⟩ => ⟨S133120x1, .i32⟩
  | .hbm, ⟨10, _⟩ => ⟨S133120x1024, .f32⟩
  | _, _ => ⟨S137216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ffn.lean ====
abbrev S66560x1024 : Shape := ⟨2, ![66560, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S66560x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![130, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S66560x1024 : Shape := ⟨2, ![66560, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S66560x2816 : Shape := ⟨2, ![66560, 2816]⟩

abbrev nBuf : Space → Nat
  | .hbm => 35
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S66560x1024, .f32⟩
  | .hbm, ⟨6, _⟩ => ⟨S_, .f32⟩
  | .hbm, ⟨7, _⟩ => ⟨S66560, .f32⟩
  | .hbm, ⟨8, _⟩ => ⟨S66560x1, .f32⟩
  | .hbm, ⟨9, _⟩ => ⟨S_, .f32⟩
  | .hbm, ⟨10, _⟩ => ⟨S66560x1, .f32⟩
  | .hbm, ⟨11, _⟩ => ⟨S66560x1, .f32⟩
  | .hbm, ⟨12, _⟩ => ⟨S_, .f32⟩
  | .hbm, ⟨13, _⟩ => ⟨S66560x1, .f32⟩
  | .hbm, ⟨14, _⟩ => ⟨S66560x1, .f32⟩
  | .hbm, ⟨15, _⟩ => ⟨S66560x1, .f32⟩
  | .hbm, ⟨16, _⟩ => ⟨S66560x1024, .f32⟩
  | .hbm, ⟨17, _⟩ => ⟨S66560x1024, .f32⟩
  | .hbm, ⟨18, _⟩ => ⟨S1x1024, .f32⟩
  | .hbm, ⟨19, _⟩ => ⟨S66560x1024, .f32⟩
  | .hbm, ⟨20, _⟩ => ⟨S66560x1024, .f32⟩
  | .hbm, ⟨21, _⟩ => ⟨S66560x2816, .f32⟩
  | .hbm, ⟨22, _⟩ => ⟨S66560x2816, .f32⟩
  | .hbm, ⟨23, _⟩ => ⟨S66560x2816, .f32⟩
  | .hbm, ⟨24, _⟩ => ⟨S_, .f32⟩
  | .hbm, ⟨25, _⟩ => ⟨S66560x2816, .f32⟩
  | .hbm, ⟨26, _⟩ => ⟨S66560x2816, .f32⟩
  | .hbm, ⟨27, _⟩ => ⟨S_, .f32⟩
  | .hbm, ⟨28, _⟩ => ⟨S66560x2816, .f32⟩
  | .hbm, ⟨29, _⟩ => ⟨S66560x2816, .f32⟩
  | .hbm, ⟨30, _⟩ => ⟨S66560x2816, .f32⟩
  | .hbm, ⟨31, _⟩ => ⟨S66560x2816, .f32⟩
  | .hbm, ⟨32, _⟩ => ⟨S66560x2816, .f32⟩
  | .hbm, ⟨33, _⟩ => ⟨S66560x1024, .f32⟩
  | .hbm, ⟨34, _⟩ => ⟨S66560x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Merge.lean ====
abbrev S66560x1024 : Shape := ⟨2, ![66560, 1024]⟩
abbrev S1024 : Shape := ⟨1, ![1024]⟩
abbrev S1024x7384 : Shape := ⟨2, ![1024, 7384]⟩
abbrev S66560x256 : Shape := ⟨2, ![66560, 256]⟩
abbrev S66560x512 : Shape := ⟨2, ![66560, 512]⟩
abbrev S4x256x1024 : Shape := ⟨3, ![4, 256, 1024]⟩
abbrev S1024x1024 : Shape := ⟨2, ![1024, 1024]⟩
abbrev S1024x4096 : Shape := ⟨2, ![1024, 4096]⟩
abbrev S1x1024 : Shape := ⟨2, ![1, 1024]⟩
abbrev S_ : Shape := ⟨0, ![]⟩
abbrev S64x1024 : Shape := ⟨2, ![64, 1024]⟩
abbrev S1x64x1024 : Shape := ⟨3, ![1, 64, 1024]⟩
abbrev S1x256x1024 : Shape := ⟨3, ![1, 256, 1024]⟩
abbrev S256x1024 : Shape := ⟨2, ![256, 1024]⟩
abbrev S512x1024 : Shape := ⟨2, ![512, 1024]⟩
abbrev S1024x256 : Shape := ⟨2, ![1024, 256]⟩
abbrev S1024x512 : Shape := ⟨2, ![1024, 512]⟩
abbrev S1024x1 : Shape := ⟨2, ![1024, 1]⟩

abbrev nBuf : Space → Nat
  | .hbm => 32
  | .vmem => 19
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x7384, .f32⟩
  | .hbm, ⟨3, _⟩ => ⟨S66560x256, .bf16⟩
  | .hbm, ⟨4, _⟩ => ⟨S66560x512, .bf16⟩
  | .hbm, ⟨5, _⟩ => ⟨S66560x256, .bf16⟩
  | .hbm, ⟨6, _⟩ => ⟨S66560x256, .bf16⟩
  | .hbm, ⟨7, _⟩ => ⟨S4x256x1024, .f32⟩
  | .hbm, ⟨8, _⟩ => ⟨S1024x1024, .f32⟩
  | .hbm, ⟨9, _⟩ => ⟨S1024x4096, .f32⟩
  | .hbm, ⟨10, _⟩ => ⟨S1024x4096, .bf16⟩
  | .hbm, ⟨11, _⟩ => ⟨S1x1024, .f32⟩
  | .hbm, ⟨12, _⟩ => ⟨S4x256x1024, .bf16⟩
  | .hbm, ⟨13, _⟩ => ⟨S_, .bf16⟩
  | .hbm, ⟨14, _⟩ => ⟨S64x1024, .bf16⟩
  | .hbm, ⟨15, _⟩ => ⟨S1x64x1024, .bf16⟩
  | .hbm, ⟨16, _⟩ => ⟨S64x1024, .bf16⟩
  | .hbm, ⟨17, _⟩ => ⟨S1x64x1024, .bf16⟩
  | .hbm, ⟨18, _⟩ => ⟨S64x1024, .bf16⟩
  | .hbm, ⟨19, _⟩ => ⟨S1x64x1024, .bf16⟩
  | .hbm, ⟨20, _⟩ => ⟨S64x1024, .bf16⟩
  | .hbm, ⟨21, _⟩ => ⟨S1x64x1024, .bf16⟩
  | .hbm, ⟨22, _⟩ => ⟨S64x1024, .bf16⟩
  | .hbm, ⟨23, _⟩ => ⟨S1x256x1024, .bf16⟩
  | .hbm, ⟨24, _⟩ => ⟨S256x1024, .bf16⟩
  | .hbm, ⟨25, _⟩ => ⟨S512x1024, .bf16⟩
  | .hbm, ⟨26, _⟩ => ⟨S1x256x1024, .bf16⟩
  | .hbm, ⟨27, _⟩ => ⟨S256x1024, .bf16⟩
  | .hbm, ⟨28, _⟩ => ⟨S1x256x1024, .bf16⟩
  | .hbm, ⟨29, _⟩ => ⟨S256x1024, .bf16⟩
  | .hbm, ⟨30, _⟩ => ⟨S1024x1024, .bf16⟩
  | .hbm, ⟨31, _⟩ => ⟨S66560x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S512x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S66560x1024 : Shape := ⟨2, ![66560, 1024]⟩
abbrev S1024 : Shape := ⟨1, ![1024]⟩
abbrev S1024x7384 : Shape := ⟨2, ![1024, 7384]⟩
abbrev S66560x256 : Shape := ⟨2, ![66560, 256]⟩
abbrev S66560x512 : Shape := ⟨2, ![66560, 512]⟩
abbrev S4x256x1024 : Shape := ⟨3, ![4, 256, 1024]⟩
abbrev S1024x1024 : Shape := ⟨2, ![1024, 1024]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S66560x4x128 : Shape := ⟨3, ![66560, 4, 128]⟩
abbrev S66560x4x64 : Shape := ⟨3, ![66560, 4, 64]⟩
abbrev S66560x7384 : Shape := ⟨2, ![66560, 7384]⟩
abbrev S66560x4096 : Shape := ⟨2, ![66560, 4096]⟩
abbrev S66560x4x1024 : Shape := ⟨3, ![66560, 4, 1024]⟩
abbrev S1x256x1024 : Shape := ⟨3, ![1, 256, 1024]⟩
abbrev S256x1024 : Shape := ⟨2, ![256, 1024]⟩
abbrev S66560x1x1024 : Shape := ⟨3, ![66560, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x7384, .f32⟩
  | .hbm, ⟨3, _⟩ => ⟨S66560x256, .bf16⟩
  | .hbm, ⟨4, _⟩ => ⟨S66560x512, .bf16⟩
  | .hbm, ⟨5, _⟩ => ⟨S66560x256, .bf16⟩
  | .hbm, ⟨6, _⟩ => ⟨S66560x256, .bf16⟩
  | .hbm, ⟨7, _⟩ => ⟨S4x256x1024, .f32⟩
  | .hbm, ⟨8, _⟩ => ⟨S1024x1024, .f32⟩
  | .hbm, ⟨9, _⟩ => ⟨S66560x1024, .f32⟩
  | .hbm, ⟨10, _⟩ => ⟨S_, .f32⟩
  | .hbm, ⟨11, _⟩ => ⟨S66560, .f32⟩
  | .hbm, ⟨12, _⟩ => ⟨S66560x1, .f32⟩
  | .hbm, ⟨13, _⟩ => ⟨S_, .f32⟩
  | .hbm, ⟨14, _⟩ => ⟨S66560x1, .f32⟩
  | .hbm, ⟨15, _⟩ => ⟨S66560x1, .f32⟩
  | .hbm, ⟨16, _⟩ => ⟨S_, .f32⟩
  | .hbm, ⟨17, _⟩ => ⟨S66560x1, .f32⟩
  | .hbm, ⟨18, _⟩ => ⟨S66560x1, .f32⟩
  | .hbm, ⟨19, _⟩ => ⟨S66560x1, .f32⟩
  | .hbm, ⟨20, _⟩ => ⟨S66560x1024, .f32⟩
  | .hbm, ⟨21, _⟩ => ⟨S66560x1024, .f32⟩
  | .hbm, ⟨22, _⟩ => ⟨S1x1024, .f32⟩
  | .hbm, ⟨23, _⟩ => ⟨S66560x1024, .f32⟩
  | .hbm, ⟨24, _⟩ => ⟨S66560x1024, .f32⟩
  | .hbm, ⟨25, _⟩ => ⟨S66560x4x128, .bf16⟩
  | .hbm, ⟨26, _⟩ => ⟨S66560x4x64, .bf16⟩
  | .hbm, ⟨27, _⟩ => ⟨S66560x256, .bf16⟩
  | .hbm, ⟨28, _⟩ => ⟨S66560x7384, .f32⟩
  | .hbm, ⟨29, _⟩ => ⟨S66560x4096, .f32⟩
  | .hbm, ⟨30, _⟩ => ⟨S66560x4096, .f32⟩
  | .hbm, ⟨31, _⟩ => ⟨S66560x4096, .f32⟩
  | .hbm, ⟨32, _⟩ => ⟨S_, .f32⟩
  | .hbm, ⟨33, _⟩ => ⟨S66560x4096, .f32⟩
  | .hbm, ⟨34, _⟩ => ⟨S66560x4096, .f32⟩
  | .hbm, ⟨35, _⟩ => ⟨S_, .f32⟩
  | .hbm, ⟨36, _⟩ => ⟨S66560x4096, .f32⟩
  | .hbm, ⟨37, _⟩ => ⟨S66560x4096, .f32⟩
  | .hbm, ⟨38, _⟩ => ⟨S66560x4x1024, .f32⟩
  | .hbm, ⟨39, _⟩ => ⟨S_, .f32⟩
  | .hbm, ⟨40, _⟩ => ⟨S66560x1024, .f32⟩
  | .hbm, ⟨41, _⟩ => ⟨S66560x256, .f32⟩
  | .hbm, ⟨42, _⟩ => ⟨S1x256x1024, .f32⟩
  | .hbm, ⟨43, _⟩ => ⟨S256x1024, .f32⟩
  | .hbm, ⟨44, _⟩ => ⟨S66560x1024, .f32⟩
  | .hbm, ⟨45, _⟩ => ⟨S66560x1x1024, .f32⟩
  | .hbm, ⟨46, _⟩ => ⟨S66560x1024, .f32⟩
  | .hbm, ⟨47, _⟩ => ⟨S66560x1024, .f32⟩
  | .hbm, ⟨48, _⟩ => ⟨S66560x1024, .f32⟩
  | .hbm, ⟨49, _⟩ => ⟨S66560x256, .f32⟩
  | .hbm, ⟨50, _⟩ => ⟨S1x256x1024, .f32⟩
  | .hbm, ⟨51, _⟩ => ⟨S256x1024, .f32⟩
  | .hbm, ⟨52, _⟩ => ⟨S66560x1024, .f32⟩
  | .hbm, ⟨53, _⟩ => ⟨S66560x1x1024, .f32⟩
  | .hbm, ⟨54, _⟩ => ⟨S66560x1024, .f32⟩
  | .hbm, ⟨55, _⟩ => ⟨S66560x1024, .f32⟩
  | .hbm, ⟨56, _⟩ => ⟨S66560x1024, .f32⟩
  | .hbm, ⟨57, _⟩ => ⟨S66560x256, .f32⟩
  | .hbm, ⟨58, _⟩ => ⟨S1x256x1024, .f32⟩
  | .hbm, ⟨59, _⟩ => ⟨S256x1024, .f32⟩
  | .hbm, ⟨60, _⟩ => ⟨S66560x1024, .f32⟩
  | .hbm, ⟨61, _⟩ => ⟨S66560x1x1024, .f32⟩
  | .hbm, ⟨62, _⟩ => ⟨S66560x1024, .f32⟩
  | .hbm, ⟨63, _⟩ => ⟨S66560x1024, .f32⟩
  | .hbm, ⟨64, _⟩ => ⟨S66560x1024, .f32⟩
  | .hbm, ⟨65, _⟩ => ⟨S66560x256, .f32⟩
  | .hbm, ⟨66, _⟩ => ⟨S1x256x1024, .f32⟩
  | .hbm, ⟨67, _⟩ => ⟨S256x1024, .f32⟩
  | .hbm, ⟨68, _⟩ => ⟨S66560x1024, .f32⟩
  | .hbm, ⟨69, _⟩ => ⟨S66560x1x1024, .f32⟩
  | .hbm, ⟨70, _⟩ => ⟨S66560x1024, .f32⟩
  | .hbm, ⟨71, _⟩ => ⟨S66560x1024, .f32⟩
  | .hbm, ⟨72, _⟩ => ⟨S66560x1024, .f32⟩
  | .hbm, ⟨73, _⟩ => ⟨S66560x1024, .f32⟩
  | .hbm, ⟨74, _⟩ => ⟨S66560x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Inproj.lean ====
abbrev S66560x1024 : Shape := ⟨2, ![66560, 1024]⟩
abbrev S1024 : Shape := ⟨1, ![1024]⟩
abbrev S1024x7384 : Shape := ⟨2, ![1024, 7384]⟩
abbrev S1024x512 : Shape := ⟨2, ![1024, 512]⟩
abbrev S1024x256 : Shape := ⟨2, ![1024, 256]⟩
abbrev S1024x16 : Shape := ⟨2, ![1024, 16]⟩
abbrev S_ : Shape := ⟨0, ![]⟩
abbrev S1024x128 : Shape := ⟨2, ![1024, 128]⟩
abbrev S1024x896 : Shape := ⟨2, ![1024, 896]⟩
abbrev S1024x384 : Shape := ⟨2, ![1024, 384]⟩
abbrev S1024x32 : Shape := ⟨2, ![1024, 32]⟩
abbrev S1024x1024 : Shape := ⟨2, ![1024, 1024]⟩
abbrev S1024x8 : Shape := ⟨2, ![1024, 8]⟩
abbrev S1024x1152 : Shape := ⟨2, ![1024, 1152]⟩
abbrev S1024x1056 : Shape := ⟨2, ![1024, 1056]⟩
abbrev S1x1024 : Shape := ⟨2, ![1, 1024]⟩
abbrev S66560x896 : Shape := ⟨2, ![66560, 896]⟩
abbrev S66560x512 : Shape := ⟨2, ![66560, 512]⟩
abbrev S66560x1152 : Shape := ⟨2, ![66560, 1152]⟩
abbrev S512x1024 : Shape := ⟨2, ![512, 1024]⟩
abbrev S512x896 : Shape := ⟨2, ![512, 896]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩

abbrev nBuf : Space → Nat
  | .hbm => 35
  | .vmem => 15
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x7384, .f32⟩
  | .hbm, ⟨3, _⟩ => ⟨S1024x512, .f32⟩
  | .hbm, ⟨4, _⟩ => ⟨S1024x256, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x896, .f32⟩
  | .hbm, ⟨10, _⟩ => ⟨S1024x896, .bf16⟩
  | .hbm, ⟨11, _⟩ => ⟨S1024x384, .f32⟩
  | .hbm, ⟨12, _⟩ => ⟨S1024x32, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x512, .f32⟩
  | .hbm, ⟨17, _⟩ => ⟨S1024x512, .bf16⟩
  | .hbm, ⟨18, _⟩ => ⟨S1024x1024, .f32⟩
  | .hbm, ⟨19, _⟩ => ⟨S1024x8, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x1152, .f32⟩
  | .hbm, ⟨24, _⟩ => ⟨S1024x1152, .bf16⟩
  | .hbm, ⟨25, _⟩ => ⟨S1024x1056, .f32⟩
  | .hbm, ⟨26, _⟩ => ⟨S_, .i32⟩
  | .hbm, ⟨27, _⟩ => ⟨S_, .f32⟩
  | .hbm, ⟨28, _⟩ => ⟨S1024x1152, .f32⟩
  | .hbm, ⟨29, _⟩ => ⟨S1024x1152, .bf16⟩
  | .hbm, ⟨30, _⟩ => ⟨S1x1024, .f32⟩
  | .hbm, ⟨31, _⟩ => ⟨S66560x896, .f32⟩
  | .hbm, ⟨32, _⟩ => ⟨S66560x512, .f32⟩
  | .hbm, ⟨33, _⟩ => ⟨S66560x1152, .f32⟩
  | .hbm, ⟨34, _⟩ => ⟨S66560x1152, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x896, .bf16⟩
  | .local _ .vmem, ⟨4, _⟩ => ⟨S1024x512, .bf16⟩
  | .local _ .vmem, ⟨5, _⟩ => ⟨S1024x1152, .bf16⟩
  | .local _ .vmem, ⟨6, _⟩ => ⟨S1024x1152, .bf16⟩
  | .local _ .vmem, ⟨7, _⟩ => ⟨S512x896, .f32⟩
  | .local _ .vmem, ⟨8, _⟩ => ⟨S512x896, .f32⟩
  | .local _ .vmem, ⟨9, _⟩ => ⟨S512x512, .f32⟩
  | .local _ .vmem, ⟨10, _⟩ => ⟨S512x512, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | .local _ .vmem, ⟨14, _⟩ => ⟨S512x1152, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_call3_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojRefIdeal.lean ====
abbrev S66560x1024 : Shape := ⟨2, ![66560, 1024]⟩
abbrev S1024 : Shape := ⟨1, ![1024]⟩
abbrev S1024x7384 : Shape := ⟨2, ![1024, 7384]⟩
abbrev S_ : Shape := ⟨0, ![]⟩
abbrev S66560 : Shape := ⟨1, ![66560]⟩
abbrev S66560x1 : Shape := ⟨2, ![66560, 1]⟩
abbrev S1x1024 : Shape := ⟨2, ![1, 1024]⟩
abbrev S66560x7384 : Shape := ⟨2, ![66560, 7384]⟩
abbrev S66560x128 : Shape := ⟨2, ![66560, 128]⟩
abbrev S66560x256 : Shape := ⟨2, ![66560, 256]⟩
abbrev S66560x16 : Shape := ⟨2, ![66560, 16]⟩
abbrev S66560x32 : Shape := ⟨2, ![66560, 32]⟩
abbrev S66560x768 : Shape := ⟨2, ![66560, 768]⟩
abbrev S66560x4 : Shape := ⟨2, ![66560, 4]⟩
abbrev S66560x1056 : Shape := ⟨2, ![66560, 1056]⟩
abbrev S66560x4096 : Shape := ⟨2, ![66560, 4096]⟩
abbrev S66560x112 : Shape := ⟨2, ![66560, 112]⟩
abbrev S66560x896 : Shape := ⟨2, ![66560, 896]⟩
abbrev S66560x96 : Shape := ⟨2, ![66560, 96]⟩
abbrev S66560x512 : Shape := ⟨2, ![66560, 512]⟩
abbrev S66560x120 : Shape := ⟨2, ![66560, 120]⟩
abbrev S66560x1152 : Shape := ⟨2, ![66560, 1152]⟩

abbrev nBuf : Space → Nat
  | .hbm => 46
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S1024, .f32⟩
  | .hbm, ⟨2, _⟩ => ⟨S1024x7384, .f32⟩
  | .hbm, ⟨3, _⟩ => ⟨S66560x1024, .f32⟩
  | .hbm, ⟨4, _⟩ => ⟨S_, .f32⟩
  | .hbm, ⟨5, _⟩ => ⟨S66560, .f32⟩
  | .hbm, ⟨6, _⟩ => ⟨S66560x1, .f32⟩
  | .hbm, ⟨7, _⟩ => ⟨S_, .f32⟩
  | .hbm, ⟨8, _⟩ => ⟨S66560x1, .f32⟩
  | .hbm, ⟨9, _⟩ => ⟨S66560x1, .f32⟩
  | .hbm, ⟨10, _⟩ => ⟨S_, .f32⟩
  | .hbm, ⟨11, _⟩ => ⟨S66560x1, .f32⟩
  | .hbm, ⟨12, _⟩ => ⟨S66560x1, .f32⟩
  | .hbm, ⟨13, _⟩ => ⟨S66560x1, .f32⟩
  | .hbm, ⟨14, _⟩ => ⟨S66560x1024, .f32⟩
  | .hbm, ⟨15, _⟩ => ⟨S66560x1024, .f32⟩
  | .hbm, ⟨16, _⟩ => ⟨S1x1024, .f32⟩
  | .hbm, ⟨17, _⟩ => ⟨S66560x1024, .f32⟩
  | .hbm, ⟨18, _⟩ => ⟨S66560x1024, .f32⟩
  | .hbm, ⟨19, _⟩ => ⟨S66560x7384, .f32⟩
  | .hbm, ⟨20, _⟩ => ⟨S66560x128, .f32⟩
  | .hbm, ⟨21, _⟩ => ⟨S66560x128, .f32⟩
  | .hbm, ⟨22, _⟩ => ⟨S66560x256, .f32⟩
  | .hbm, ⟨23, _⟩ => ⟨S66560x16, .f32⟩
  | .hbm, ⟨24, _⟩ => ⟨S66560x256, .f32⟩
  | .hbm, ⟨25, _⟩ => ⟨S66560x256, .f32⟩
  | .hbm, ⟨26, _⟩ => ⟨S66560x128, .f32⟩
  | .hbm, ⟨27, _⟩ => ⟨S66560x32, .f32⟩
  | .hbm, ⟨28, _⟩ => ⟨S66560x768, .f32⟩
  | .hbm, ⟨29, _⟩ => ⟨S66560x256, .f32⟩
  | .hbm, ⟨30, _⟩ => ⟨S66560x4, .f32⟩
  | .hbm, ⟨31, _⟩ => ⟨S66560x4, .f32⟩
  | .hbm, ⟨32, _⟩ => ⟨S66560x1056, .f32⟩
  | .hbm, ⟨33, _⟩ => ⟨S66560x4096, .f32⟩
  | .hbm, ⟨34, _⟩ => ⟨S_, .f32⟩
  | .hbm, ⟨35, _⟩ => ⟨S66560x112, .f32⟩
  | .hbm, ⟨36, _⟩ => ⟨S66560x896, .f32⟩
  | .hbm, ⟨37, _⟩ => ⟨S_, .f32⟩
  | .hbm, ⟨38, _⟩ => ⟨S66560x96, .f32⟩
  | .hbm, ⟨39, _⟩ => ⟨S66560x512, .f32⟩
  | .hbm, ⟨40, _⟩ => ⟨S_, .f32⟩
  | .hbm, ⟨41, _⟩ => ⟨S66560x120, .f32⟩
  | .hbm, ⟨42, _⟩ => ⟨S66560x1152, .f32⟩
  | .hbm, ⟨43, _⟩ => ⟨S_, .f32⟩
  | .hbm, ⟨44, _⟩ => ⟨S66560x96, .f32⟩
  | .hbm, ⟨45, _⟩ => ⟨S66560x1152, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Experts.lean ====
abbrev S268 : Shape := ⟨1, ![268]⟩
abbrev S137216x1024 : Shape := ⟨2, ![137216, 1024]⟩
abbrev S137216 : Shape := ⟨1, ![137216]⟩
abbrev S8x1024x3584 : Shape := ⟨3, ![8, 1024, 3584]⟩
abbrev S8x3584x1024 : Shape := ⟨3, ![8, 3584, 1024]⟩
abbrev S137216x1 : Shape := ⟨2, ![137216, 1]⟩
abbrev S512x1024 : Shape := ⟨2, ![512, 1024]⟩
abbrev S512x1 : Shape := ⟨2, ![512, 1]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 10
  | .vmem => 13
  | .smem => 1
  | _ => 0

abbrev bufTy : (tb : Table) → Fin (tcTables nBuf tb) → BufTy
  | .hbm, ⟨0, _⟩ => ⟨S137216x1024, .bf16⟩
  | .hbm, ⟨1, _⟩ => ⟨S137216, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S137216x1, .f32⟩
  | .hbm, ⟨6, _⟩ => ⟨S8x1024x3584, .bf16⟩
  | .hbm, ⟨7, _⟩ => ⟨S8x1024x3584, .bf16⟩
  | .hbm, ⟨8, _⟩ => ⟨S8x3584x1024, .bf16⟩
  | .hbm, ⟨9, _⟩ => ⟨S137216x1024, .f32⟩
  | .local _ .vmem, ⟨0, _⟩ => ⟨S512x1024, .bf16⟩
  | .local _ .vmem, ⟨1, _⟩ => ⟨S512x1024, .bf16⟩
  | .local _ .vmem, ⟨2, _⟩ => ⟨S512x1, .f32⟩
  | .local _ .vmem, ⟨3, _⟩ => ⟨S512x1, .f32⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1792x1024, .bf16⟩
  | .local _ .vmem, ⟨9, _⟩ => ⟨S1x1792x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .smem, ⟨0, _⟩ => ⟨S268, .i32⟩
  | _, _ => ⟨S137216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![268, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S268.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S268) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S268.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S268) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S268.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S268) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertsRefIdeal.lean ====
abbrev S268 : Shape := ⟨1, ![268]⟩
abbrev S137216x1024 : Shape := ⟨2, ![137216, 1024]⟩
abbrev S137216 : Shape := ⟨1, ![137216]⟩
abbrev S8x1024x3584 : Shape := ⟨3, ![8, 1024, 3584]⟩
abbrev S8x3584x1024 : Shape := ⟨3, ![8, 3584, 1024]⟩
abbrev S268x512x1024 : Shape := ⟨3, ![268, 512, 1024]⟩
abbrev S_ : Shape := ⟨0, ![]⟩
abbrev S268x1 : Shape := ⟨2, ![268, 1]⟩
abbrev S268x1024x3584 : Shape := ⟨3, ![268, 1024, 3584]⟩
abbrev S268x3584x1024 : Shape := ⟨3, ![268, 3584, 1024]⟩
abbrev S268x512x3584 : Shape := ⟨3, ![268, 512, 3584]⟩
abbrev S137216x1 : Shape := ⟨2, ![137216, 1]⟩

abbrev nBuf : Space → Nat
  | .hbm => 52
  | .vmem => 0
  | .smem => 0
  | _ => 0

abbrev bufTy : (tb : Table) → Fin (tcTables nBuf tb) → BufTy
  | .hbm, ⟨0, _⟩ => ⟨S268, .i32⟩
  | .hbm, ⟨1, _⟩ => ⟨S137216x1024, .bf16⟩
  | .hbm, ⟨2, _⟩ => ⟨S137216, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S137216x1024, .f32⟩
  | .hbm, ⟨7, _⟩ => ⟨S268x512x1024, .f32⟩
  | .hbm, ⟨8, _⟩ => ⟨S_, .i32⟩
  | .hbm, ⟨9, _⟩ => ⟨S268, .i32⟩
  | .hbm, ⟨10, _⟩ => ⟨S268, .i1⟩
  | .hbm, ⟨11, _⟩ => ⟨S_, .i32⟩
  | .hbm, ⟨12, _⟩ => ⟨S268, .i32⟩
  | .hbm, ⟨13, _⟩ => ⟨S268, .i32⟩
  | .hbm, ⟨14, _⟩ => ⟨S268, .i32⟩
  | .hbm, ⟨15, _⟩ => ⟨S268x1, .i32⟩
  | .hbm, ⟨16, _⟩ => ⟨S268x1024x3584, .f32⟩
  | .hbm, ⟨17, _⟩ => ⟨S_, .i32⟩
  | .hbm, ⟨18, _⟩ => ⟨S268, .i32⟩
  | .hbm, ⟨19, _⟩ => ⟨S268, .i1⟩
  | .hbm, ⟨20, _⟩ => ⟨S_, .i32⟩
  | .hbm, ⟨21, _⟩ => ⟨S268, .i32⟩
  | .hbm, ⟨22, _⟩ => ⟨S268, .i32⟩
  | .hbm, ⟨23, _⟩ => ⟨S268, .i32⟩
  | .hbm, ⟨24, _⟩ => ⟨S268x1, .i32⟩
  | .hbm, ⟨25, _⟩ => ⟨S268x1024x3584, .f32⟩
  | .hbm, ⟨26, _⟩ => ⟨S_, .i32⟩
  | .hbm, ⟨27, _⟩ => ⟨S268, .i32⟩
  | .hbm, ⟨28, _⟩ => ⟨S268, .i1⟩
  | .hbm, ⟨29, _⟩ => ⟨S_, .i32⟩
  | .hbm, ⟨30, _⟩ => ⟨S268, .i32⟩
  | .hbm, ⟨31, _⟩ => ⟨S268, .i32⟩
  | .hbm, ⟨32, _⟩ => ⟨S268, .i32⟩
  | .hbm, ⟨33, _⟩ => ⟨S268x1, .i32⟩
  | .hbm, ⟨34, _⟩ => ⟨S268x3584x1024, .f32⟩
  | .hbm, ⟨35, _⟩ => ⟨S268x512x3584, .f32⟩
  | .hbm, ⟨36, _⟩ => ⟨S268x512x3584, .f32⟩
  | .hbm, ⟨37, _⟩ => ⟨S268x512x3584, .f32⟩
  | .hbm, ⟨38, _⟩ => ⟨S_, .f32⟩
  | .hbm, ⟨39, _⟩ => ⟨S268x512x3584, .f32⟩
  | .hbm, ⟨40, _⟩ => ⟨S268x512x3584, .f32⟩
  | .hbm, ⟨41, _⟩ => ⟨S_, .f32⟩
  | .hbm, ⟨42, _⟩ => ⟨S268x512x3584, .f32⟩
  | .hbm, ⟨43, _⟩ => ⟨S268x512x3584, .f32⟩
  | .hbm, ⟨44, _⟩ => ⟨S268x512x3584, .f32⟩
  | .hbm, ⟨45, _⟩ => ⟨S268x512x3584, .f32⟩
  | .hbm, ⟨46, _⟩ => ⟨S268x512x3584, .f32⟩
  | .hbm, ⟨47, _⟩ => ⟨S268x512x1024, .f32⟩
  | .hbm, ⟨48, _⟩ => ⟨S137216x1024, .f32⟩
  | .hbm, ⟨49, _⟩ => ⟨S137216x1, .f32⟩
  | .hbm, ⟨50, _⟩ => ⟨S137216x1024, .f32⟩
  | .hbm, ⟨51, _⟩ => ⟨S137216x1024, .f32⟩
  | _, _ => ⟨S268, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Prep.lean ====
abbrev S8x8320x512 : Shape := ⟨3, ![8, 8320, 512]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩
abbrev S256x32 : Shape := ⟨2, ![256, 32]⟩
abbrev S256x64 : Shape := ⟨2, ![256, 64]⟩
abbrev S128x64 : Shape := ⟨2, ![128, 64]⟩
abbrev S256x96 : Shape := ⟨2, ![256, 96]⟩
abbrev S256x16 : Shape := ⟨2, ![256, 16]⟩
abbrev S128x128 : Shape := ⟨2, ![128, 128]⟩
abbrev S256x512 : Shape := ⟨2, ![256, 512]⟩
abbrev S1x256 : Shape := ⟨2, ![1, 256]⟩
abbrev S1x128 : Shape := ⟨2, ![1, 128]⟩
abbrev S8320 : Shape := ⟨1, ![8320]⟩
abbrev S16 : Shape := ⟨1, ![16]⟩
abbrev S8320x1 : Shape := ⟨2, ![8320, 1]⟩
abbrev S1x16 : Shape := ⟨2, ![1, 16]⟩
abbrev S8320x16 : Shape := ⟨2, ![8320, 16]⟩
abbrev S8320x64 : Shape := ⟨2, ![8320, 64]⟩
abbrev S8320x32 : Shape := ⟨2, ![8320, 32]⟩
abbrev S8320x128 : Shape := ⟨2, ![8320, 128]⟩
abbrev S1x640x512 : Shape := ⟨3, ![1, 640, 512]⟩
abbrev S640x128 : Shape := ⟨2, ![640, 128]⟩
abbrev S640x512 : Shape := ⟨2, ![640, 512]⟩
abbrev S640x256 : Shape := ⟨2, ![640, 256]⟩
abbrev S640 : Shape := ⟨1, ![640]⟩
abbrev S640x1 : Shape := ⟨2, ![640, 1]⟩
abbrev S1x512 : Shape := ⟨2, ![1, 512]⟩
abbrev S1x640x128 : Shape := ⟨3, ![1, 640, 128]⟩

abbrev nBuf : Space → Nat
  | .hbm => 122
  | .vmem => 20
  | .smem => 0
  | _ => 0

abbrev bufTy : (tb : Table) → Fin (tcTables nBuf tb) → BufTy
  | .hbm, ⟨0, _⟩ => ⟨S8x8320x512, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S_, .f32⟩
  | .hbm, ⟨6, _⟩ => ⟨S256x32, .f32⟩
  | .hbm, ⟨7, _⟩ => ⟨S_, .f32⟩
  | .hbm, ⟨8, _⟩ => ⟨S256x64, .f32⟩
  | .hbm, ⟨9, _⟩ => ⟨S_, .f32⟩
  | .hbm, ⟨10, _⟩ => ⟨S128x64, .f32⟩
  | .hbm, ⟨11, _⟩ => ⟨S256x96, .f32⟩
  | .hbm, ⟨12, _⟩ => ⟨S_, .f32⟩
  | .hbm, ⟨13, _⟩ => ⟨S256x96, .f32⟩
  | .hbm, ⟨14, _⟩ => ⟨S256x96, .f32⟩
  | .hbm, ⟨15, _⟩ => ⟨S256x64, .f32⟩
  | .hbm, ⟨16, _⟩ => ⟨S256x16, .f32⟩
  | .hbm, ⟨17, _⟩ => ⟨S256x16, .f32⟩
  | .hbm, ⟨18, _⟩ => ⟨S128x128, .f32⟩
  | .hbm, ⟨19, _⟩ => ⟨S128x64, .f32⟩
  | .hbm, ⟨20, _⟩ => ⟨S128x64, .f32⟩
  | .hbm, ⟨21, _⟩ => ⟨S256x96, .f32⟩
  | .hbm, ⟨22, _⟩ => ⟨S_, .f32⟩
  | .hbm, ⟨23, _⟩ => ⟨S256x96, .f32⟩
  | .hbm, ⟨24, _⟩ => ⟨S256x96, .f32⟩
  | .hbm, ⟨25, _⟩ => ⟨S256x64, .f32⟩
  | .hbm, ⟨26, _⟩ => ⟨S256x16, .f32⟩
  | .hbm, ⟨27, _⟩ => ⟨S256x16, .f32⟩
  | .hbm, ⟨28, _⟩ => ⟨S128x128, .f32⟩
  | .hbm, ⟨29, _⟩ => ⟨S128x64, .f32⟩
  | .hbm, ⟨30, _⟩ => ⟨S128x64, .f32⟩
  | .hbm, ⟨31, _⟩ => ⟨S256x96, .f32⟩
  | .hbm, ⟨32, _⟩ => ⟨S_, .f32⟩
  | .hbm, ⟨33, _⟩ => ⟨S256x96, .f32⟩
  | .hbm, ⟨34, _⟩ => ⟨S256x96, .f32⟩
  | .hbm, ⟨35, _⟩ => ⟨S256x64, .f32⟩
  | .hbm, ⟨36, _⟩ => ⟨S256x16, .f32⟩
  | .hbm, ⟨37, _⟩ => ⟨S256x16, .f32⟩
  | .hbm, ⟨38, _⟩ => ⟨S128x128, .f32⟩
  | .hbm, ⟨39, _⟩ => ⟨S128x64, .f32⟩
  | .hbm, ⟨40, _⟩ => ⟨S128x64, .f32⟩
  | .hbm, ⟨41, _⟩ => ⟨S256x96, .f32⟩
  | .hbm, ⟨42, _⟩ => ⟨S_, .f32⟩
  | .hbm, ⟨43, _⟩ => ⟨S256x96, .f32⟩
  | .hbm, ⟨44, _⟩ => ⟨S256x96, .f32⟩
  | .hbm, ⟨45, _⟩ => ⟨S256x64, .f32⟩
  | .hbm, ⟨46, _⟩ => ⟨S256x16, .f32⟩
  | .hbm, ⟨47, _⟩ => ⟨S256x16, .f32⟩
  | .hbm, ⟨48, _⟩ => ⟨S128x128, .f32⟩
  | .hbm, ⟨49, _⟩ => ⟨S128x64, .f32⟩
  | .hbm, ⟨50, _⟩ => ⟨S128x64, .f32⟩
  | .hbm, ⟨51, _⟩ => ⟨S128x128, .i32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i1⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S128x128, .i1⟩
  | .hbm, ⟨61, _⟩ => ⟨S_, .i32⟩
  | .hbm, ⟨62, _⟩ => ⟨S128x128, .i32⟩
  | .hbm, ⟨63, _⟩ => ⟨S128x128, .i1⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S128x128, .i1⟩
  | .hbm, ⟨75, _⟩ => ⟨S256x512, .f32⟩
  | .hbm, ⟨76, _⟩ => ⟨S256x512, .bf16⟩
  | .hbm, ⟨77, _⟩ => ⟨S256x512, .f32⟩
  | .hbm, ⟨78, _⟩ => ⟨S256x512, .bf16⟩
  | .hbm, ⟨79, _⟩ => ⟨S128x512, .f32⟩
  | .hbm, ⟨80, _⟩ => ⟨S128x512, .bf16⟩
  | .hbm, ⟨81, _⟩ => ⟨S128x512, .f32⟩
  | .hbm, ⟨82, _⟩ => ⟨S128x512, .bf16⟩
  | .hbm, ⟨83, _⟩ => ⟨S128x128, .bf16⟩
  | .hbm, ⟨84, _⟩ => ⟨S128x128, .bf16⟩
  | .hbm, ⟨85, _⟩ => ⟨S1x256, .f32⟩
  | .hbm, ⟨86, _⟩ => ⟨S1x128, .f32⟩
  | .hbm, ⟨87, _⟩ => ⟨S8320, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S16, .f32⟩
  | .hbm, ⟨96, _⟩ => ⟨S_, .f32⟩
  | .hbm, ⟨97, _⟩ => ⟨S16, .f32⟩
  | .hbm, ⟨98, _⟩ => ⟨S16, .f32⟩
  | .hbm, ⟨99, _⟩ => ⟨S_, .f32⟩
  | .hbm, ⟨100, _⟩ => ⟨S16, .f32⟩
  | .hbm, ⟨101, _⟩ => ⟨S16, .f32⟩
  | .hbm, ⟨102, _⟩ => ⟨S8320x1, .f32⟩
  | .hbm, ⟨103, _⟩ => ⟨S1x16, .f32⟩
  | .hbm, ⟨104, _⟩ => ⟨S8320x16, .f32⟩
  | .hbm, ⟨105, _⟩ => ⟨S8320x16, .f32⟩
  | .hbm, ⟨106, _⟩ => ⟨S8320x16, .f32⟩
  | .hbm, ⟨107, _⟩ => ⟨S8320x16, .f32⟩
  | .hbm, ⟨108, _⟩ => ⟨S8320x16, .f32⟩
  | .hbm, ⟨109, _⟩ => ⟨S_, .f32⟩
  | .hbm, ⟨110, _⟩ => ⟨S8320x64, .f32⟩
  | .hbm, ⟨111, _⟩ => ⟨S_, .f32⟩
  | .hbm, ⟨112, _⟩ => ⟨S8320x32, .f32⟩
  | .hbm, ⟨113, _⟩ => ⟨S8320x128, .f32⟩
  | .hbm, ⟨114, _⟩ => ⟨S_, .f32⟩
  | .hbm, ⟨115, _⟩ => ⟨S8320x64, .f32⟩
  | .hbm, ⟨116, _⟩ => ⟨S8320x64, .f32⟩
  | .hbm, ⟨117, _⟩ => ⟨S8320x16, .f32⟩
  | .hbm, ⟨118, _⟩ => ⟨S8320x128, .f32⟩
  | .hbm, ⟨119, _⟩ => ⟨S8x8320x512, .bf16⟩
  | .hbm, ⟨120, _⟩ => ⟨S8x8320x512, .bf16⟩
  | .hbm, ⟨121, _⟩ => ⟨S8x8320x512, .bf16⟩
  | .local _ .vmem, ⟨0, _⟩ => ⟨S1x640x512, .f32⟩
  | .local _ .vmem, ⟨1, _⟩ => ⟨S1x640x512, .f32⟩
  | .local _ .vmem, ⟨2, _⟩ => ⟨S1x256, .f32⟩
  | .local _ .vmem, ⟨3, _⟩ => ⟨S1x128, .f32⟩
  | .local _ .vmem, ⟨4, _⟩ => ⟨S256x512, .bf16⟩
  | .local _ .vmem, ⟨5, _⟩ => ⟨S256x512, .bf16⟩
  | .local _ .vmem, ⟨6, _⟩ => ⟨S128x512, .bf16⟩
  | .local _ .vmem, ⟨7, _⟩ => ⟨S128x512, .bf16⟩
  | .local _ .vmem, ⟨8, _⟩ => ⟨S128x128, .bf16⟩
  | .local _ .vmem, ⟨9, _⟩ => ⟨S128x128, .bf16⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S640x128, .f32⟩
  | .local _ .vmem, ⟨14, _⟩ => ⟨S1x640x512, .bf16⟩
  | .local _ .vmem, ⟨15, _⟩ => ⟨S1x640x512, .bf16⟩
  | .local _ .vmem, ⟨16, _⟩ => ⟨S1x640x512, .bf16⟩
  | .local _ .vmem, ⟨17, _⟩ => ⟨S1x640x512, .bf16⟩
  | .local _ .vmem, ⟨18, _⟩ => ⟨S1x640x512, .bf16⟩
  | .local _ .vmem, ⟨19, _⟩ => ⟨S1x640x512, .bf16⟩
  | _, _ => ⟨S8x8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_v52 : Ref sig .tc := ⟨.hbm, 69, rfl⟩
abbrev main_c_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_15 : Ref sig .tc := ⟨.hbm, 109, rfl⟩
abbrev main_v87 : Ref sig .tc := ⟨.hbm, 110, rfl⟩
abbrev main_cst_16 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94_0 : Ref sig .tc := ⟨.hbm, 119, rfl⟩
abbrev main_v94_1 : Ref sig .tc := ⟨.hbm, 120, rfl⟩
abbrev main_v94_2 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S640x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x640x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x640x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepRefIdeal.lean ====
abbrev S8x8320x512 : Shape := ⟨3, ![8, 8320, 512]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8x8320x256 : Shape := ⟨3, ![8, 8320, 256]⟩
abbrev S8x8320x128 : Shape := ⟨3, ![8, 8320, 128]⟩
abbrev S8x8320x32 : Shape := ⟨3, ![8, 8320, 32]⟩
abbrev S_ : Shape := ⟨0, ![]⟩
abbrev S8x8320 : Shape := ⟨2, ![8, 8320]⟩
abbrev S8x8320x1 : Shape := ⟨3, ![8, 8320, 1]⟩
abbrev S1x1x256 : Shape := ⟨3, ![1, 1, 256]⟩
abbrev S8x8320x384 : Shape := ⟨3, ![8, 8320, 384]⟩
abbrev S8x8320x4x96 : Shape := ⟨4, ![8, 8320, 4, 96]⟩
abbrev S1x1x128 : Shape := ⟨3, ![1, 1, 128]⟩
abbrev S8x8320x4x128 : Shape := ⟨4, ![8, 8320, 4, 128]⟩
abbrev S8320 : Shape := ⟨1, ![8320]⟩
abbrev S16 : Shape := ⟨1, ![16]⟩
abbrev S8320x1 : Shape := ⟨2, ![8320, 1]⟩
abbrev S1x16 : Shape := ⟨2, ![1, 16]⟩
abbrev S8320x16 : Shape := ⟨2, ![8320, 16]⟩
abbrev S8x8320x4x32 : Shape := ⟨4, ![8, 8320, 4, 32]⟩
abbrev S8320x1x16 : Shape := ⟨3, ![8320, 1, 16]⟩
abbrev S8x8320x4x16 : Shape := ⟨4, ![8, 8320, 4, 16]⟩
abbrev S1x8320x1x16 : Shape := ⟨4, ![1, 8320, 1, 16]⟩
abbrev S8x8320x16 : Shape := ⟨3, ![8, 8320, 16]⟩
abbrev S1x8320x16 : Shape := ⟨3, ![1, 8320, 16]⟩
abbrev S8x8320x1x32 : Shape := ⟨4, ![8, 8320, 1, 32]⟩
abbrev S8x8320x4x64 : Shape := ⟨4, ![8, 8320, 4, 64]⟩
abbrev S8x8320x4x1 : Shape := ⟨4, ![8, 8320, 4, 1]⟩
abbrev S8x8320x4x63 : Shape := ⟨4, ![8, 8320, 4, 63]⟩

abbrev nBuf : Space → Nat
  | .hbm => 128
  | .vmem => 0
  | .smem => 0
  | _ => 0

abbrev bufTy : (tb : Table) → Fin (tcTables nBuf tb) → BufTy
  | .hbm, ⟨0, _⟩ => ⟨S8x8320x512, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S8x8320x256, .f32⟩
  | .hbm, ⟨6, _⟩ => ⟨S8x8320x128, .f32⟩
  | .hbm, ⟨7, _⟩ => ⟨S8x8320x32, .f32⟩
  | .hbm, ⟨8, _⟩ => ⟨S8x8320x256, .f32⟩
  | .hbm, ⟨9, _⟩ => ⟨S_, .f32⟩
  | .hbm, ⟨10, _⟩ => ⟨S8x8320, .f32⟩
  | .hbm, ⟨11, _⟩ => ⟨S8x8320x1, .f32⟩
  | .hbm, ⟨12, _⟩ => ⟨S_, .f32⟩
  | .hbm, ⟨13, _⟩ => ⟨S8x8320x1, .f32⟩
  | .hbm, ⟨14, _⟩ => ⟨S8x8320x1, .f32⟩
  | .hbm, ⟨15, _⟩ => ⟨S_, .f32⟩
  | .hbm, ⟨16, _⟩ => ⟨S8x8320x1, .f32⟩
  | .hbm, ⟨17, _⟩ => ⟨S8x8320x1, .f32⟩
  | .hbm, ⟨18, _⟩ => ⟨S8x8320x1, .f32⟩
  | .hbm, ⟨19, _⟩ => ⟨S8x8320x256, .f32⟩
  | .hbm, ⟨20, _⟩ => ⟨S8x8320x256, .f32⟩
  | .hbm, ⟨21, _⟩ => ⟨S1x1x256, .f32⟩
  | .hbm, ⟨22, _⟩ => ⟨S8x8320x256, .f32⟩
  | .hbm, ⟨23, _⟩ => ⟨S8x8320x256, .f32⟩
  | .hbm, ⟨24, _⟩ => ⟨S8x8320x384, .f32⟩
  | .hbm, ⟨25, _⟩ => ⟨S8x8320x4x96, .f32⟩
  | .hbm, ⟨26, _⟩ => ⟨S8x8320x128, .f32⟩
  | .hbm, ⟨27, _⟩ => ⟨S_, .f32⟩
  | .hbm, ⟨28, _⟩ => ⟨S8x8320, .f32⟩
  | .hbm, ⟨29, _⟩ => ⟨S8x8320x1, .f32⟩
  | .hbm, ⟨30, _⟩ => ⟨S_, .f32⟩
  | .hbm, ⟨31, _⟩ => ⟨S8x8320x1, .f32⟩
  | .hbm, ⟨32, _⟩ => ⟨S8x8320x1, .f32⟩
  | .hbm, ⟨33, _⟩ => ⟨S_, .f32⟩
  | .hbm, ⟨34, _⟩ => ⟨S8x8320x1, .f32⟩
  | .hbm, ⟨35, _⟩ => ⟨S8x8320x1, .f32⟩
  | .hbm, ⟨36, _⟩ => ⟨S8x8320x1, .f32⟩
  | .hbm, ⟨37, _⟩ => ⟨S8x8320x128, .f32⟩
  | .hbm, ⟨38, _⟩ => ⟨S8x8320x128, .f32⟩
  | .hbm, ⟨39, _⟩ => ⟨S1x1x128, .f32⟩
  | .hbm, ⟨40, _⟩ => ⟨S8x8320x128, .f32⟩
  | .hbm, ⟨41, _⟩ => ⟨S8x8320x128, .f32⟩
  | .hbm, ⟨42, _⟩ => ⟨S8x8320x512, .f32⟩
  | .hbm, ⟨43, _⟩ => ⟨S8x8320x4x128, .f32⟩
  | .hbm, ⟨44, _⟩ => ⟨S_, .f32⟩
  | .hbm, ⟨45, _⟩ => ⟨S8x8320x4x96, .f32⟩
  | .hbm, ⟨46, _⟩ => ⟨S8x8320x4x96, .f32⟩
  | .hbm, ⟨47, _⟩ => ⟨S8320, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S8320x1, .f32⟩
  | .hbm, ⟨63, _⟩ => ⟨S1x16, .f32⟩
  | .hbm, ⟨64, _⟩ => ⟨S8320x16, .f32⟩
  | .hbm, ⟨65, _⟩ => ⟨S8320x16, .f32⟩
  | .hbm, ⟨66, _⟩ => ⟨S8320x16, .f32⟩
  | .hbm, ⟨67, _⟩ => ⟨S8320x16, .f32⟩
  | .hbm, ⟨68, _⟩ => ⟨S8320x16, .f32⟩
  | .hbm, ⟨69, _⟩ => ⟨S8x8320x4x32, .f32⟩
  | .hbm, ⟨70, _⟩ => ⟨S8320x1x16, .f32⟩
  | .hbm, ⟨71, _⟩ => ⟨S8320x1x16, .f32⟩
  | .hbm, ⟨72, _⟩ => ⟨S8x8320x4x16, .f32⟩
  | .hbm, ⟨73, _⟩ => ⟨S8x8320x4x16, .f32⟩
  | .hbm, ⟨74, _⟩ => ⟨S1x8320x1x16, .f32⟩
  | .hbm, ⟨75, _⟩ => ⟨S8x8320x4x16, .f32⟩
  | .hbm, ⟨76, _⟩ => ⟨S8x8320x4x16, .f32⟩
  | .hbm, ⟨77, _⟩ => ⟨S1x8320x1x16, .f32⟩
  | .hbm, ⟨78, _⟩ => ⟨S8x8320x4x16, .f32⟩
  | .hbm, ⟨79, _⟩ => ⟨S8x8320x4x16, .f32⟩
  | .hbm, ⟨80, _⟩ => ⟨S8x8320x4x16, .f32⟩
  | .hbm, ⟨81, _⟩ => ⟨S1x8320x1x16, .f32⟩
  | .hbm, ⟨82, _⟩ => ⟨S8x8320x4x16, .f32⟩
  | .hbm, ⟨83, _⟩ => ⟨S8x8320x4x16, .f32⟩
  | .hbm, ⟨84, _⟩ => ⟨S1x8320x1x16, .f32⟩
  | .hbm, ⟨85, _⟩ => ⟨S8x8320x4x16, .f32⟩
  | .hbm, ⟨86, _⟩ => ⟨S8x8320x4x16, .f32⟩
  | .hbm, ⟨87, _⟩ => ⟨S8x8320x4x16, .f32⟩
  | .hbm, ⟨88, _⟩ => ⟨S8x8320x4x32, .f32⟩
  | .hbm, ⟨89, _⟩ => ⟨S8x8320x16, .f32⟩
  | .hbm, ⟨90, _⟩ => ⟨S8x8320x16, .f32⟩
  | .hbm, ⟨91, _⟩ => ⟨S1x8320x16, .f32⟩
  | .hbm, ⟨92, _⟩ => ⟨S8x8320x16, .f32⟩
  | .hbm, ⟨93, _⟩ => ⟨S8x8320x16, .f32⟩
  | .hbm, ⟨94, _⟩ => ⟨S1x8320x16, .f32⟩
  | .hbm, ⟨95, _⟩ => ⟨S8x8320x16, .f32⟩
  | .hbm, ⟨96, _⟩ => ⟨S8x8320x16, .f32⟩
  | .hbm, ⟨97, _⟩ => ⟨S8x8320x16, .f32⟩
  | .hbm, ⟨98, _⟩ => ⟨S1x8320x16, .f32⟩
  | .hbm, ⟨99, _⟩ => ⟨S8x8320x16, .f32⟩
  | .hbm, ⟨100, _⟩ => ⟨S8x8320x16, .f32⟩
  | .hbm, ⟨101, _⟩ => ⟨S1x8320x16, .f32⟩
  | .hbm, ⟨102, _⟩ => ⟨S8x8320x16, .f32⟩
  | .hbm, ⟨103, _⟩ => ⟨S8x8320x16, .f32⟩
  | .hbm, ⟨104, _⟩ => ⟨S8x8320x16, .f32⟩
  | .hbm, ⟨105, _⟩ => ⟨S8x8320x32, .f32⟩
  | .hbm, ⟨106, _⟩ => ⟨S8x8320x1x32, .f32⟩
  | .hbm, ⟨107, _⟩ => ⟨S8x8320x4x32, .f32⟩
  | .hbm, ⟨108, _⟩ => ⟨S8x8320x4x64, .f32⟩
  | .hbm, ⟨109, _⟩ => ⟨S_, .f32⟩
  | .hbm, ⟨110, _⟩ => ⟨S8x8320x4x32, .f32⟩
  | .hbm, ⟨111, _⟩ => ⟨S8x8320x4x128, .f32⟩
  | .hbm, ⟨112, _⟩ => ⟨S8x8320x512, .f32⟩
  | .hbm, ⟨113, _⟩ => ⟨S8x8320x512, .bf16⟩
  | .hbm, ⟨114, _⟩ => ⟨S8x8320x4x64, .f32⟩
  | .hbm, ⟨115, _⟩ => ⟨S_, .f32⟩
  | .hbm, ⟨116, _⟩ => ⟨S8x8320x4x32, .f32⟩
  | .hbm, ⟨117, _⟩ => ⟨S8x8320x4x128, .f32⟩
  | .hbm, ⟨118, _⟩ => ⟨S8x8320x512, .f32⟩
  | .hbm, ⟨119, _⟩ => ⟨S8x8320x512, .bf16⟩
  | .hbm, ⟨120, _⟩ => ⟨S8x8320x4x64, .f32⟩
  | .hbm, ⟨121, _⟩ => ⟨S_, .f32⟩
  | .hbm, ⟨122, _⟩ => ⟨S8x8320x4x1, .f32⟩
  | .hbm, ⟨123, _⟩ => ⟨S_, .f32⟩
  | .hbm, ⟨124, _⟩ => ⟨S8x8320x4x63, .f32⟩
  | .hbm, ⟨125, _⟩ => ⟨S8x8320x4x128, .f32⟩
  | .hbm, ⟨126, _⟩ => ⟨S8x8320x512, .f32⟩
  | .hbm, ⟨127, _⟩ => ⟨S8x8320x512, .bf16⟩
  | _, _ => ⟨S8x8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_10 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_11 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_12 : Ref sig .tc := ⟨.hbm, 121, rfl⟩
abbrev main_v103 : Ref sig .tc := ⟨.hbm, 122, rfl⟩
abbrev main_cst_13 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩

abbrev nD : Nat := 1
abbrev τ : Topo := Topo.v7x

variable {F : FTy → Type} [FloatOps F]
-- ==== Combine.lean ====
abbrev S66560x1024 : Shape := ⟨2, ![66560, 1024]⟩
abbrev S133120x1024 : Shape := ⟨2, ![133120, 1024]⟩
abbrev S1024x1024 : Shape := ⟨2, ![1024, 1024]⟩

abbrev nBuf : Space → Nat
  | .hbm => 3
  | .vmem => 8
  | .smem => 0
  | _ => 0

abbrev bufTy : (tb : Table) → Fin (tcTables nBuf tb) → BufTy
  | .hbm, ⟨0, _⟩ => ⟨S66560x1024, .f32⟩
  | .hbm, ⟨1, _⟩ => ⟨S133120x1024, .f32⟩
  | .hbm, ⟨2, _⟩ => ⟨S66560x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c65_i32 : BitVec 32 := 65#32
  let v0 : BitVec 32 := Scalar.addi arg0 c65_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S66560x1024 : Shape := ⟨2, ![66560, 1024]⟩
abbrev S133120x1024 : Shape := ⟨2, ![133120, 1024]⟩

abbrev nBuf : Space → Nat
  | .hbm => 6
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S133120x1024, .f32⟩
  | .hbm, ⟨2, _⟩ => ⟨S66560x1024, .f32⟩
  | .hbm, ⟨3, _⟩ => ⟨S66560x1024, .f32⟩
  | .hbm, ⟨4, _⟩ => ⟨S66560x1024, .f32⟩
  | .hbm, ⟨5, _⟩ => ⟨S66560x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.FinalValue.lean ====
/- The value of `FinalIdeal`: its result array is the reference's term of the argument arrays. -/
module

public import proofs.«01_k».proof.Proof.Gen.FinalIdeal.Frame
public import proofs.«01_k».proof.Proof.Gen.FinalRefIdeal.Run
public import Idealize.ShloMosaic.Lib.Pipeline.ValueKit

@[expose] public section

set_option maxRecDepth 16384

noncomputable section

namespace Cert.FinalIdeal.Whole

open Cert.FinalIdeal Cert.FinalIdeal.Gen Idealize.ShloMosaic Idealize.ShloMosaic.TcCoe Idealize.SL.Sem
open Idealize.ShloMosaic.Pipeline (Dat)

variable (m : (ℓ : Loc nD τ sig) → Buf (Elt Ideal) ℓ)

/-- The residual stream with the two routed rows of each token added, by batch and position. -/
abbrev STREAM (H : FVec Ideal S66560x1024 .f32) (Y : FVec Ideal S133120x1024 .f32) : FVec Ideal Cert.FinalRefIdeal.S8x8320x1024 .f32 :=
  shapeCast _ (addf H (addf (extractStridedSlice Cert.FinalRefIdeal.S66560x1024 ![0, 0] Y Cert.FinalRefIdeal.Gen.slices_S133120x1024_S66560x1024_0_0)
    (extractStridedSlice Cert.FinalRefIdeal.S66560x1024 ![66560, 0] Y Cert.FinalRefIdeal.Gen.slices_S133120x1024_S66560x1024_66560_0)))
    Cert.FinalRefIdeal.Gen.shapeCasts_S66560x1024_S8x8320x1024

/-- The reference's term: the root-mean-square norm of the stream's rows, the meta tokens' rows dropped. -/
abbrev REF (H : FVec Ideal S66560x1024 .f32) (Y : FVec Ideal S133120x1024 .f32) (W : FVec Ideal S1024 .f32) : FVec Ideal S8x8192x1024 .f32 :=
  extractStridedSlice Cert.FinalRefIdeal.S8x8192x1024 ![0, 16, 0] (mulf (mulf (STREAM H Y)
    (broadcastInDim Cert.FinalRefIdeal.S8x8320x1024 ![0, 1, 2] Cert.FinalRefIdeal.Gen.bcast_S8x8320x1_S8x8320x1024_0_1_2
      (Host.rsqrt (addf (Host.divf (broadcastInDim Cert.FinalRefIdeal.S8x8320x1 ![0, 1] Cert.FinalRefIdeal.Gen.bcast_S8x8320_S8x8320x1_0_1
        (Host.reduceAdd (mulf (STREAM H Y) (STREAM H Y)) (constant Cert.FinalRefIdeal.S_ .f32 0x00000000#32)
          Cert.FinalRefIdeal.Gen.reducesTo_S8x8320x1024_S8x8320_d2 Cert.FinalRefIdeal.Gen.h_S_))
        (broadcastInDim Cert.FinalRefIdeal.S8x8320x1 ![] Cert.FinalRefIdeal.Gen.bcast_S_S8x8320x1 (constant Cert.FinalRefIdeal.S_ .f32 0x44800000#32)))
        (broadcastInDim Cert.FinalRefIdeal.S8x8320x1 ![] Cert.FinalRefIdeal.Gen.bcast_S_S8x8320x1 (constant Cert.FinalRefIdeal.S_ .f32 0x358637BD#32))))))
    (broadcastInDim Cert.FinalRefIdeal.S8x8320x1024 ![0, 1, 2] Cert.FinalRefIdeal.Gen.bcast_S1x1x1024_S8x8320x1024_0_1_2
      (broadcastInDim Cert.FinalRefIdeal.S1x1x1024 ![2] Cert.FinalRefIdeal.Gen.bcast_S1024_S1x1x1024_2 W)))
    Cert.FinalRefIdeal.Gen.slices_S8x8320x1024_S8x8192x1024_0_16_0

/-- Where each window stands at a point: the three element windows by the element at which they begin. -/
theorem idx : ∀ t : Fin cfg0.N, win0_0.index t = ![0, 0]
    ∧ win0_1.index t = ![t.val / 8 * 8320 + 16 + t.val % 8 * 1024, 0]
    ∧ win0_2.index t = ![t.val / 8 * 8320 + 16 + t.val % 8 * 1024, 0]
    ∧ win0_3.index t = ![66560 + (t.val / 8 * 8320 + 16 + t.val % 8 * 1024), 0]
    ∧ win0_4.index t = ![t.val / 8, t.val % 8, 0] :=
  (by decide +kernel : ∀ t : Fin grid0.N, _)

/-- The row of the padded stream at which the blocks of point `t` begin. -/
abbrev row0 (t : Fin cfg0.N) : Nat := t.val / 8 * 8320 + 16 + t.val % 8 * 1024

theorem row0_lt (t : Fin cfg0.N) (a : Fin 1024) : row0 t + a.val < 66560 := by
  have h : t.val < 64 := t.isLt
  have ha := a.isLt
  unfold row0
  omega

/-- Window 1's block at a point is 1024 rows of the residual stream. -/
theorem read1 (c : Dev nD) (t : Fin cfg0.N) (a b : Fin 1024) : iblk m c 1 t (ix2 a b)
    = m ((c : Thread nD τ).loc main_arg0) (ix2 ⟨row0 t + a.val, row0_lt t a⟩ b) := by
  unfold iblk
  refine (congrFun (V_main_arg0 m c) _).trans (congrArg _ (funext fun d => Fin.ext ?_))
  refine (win0_1.rect_emb_val_off t (ix2 a b) d).trans ?_
  rw [(idx t).2.1]
  match d with
  | ⟨0, _⟩ => rfl
  | ⟨1, _⟩ => exact Nat.zero_add _

/-- Window 2's block at a point is the same rows of the first half of the gathered rows. -/
theorem read2 (c : Dev nD) (t : Fin cfg0.N) (a b : Fin 1024) : iblk m c 2 t (ix2 a b)
    = m ((c : Thread nD τ).loc main_arg1) (ix2 ⟨row0 t + a.val, (row0_lt t a).trans (by decide)⟩ b) := by
  unfold iblk
  refine (congrFun (V_main_arg1 m c) _).trans (congrArg _ (funext fun d => Fin.ext ?_))
  refine (win0_2.rect_emb_val_off t (ix2 a b) d).trans ?_
  rw [(idx t).2.2.1]
  match d with
  | ⟨0, _⟩ => rfl
  | ⟨1, _⟩ => exact Nat.zero_add _

/-- Window 3's block at a point is the same rows of the second half of the gathered rows. -/
theorem read3 (c : Dev nD) (t : Fin cfg0.N) (a b : Fin 1024) : iblk m c 3 t (ix2 a b)
    = m ((c : Thread nD τ).loc main_arg1) (ix2 ⟨66560 + (row0 t + a.val), by have := row0_lt t a; omega⟩ b) := by
  unfold iblk
  refine (congrFun (V_main_arg1 m c) _).trans (congrArg _ (funext fun d => Fin.ext ?_))
  refine (win0_3.rect_emb_val_off t (ix2 a b) d).trans ?_
  rw [(idx t).2.2.2.1]
  match d with
  | ⟨0, _⟩ => exact Nat.add_assoc _ _ _
  | ⟨1, _⟩ => exact Nat.zero_add _

/-- Where an element of the output's block at a point sits in the result array. -/
theorem emb4 (t : Fin cfg0.N) (y : S1x1024x1024.Idx) : ((cfg0.win 4).blk t).view.emb y
    = ix3 (⟨t.val / 8, by have h : t.val < 64 := t.isLt; omega⟩ : Fin 8)
        (⟨t.val % 8 * 1024 + (y 1).val, by have h : (y 1).val < 1024 := (y 1).isLt; omega⟩ : Fin 8192) (y 2 : Fin 1024) := by
  blk_ext [idx t]

/-- What the body stores at index `y` of point `t`'s block is the reference's term at the array index under it. -/
theorem point (c : Dev nD) (t : Fin cfg0.N) (y) : k0_pay1 (iblk m c 1 t) (iblk m c 2 t) (iblk m c 3 t) (iblk m c 0 t) y
    = REF (m ((c : Thread nD τ).loc main_arg0)) (m ((c : Thread nD τ).loc main_arg1)) (m ((c : Thread nD τ).loc main_arg2))
        (((cfg0.win 4).blk t).view.emb y) := by
  rw [emb4]
  idx_vars y
  pointwise [k0_pay1, REF, STREAM]
  simp only [read1, read2, read3, add_assoc]
  blk_point [iblk, V, idx t]

/-- The result array after the run is the reference's term. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.FinalIdeal.Whole

end
-- ==== Proof.FinalClaims.lean ====
module

public import proofs.«01_k».proof.Defs
public import proofs.«01_k».proof.Proof.Gen.Final.Frame
public import proofs.«01_k».proof.Proof.Gen.FinalIdeal.Frame
public import proofs.«01_k».proof.Proof.Gen.FinalIdeal.Value
public import proofs.«01_k».proof.Proof.Gen.FinalRefIdeal.Run
public import proofs.«01_k».proof.Proof.FinalValue
public import Idealize.ShloMosaic.Lib.Quiescent

/-! # The claims about the last layer's combine

The two runs of the kernel are the generated ones; the reference is a host program, whose run is generated too, and which
has no semaphore. The value of the kernel's result is the theorem of `FinalValue`. -/

@[expose] public section

noncomputable section

namespace Cert.FinalClaims

open Idealize.ShloMosaic Idealize.SL.Sem

/-- The kernel runs to its end, keeps its arguments and leaves every semaphore at zero. -/
theorem frame_kernel : Cert.quiescent_Final (hFinal := Cert.Final.Gen.facts) :=
  fun m ρ _ => Cert.Final.Gen.frame m ρ

/-- The same of the kernel over the extended reals. -/
theorem frame_ideal : Cert.quiescent_FinalIdeal (hFinalIdeal := Cert.FinalIdeal.Gen.facts) :=
  fun m ρ _ => Cert.FinalIdeal.Gen.frame m ρ

/-- The same of the reference over the extended reals. -/
theorem frame_reference : Cert.quiescent_FinalRefIdeal (hFinalRefIdeal := Cert.FinalRefIdeal.Gen.facts) :=
  fun m ρ _ => (θ_run Cert.FinalRefIdeal.defs _ _).mono
    (fun r h => ⟨fun c => ⟨(h c).2.1, (h c).2.2.1, (h c).2.2.2⟩,
      sem_eq_zero_of_no_sems (by decide) r.2⟩)
    (Cert.FinalRefIdeal.Value.run (F := Ideal) m ρ)

/-- Over the extended reals the kernel's result is the reference's. -/
theorem value : Cert.algebraic_FinalIdeal_FinalRefIdeal (hFinalIdeal := Cert.FinalIdeal.Gen.facts)
    (hFinalRefIdeal := Cert.FinalRefIdeal.Gen.facts) := by
  intro m ρ m' ρ' _ hagree
  refine ⟨fun c => (Cert.FinalIdeal.Gen.dats m 0 c).arrAt 4 (Cert.FinalIdeal.cfgs 0).N,
    Cert.FinalIdeal.Value.run_blocks (F := Ideal) m ρ, ?_⟩
  refine (θ_run Cert.FinalRefIdeal.defs _ _).mono (fun r h c => ⟨((h c).1).trans ?_, (h c).2.1, (h c).2.2.1, (h c).2.2.2⟩)
    (Cert.FinalRefIdeal.Value.run (F := Ideal) m' ρ')
  · refine Eq.trans ?_ (Cert.FinalIdeal.Whole.final m c).symm
    rw [← (hagree c).1, ← (hagree c).2.1, ← (hagree c).2.2] <;> rfl

end Cert.FinalClaims

end
-- ==== Proof.GatherRun.lean ====
/-
  The SparseCore gather of expert rows: thirty-two tasks, one per vector subcore of the two SparseCores, each bringing
  in 65 chunks of 64 rows of the table. A trip of a task's loop fetches the chunk's 64 row numbers, gathers the rows it
  names in eight column blocks of 128, and writes the 64 gathered rows to its chunk of the output. What the run leaves
  is stated at every element: row `r` of the output is row `idx[r]` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Routing.Ops
public import Idealize.ShloMosaic.Lib.Pipeline.ValueKit
public import proofs.«01_k».proof.Proof.Gen.Gather
public import proofs.«01_k».proof.Proof.Gen.Gather.Skeleton

@[expose] public section

noncomputable section

namespace Cert.GatherRun

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers, the chunks of the output, the shares of what is read -/

variable (m : (ℓ : Loc nD τ sig) → Buf (Elt F) ℓ) (ρ : Dev nD → PrngReg)

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

abbrev xV : Memref sig .scVector .hbm S137216x1024 .f32 := Memref.whole main_arg0_scv
abbrev iV : Memref sig .scVector .hbm S133120 .i32 := Memref.whole main_arg1_scv
abbrev oV : Memref sig .scVector .hbm S133120x1024 .f32 := Memref.whole main_v0_scv
abbrev sV : Memref sig .scVector .vmem S64 .i32 := Memref.whole cc0_scratch0
abbrev rV : Memref sig .scVector .vmem S64x1024 .f32 := Memref.whole cc0_scratch1

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

abbrev oChunkK (L : grid0.Coords) (k : Fin k0_t1_loop.trips) : Memref sig .scVector .hbm S64x1024 .f32 :=
  (oV).slice (Rect.unit (s := S133120x1024) (k0_off2 L k) S64x1024.size (k0_off2_inb L k)) (fun _ => rfl)

variable [FloatOps F]

def PreOK : Prop := ∀ (d : Dev nD) (j : S133120.Idx), (m (iLoc d) j).toNat < 137216

/-- Chunk `k`'s 64 row numbers, as the fetch reads them. -/
abbrev idxRead (d : Dev nD) (L : grid0.Coords) (k : Fin k0_t1_loop.trips) : S64.Idx → Elt F .i32 :=
  ((iV).slice (Rect.unit (s := S133120) (k0_off1 L k) S64.size (k0_off1_inb L k)) (fun _ => rfl)).view.read (Elt F) (m (iLoc d))

theorem idxRead_lt (d : Dev nD) (L : grid0.Coords) (k : Fin k0_t1_loop.trips) (hpre : PreOK m) (x : S64.Idx) :
    (idxRead m d L k x).toNat < 137216 := by
  unfold idxRead
  rw [View.read_apply, cast_eq]
  exact hpre d _

theorem list_inb (d : Dev nD) (L : grid0.Coords) (k : Fin k0_t1_loop.trips) (hpre : PreOK m)
    (fs : Buf (Elt F) ((sV).view.loc (VT d L))) (pay : S64.Idx → Elt F .i32) (hpay : pay = idxRead m d L k) :
    ∀ x, ((Memref.whole cc0_scratch0 : Memref sig .scVector .vmem S64 .i32).view.read (Elt F)
      (View.write (Elt F) (Memref.whole cc0_scratch0 : Memref sig .scVector .vmem S64 .i32).view fs pay Finset.univ) x).toNat < 137216 := by
  subst hpay; intro x
  rw [View.write_whole_univ]
  simp only [Memref.view_whole, View.read_whole]
  exact idxRead_lt m d L k hpre x

/-- Column `c` of the table's row named by the word `w`. -/
def tableAt (d : Dev nD) (w : BitVec 32) (c : Fin 1024) : Elt F .f32 :=
  m (xLoc d) (ValueIdx.ix2 (n0 := 137216) (n1 := 1024) ⟨w.toNat % 137216, Nat.mod_lt _ (by decide)⟩ c)

/-- What the run leaves in the output: row `r` is the table's row `idx[r]`. -/
def G (d : Dev nD) : Buf (Elt F) (oLoc d) := fun j : S133120x1024.Idx =>
  tableAt m d (m (iLoc d) (ValueIdx.ix1 (n := 133120) (j 0))) (j 1)

/-- What a trip gathers: row `y 0` is the table's row named by the chunk's row number `y 0`. -/
def chunkRows (d : Dev nD) (L : grid0.Coords) (k : Fin k0_t1_loop.trips) : S64x1024.Idx → Elt F .f32 := fun y =>
  tableAt m d (idxRead m d L k (ValueIdx.ix1 (n := 64) (y 0))) (y 1)

/-- A column block's gather: what it delivers is the chunk's rows at the block's columns. -/
theorem col_gather (d : Dev nD) (L : grid0.Coords) (k : Fin k0_t1_loop.trips) (c : ℕ)
    (inb : ∀ a, (![0, c] : Fin 2 → ℕ) a + S137216x128.size a ≤ S137216x1024.size a) (hs)
    (inb0 : ∀ a, (![0, 0] : Fin 2 → ℕ) a + S137216x128.size a ≤ S137216x128.size a) (hs0)
    (inb' : ∀ a, (![0, c] : Fin 2 → ℕ) a + S64x128.size a ≤ S64x1024.size a)
    (hn : S64.numel = S64x128.size gathers_S137216x128_S64x128.axis') (list : S64.Idx → Elt F .i32) (hlist : list = idxRead m d L k)
    (h : ∀ x, (list x).toNat < S137216x128.size gathers_S137216x128_S64x128.axis) (x : S64x128.Idx) :
    SparseCore.gatherPayload gathers_S137216x128_S64x128
        (View.read (Elt F) (((Memref.whole main_arg0_scv : Memref sig .scVector .hbm S137216x1024 .f32).slice
            (Rect.unit (s := S137216x1024) ![0, c] S137216x128.size inb) hs).slice
          (Rect.unit (s := S137216x128) ![0, 0] S137216x128.size inb0) hs0).view (m (xLoc d)))
        (SparseCore.rows list hn h) x
      = chunkRows m d L k ((Rect.unit (s := S64x1024) ![0, c] S64x128.size inb').emb x) := by
  subst hlist
  unfold SparseCore.gatherPayload chunkRows tableAt
  rw [View.read_apply, cast_eq]
  refine congrArg (m (xLoc d)) (funext fun a => Fin.ext ?_)
  match a with
  | ⟨0, _⟩ =>
    have e0 : (gathers_S137216x128_S64x128.idx (SparseCore.rows (idxRead m d L k) hn h) x gathers_S137216x128_S64x128.axis)
        = SparseCore.rows (idxRead m d L k) hn h (x gathers_S137216x128_S64x128.axis') := Shape.Gathers.idx_axis _ _ _
    have e1 : (S64.rowMajor.symm ((x gathers_S137216x128_S64x128.axis').cast hn.symm))
        = ValueIdx.ix1 (n := 64) ((Rect.unit (s := S64x1024) ![0, c] S64x128.size inb').emb x 0) := by
      refine (Routing.symm1 (N := 64) _).trans (congrArg (ValueIdx.ix1 (n := 64)) (Fin.ext ?_))
      refine Eq.trans ?_ (ValueKit.rect_emb_unit_val (s := S64x1024) ![0, c] S64x128.size inb' x 0).symm
      exact (Nat.zero_add _).symm
    show 0 + 1 * (0 + 1 * (gathers_S137216x128_S64x128.idx (SparseCore.rows (idxRead m d L k) hn h) x gathers_S137216x128_S64x128.axis).val) = _
    rw [e0, Nat.zero_add, Nat.zero_add, Nat.one_mul, Nat.one_mul]
    show (idxRead m d L k (S64.rowMajor.symm ((x gathers_S137216x128_S64x128.axis').cast hn.symm))).toNat = _
    rw [e1]
    exact (Nat.mod_eq_of_lt (by rw [← e1]; exact h _)).symm
  | ⟨1, h1⟩ =>
    have e0 : (gathers_S137216x128_S64x128.idx (SparseCore.rows (idxRead m d L k) hn h) x ⟨1, h1⟩).val = (x 1).val :=
      Shape.Gathers.idx_of_ne _ _ _ _ Nat.one_ne_zero
    show c + 1 * (0 + 1 * (gathers_S137216x128_S64x128.idx (SparseCore.rows (idxRead m d L k) hn h) x ⟨1, h1⟩).val) = c + 1 * (x 1).val
    rw [e0, Nat.zero_add, Nat.one_mul]

/-- Columns `c` to `c + 127` of the row scratch are those of the piece at column `c`. -/
theorem in_cols (c : ℕ) (inb' : ∀ a, (![0, c] : Fin 2 → ℕ) a + S64x128.size a ≤ S64x1024.size a) (y : S64x1024.Idx)
    (h : c ≤ (y 1).val ∧ (y 1).val < c + 128) : y ∈ (Rect.unit (s := S64x1024) ![0, c] S64x128.size inb').set := by
  refine Rect.mem_set_unit.2 fun a => ?_
  match a with
  | ⟨0, _⟩ => exact ⟨Nat.zero_le _, by have := (y 0).isLt; show (y 0).val < 0 + 64; exact (Nat.zero_add 64).symm ▸ this⟩
  | ⟨1, _⟩ => exact h

/-- Entry `x` of chunk `k`'s row numbers is the list's entry at the chunk's base plus `x`. -/
theorem idxRead_apply (d : Dev nD) (L : grid0.Coords) (k : Fin k0_t1_loop.trips) (x : Fin 64) (r : Fin 133120)
    (hr : r.val = 8320 * (L 1).val + 4160 * (L 0).val + 64 * k.val + x.val) :
    idxRead m d L k (ValueIdx.ix1 x) = m (iLoc d) (ValueIdx.ix1 r) := by
  unfold idxRead
  rw [View.read_apply, cast_eq]
  refine congrArg (m (iLoc d)) (funext fun a => Fin.ext ?_)
  match a with
  | ⟨0, _⟩ =>
    refine (ValueKit.view_emb_slice_whole_unit_val main_arg1_scv _ _ _ _ _).trans ?_
    exact (congrArg (· + x.val) (congrFun (k0_off1_eq L k) 0)).trans hr.symm

/-- A chunk written with its gathered rows holds what the run leaves there. -/
theorem chunk_written (d : Dev nD) (L : grid0.Coords) (k : Fin k0_t1_loop.trips) (pay : S64x1024.Idx → Elt F .f32)
    (hpay : pay = chunkRows m d L k) :
    ((oChunkK L k).view.loc (VT d L) ↦[(oChunkK L k).view.set]{fullShare}
        (oChunkK L k).view.writes (Elt F) (m (oLoc d)) [⟨Rect.whole S64x1024, pay⟩] : sProp 𝕄)
      = ((oChunkK L k).view.loc (VT d L) ↦[(oChunkK L k).view.set]{fullShare} G m d) := by
  subst hpay
  refine pointsTo_congr fun i hi => ?_
  obtain ⟨y, -, rfl⟩ := Finset.mem_map.mp hi
  have e := congrFun (View.read_writes_whole (Val := Elt F) (oChunkK L k).view (m (oLoc d)) (chunkRows m d L k)) y
  rw [View.read_apply, cast_eq] at e
  refine e.trans ?_
  have h0 : ((oChunkK L k).view.emb y 0).val = 8320 * (L 1).val + 4160 * (L 0).val + 64 * k.val + (y 0).val := by
    refine (ValueKit.view_emb_slice_whole_unit_val main_v0_scv _ _ _ _ _).trans ?_
    exact congrArg (· + (y 0).val) (congrFun (k0_off2_eq L k) 0)
  have h1 : ((oChunkK L k).view.emb y 1) = (y 1) := Fin.ext (by
    refine (ValueKit.view_emb_slice_whole_unit_val main_v0_scv _ _ _ _ _).trans ?_
    exact (congrArg (· + (y 1).val) (congrFun (k0_off2_eq L k) 1)).trans (Nat.zero_add _))
  exact congrArg₂ (tableAt m d) (idxRead_apply m d L k (y 0) ((oChunkK L k).view.emb y 0) h0) h1.symm

set_option maxHeartbeats 4000000 in
/-- One trip: from the shares of the table and the row numbers, the chunk as launched, the scratch at whatever it holds
    and the three counters at zero, to the same with the chunk at its gathered rows. -/
theorem trip (d : Dev nD) (L : grid0.Coords) (k : Fin k0_t1_loop.trips) (q : PosShare TreeShare) (v2 : BitVec 32) (hpre : PreOK m) (O : CellTallies nD τ sig (HIx 1)) (W : Waits sig (HIx 1))
    (fs : Buf (Elt F) ((sV).view.loc (VT d L))) (fr : Buf (Elt F) ((rV).view.loc (VT d L))) :
    (iprop(Transfers.MayWaits (VT d L) (none : HIx 1) O
        ∗ ((xV).view.loc (VT d L) ↦{q} m (xLoc d))
        ∗ ((iV).view.loc (VT d L) ↦{q} m (iLoc d))
        ∗ ((oChunkK L k).view.loc (VT d L) ↦[(oChunkK L k).view.set]{fullShare} m (oLoc d))
        ∗ ((sV).view.loc (VT d L) ↦{fullShare} fs)
        ∗ ((rV).view.loc (VT d L) ↦{fullShare} fr)
        ∗ semVal (VT d L, SemLoc.dma cc0_scratch2.sem) 0
        ∗ semVal (VT d L, SemLoc.dma cc0_scoped0.sem) 0
        ∗ semVal (VT d L, SemLoc.dma cc0_scoped1.sem) 0
        ∗ owes (VT d L) O W) : sProp 𝕄)
      ⊢ wp frame (wpE (defs₀ (F := F)) 𝒱₀ (VT d L) none) Set.univ
          (k0_t1_body L xV (Memref.isWhole_whole _) iV (Memref.isWhole_whole _) oV (Memref.isWhole_whole _)
            sV (Memref.isWhole_whole _) rV (Memref.isWhole_whole _) cc0_scratch2 cc0_scoped0 cc0_scoped1 v2 k ())
          fun _ => iprop(((xV).view.loc (VT d L) ↦{q} m (xLoc d))
        ∗ ((iV).view.loc (VT d L) ↦{q} m (iLoc d))
        ∗ ((oChunkK L k).view.loc (VT d L) ↦[(oChunkK L k).view.set]{fullShare} G m d)
        ∗ (∃ f, (sV).view.loc (VT d L) ↦{fullShare} f)
        ∗ (∃ f, (rV).view.loc (VT d L) ↦{fullShare} f)
        ∗ semVal (VT d L, SemLoc.dma cc0_scratch2.sem) 0
        ∗ semVal (VT d L, SemLoc.dma cc0_scoped0.sem) 0
        ∗ semVal (VT d L, SemLoc.dma cc0_scoped1.sem) 0
        ∗ ∃ W', ⌜∀ p ∈ W', p ∈ W ∨ p.2 = none⌝ ∗ owes (VT d L) O W') := by
  unfold oChunkK xV iV oV sV rV k0_t1_body
  iintro ⟨#Hmw, Hx, Hi, Ho, Hs, Hr, Hc2, Hc0, Hc1, HO⟩
  rw [k0_part1_eq_skeleton, k0_part2_eq_skeleton, k0_part3_eq_skeleton]
  unfold k0_part1_skel k0_part2_skel k0_part3_skel
  sl_exec (disch := exact View.amount_pos _ _ (show 0 < S64.numel by decide))
  have hidx := list_inb m d L k hpre fs (trip.sl.dma0 m d L k) rfl
  sl_exec
  have hl : (Memref.whole cc0_scratch0 : Memref sig .scVector .vmem S64 .i32).view.read (Elt F)
      (View.write (Elt F) (Memref.whole cc0_scratch0 : Memref sig .scVector .vmem S64 .i32).view fs (trip.sl.dma0 m d L k) Finset.univ) = idxRead m d L k := by
    rw [View.write_whole_univ]
    simp only [Memref.view_whole, View.read_whole]
    rfl
  have hp : trip.sl.dma0_1 m d L k fs fr hidx = chunkRows m d L k := by
    unfold trip.sl.dma0_1
    funext y
    refine View.read_writes_apply_of_pieces _ _ (chunkRows m d L k) _ ?_ y ?_
    · intro p hp x
      simp only [List.mem_cons, List.not_mem_nil, _root_.or_false] at hp
      rcases hp with rfl | rfl | rfl | rfl | rfl | rfl | rfl | rfl
      · show trip.sl.gather7 m d L k fs hidx x = chunkRows m d L k ((Rect.unit (s := S64x1024) ![0, 896] S64x128.size inb_S64x1024_S64x128_0_896).emb x)
        unfold trip.sl.gather7
        exact col_gather m d L k 896 inb_S137216x1024_S137216x128_0_896 _ inb_S137216x128_S137216x128_0_0 _ inb_S64x1024_S64x128_0_896 _ _ hl _ x
      · show trip.sl.gather6 m d L k fs hidx x = chunkRows m d L k ((Rect.unit (s := S64x1024) ![0, 768] S64x128.size inb_S64x1024_S64x128_0_768).emb x)
        unfold trip.sl.gather6
        exact col_gather m d L k 768 inb_S137216x1024_S137216x128_0_768 _ inb_S137216x128_S137216x128_0_0 _ inb_S64x1024_S64x128_0_768 _ _ hl _ x
      · show trip.sl.gather5 m d L k fs hidx x = chunkRows m d L k ((Rect.unit (s := S64x1024) ![0, 640] S64x128.size inb_S64x1024_S64x128_0_640).emb x)
        unfold trip.sl.gather5
        exact col_gather m d L k 640 inb_S137216x1024_S137216x128_0_640 _ inb_S137216x128_S137216x128_0_0 _ inb_S64x1024_S64x128_0_640 _ _ hl _ x
      · show trip.sl.gather4 m d L k fs hidx x = chunkRows m d L k ((Rect.unit (s := S64x1024) ![0, 512] S64x128.size inb_S64x1024_S64x128_0_512).emb x)
        unfold trip.sl.gather4
        exact col_gather m d L k 512 inb_S137216x1024_S137216x128_0_512 _ inb_S137216x128_S137216x128_0_0 _ inb_S64x1024_S64x128_0_512 _ _ hl _ x
      · show trip.sl.gather3 m d L k fs hidx x = chunkRows m d L k ((Rect.unit (s := S64x1024) ![0, 384] S64x128.size inb_S64x1024_S64x128_0_384).emb x)
        unfold trip.sl.gather3
        exact col_gather m d L k 384 inb_S137216x1024_S137216x128_0_384 _ inb_S137216x128_S137216x128_0_0 _ inb_S64x1024_S64x128_0_384 _ _ hl _ x
      · show trip.sl.gather2 m d L k fs hidx x = chunkRows m d L k ((Rect.unit (s := S64x1024) ![0, 256] S64x128.size inb_S64x1024_S64x128_0_256).emb x)
        unfold trip.sl.gather2
        exact col_gather m d L k 256 inb_S137216x1024_S137216x128_0_256 _ inb_S137216x128_S137216x128_0_0 _ inb_S64x1024_S64x128_0_256 _ _ hl _ x
      · show trip.sl.gather1 m d L k fs hidx x = chunkRows m d L k ((Rect.unit (s := S64x1024) ![0, 128] S64x128.size inb_S64x1024_S64x128_0_128).emb x)
        unfold trip.sl.gather1
        exact col_gather m d L k 128 inb_S137216x1024_S137216x128_0_128 _ inb_S137216x128_S137216x128_0_0 _ inb_S64x1024_S64x128_0_128 _ _ hl _ x
      · show trip.sl.gather0 m d L k fs hidx x = chunkRows m d L k ((Rect.unit (s := S64x1024) ![0, 0] S64x128.size inb_S64x1024_S64x128_0_0).emb x)
        unfold trip.sl.gather0
        exact col_gather m d L k 0 inb_S137216x1024_S137216x128_0_0 _ inb_S137216x128_S137216x128_0_0 _ inb_S64x1024_S64x128_0_0 _ _ hl _ x
    · have hy : (y 1).val < 1024 := (y 1).isLt
      simp only [List.mem_cons, List.not_mem_nil, _root_.or_false, exists_eq_or_imp, exists_eq_left]
      by_cases h7 : 896 ≤ (y 1).val
      · exact .inl (in_cols 896 _ y (by omega))
      refine .inr ?_
      by_cases h6 : 768 ≤ (y 1).val
      · exact .inl (in_cols 768 _ y (by omega))
      refine .inr ?_
      by_cases h5 : 640 ≤ (y 1).val
      · exact .inl (in_cols 640 _ y (by omega))
      refine .inr ?_
      by_cases h4 : 512 ≤ (y 1).val
      · exact .inl (in_cols 512 _ y (by omega))
      refine .inr ?_
      by_cases h3 : 384 ≤ (y 1).val
      · exact .inl (in_cols 384 _ y (by omega))
      refine .inr ?_
      by_cases h2 : 256 ≤ (y 1).val
      · exact .inl (in_cols 256 _ y (by omega))
      refine .inr ?_
      by_cases h1 : 128 ≤ (y 1).val
      · exact .inl (in_cols 128 _ y (by omega))
      exact .inr (in_cols 0 _ y (by omega))
  sl_step
  isplitl [Hx]; · iexact Hx
  isplitl [Hi]; · iexact Hi
  isplitl [Ho]
  · iapply (Entails.of_eq (chunk_written m d L k _ hp)); iexact Ho
  isplitl [Hs]; · iexists _; iexact Hs
  isplitl [Hr]; · iexists _; iexact Hr
  isplitl [Hc2]; · iexact Hc2
  isplitl [Hc0]; · iexact Hc0
  isplitl [Hc1]; · iexact Hc1
  iexists _; isplitr
  swap; · iexact HO
  ipureintro; intro p hp
  simp only [Finset.mem_insert] at hp
  rcases hp with rfl | rfl | rfl | rfl | rfl | rfl | rfl | rfl | rfl | rfl | hp
  all_goals first | exact .inr rfl | exact .inl hp

end Cert.GatherRun

end
-- ==== Proof.GatherLaunch.lean ====
module

public import proofs.«01_k».proof.Defs
public import proofs.«01_k».proof.Proof.GatherRun
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pipeline.ValueKit
public import proofs.«01_k».proof.Proof.Gen.Gather
public import proofs.«01_k».proof.Proof.Gen.Gather.Skeleton

/-! The SparseCore gather's launch: the subcores' tasks over the trips of `GatherRun`, the split of the output into
    2 x 16 x 65 chunks of 64 rows, and the run of the whole program with what it leaves in the output. -/

@[expose] public section

noncomputable section

namespace Cert.GatherRun

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The chunks and the shares -/

/-- The grid point of SparseCore `c`'s subcore `s`. -/
def at2 (c : Fin 2) (s : Fin 16) : grid0.Coords :=
  fun | 0 => c | 1 => s | ⟨_ + 2, h⟩ => absurd h (Nat.not_lt.2 (Nat.le_add_left _ _))

/-- The rows of the output that subcore `(c, s)` writes at trip `t`. -/
abbrev chunk (d : Dev nD) (c : Fin 2) (s : Fin 16) (t : Fin k0_t1_loop.trips) : Finset (Idx (oLoc d)) :=
  (oChunkK (at2 c s) t).view.set

theorem trips_eq : k0_t1_loop.trips = 65 := rfl

/-- A chunk's elements: the 64 rows from its base, every column. -/
theorem mem_chunk (d : Dev nD) (c : Fin 2) (s : Fin 16) (t : Fin k0_t1_loop.trips) (i : S133120x1024.Idx) :
    i ∈ chunk d c s t ↔ 8320 * s.val + 4160 * c.val + 64 * t.val ≤ (i 0).val ∧ (i 0).val < 8320 * s.val + 4160 * c.val + 64 * t.val + 64 := by
  refine (ValueKit.mem_set_slice_whole_iff main_v0_scv _ i Rect.mem_set_unit).trans ?_
  have e0 : k0_off2 (at2 c s) t 0 = 8320 * s.val + 4160 * c.val + 64 * t.val := congrFun (k0_off2_eq (at2 c s) t) 0
  have e1 : k0_off2 (at2 c s) t 1 = 0 := congrFun (k0_off2_eq (at2 c s) t) 1
  constructor
  · intro h
    have h0 := h 0
    rw [e0] at h0
    exact h0
  · intro h a
    match a with
    | ⟨0, _⟩ =>
      show k0_off2 (at2 c s) t 0 ≤ (i 0).val ∧ (i 0).val < k0_off2 (at2 c s) t 0 + 64
      rw [e0]; exact h
    | ⟨1, _⟩ =>
      show k0_off2 (at2 c s) t 1 ≤ (i 1).val ∧ (i 1).val < k0_off2 (at2 c s) t 1 + 1024
      rw [e1]; exact ⟨Nat.zero_le _, (Nat.zero_add 1024).symm ▸ (i 1).isLt⟩

/-- Distinct chunks share no element. -/
theorem chunks_disjoint (d : Dev nD) :
    ∀ p ∈ (Finset.univ : Finset (Fin 2 × Fin 16 × Fin k0_t1_loop.trips)), ∀ p' ∈ (Finset.univ : Finset (Fin 2 × Fin 16 × Fin k0_t1_loop.trips)),
      p ≠ p' → Disjoint (chunk d p.1 p.2.1 p.2.2) (chunk d p'.1 p'.2.1 p'.2.2) := by
  rintro ⟨c, s, t⟩ - ⟨c', s', t'⟩ - hne
  refine Finset.disjoint_left.2 fun i h h' => hne ?_
  have h := (mem_chunk d c s t i).1 h
  have h' := (mem_chunk d c' s' t' i).1 h'
  have ht : t.val < 65 := t.isLt
  have ht' : t'.val < 65 := t'.isLt
  have hc := c.isLt
  have hc' := c'.isLt
  have e : s.val = s'.val ∧ c.val = c'.val ∧ t.val = t'.val := by omega
  rw [Fin.ext e.1, Fin.ext e.2.1, Fin.ext e.2.2]

/-- A row of the output is some chunk's. -/
theorem row_chunk (r : ℕ) (hr : r < 133120) : ∃ (c : Fin 2) (s : Fin 16) (t : Fin k0_t1_loop.trips),
    8320 * s.val + 4160 * c.val + 64 * t.val ≤ r ∧ r < 8320 * s.val + 4160 * c.val + 64 * t.val + 64 := by
  have ht : r % 4160 / 64 < k0_t1_loop.trips := by rw [trips_eq]; omega
  refine ⟨⟨r % 8320 / 4160, by omega⟩, ⟨r / 8320, by omega⟩, ⟨r % 4160 / 64, ht⟩, ?_⟩
  show 8320 * (r / 8320) + 4160 * (r % 8320 / 4160) + 64 * (r % 4160 / 64) ≤ r ∧ r < 8320 * (r / 8320) + 4160 * (r % 8320 / 4160) + 64 * (r % 4160 / 64) + 64
  omega

/-- A family of sets that reaches every element covers. -/
theorem cover_of {α β : Type} [Fintype α] [Fintype β] [DecidableEq β] (J : α → Finset β) (h : ∀ i, ∃ a, i ∈ J a) :
    (Finset.univ : Finset α).biUnion J = Finset.univ :=
  Finset.eq_univ_iff_forall.2 fun i => Finset.mem_biUnion.2 ((h i).imp fun a ha => ⟨Finset.mem_univ a, ha⟩)

/-- Every element of the output is in some chunk. -/
theorem chunks_cover (d : Dev nD) :
    (Finset.univ : Finset (Fin 2 × Fin 16 × Fin k0_t1_loop.trips)).biUnion (fun p => chunk d p.1 p.2.1 p.2.2) = (Finset.univ : Finset (Idx (oLoc d))) := by
  refine cover_of _ fun i => ?_
  have hi : ((i : S133120x1024.Idx) 0).val < 133120 := ((i : S133120x1024.Idx) 0).isLt
  obtain ⟨c, s, t, h⟩ := row_chunk ((i : S133120x1024.Idx) 0).val hi
  exact ⟨(c, s, t), (mem_chunk d c s t i).2 h⟩

/-- The output whole is its chunks, by core, subcore and trip. -/
theorem oPts_chunks (d : Dev nD) (f : Buf (Elt F) (oLoc d)) :
    (oLoc d ↦{fullShare} f : sProp 𝕄) = bigSep Finset.univ fun c : Fin 2 => bigSep Finset.univ fun s : Fin 16 =>
      bigSep Finset.univ fun t : Fin k0_t1_loop.trips => oLoc d ↦[chunk d c s t]{fullShare} f := by
  have h := pointsTo_biUnion (Ix := HIx 1) (Name := ℕ) (U := UU) (Lvl := ℕ) (ℓ := oLoc d) (q := fullShare) (f := f) (Finset.univ : Finset (Fin 2 × Fin 16 × Fin k0_t1_loop.trips))
    (fun p => chunk d p.1 p.2.1 p.2.2) (chunks_disjoint d)
  rw [chunks_cover] at h
  refine h.trans ?_
  rw [bigSep_univ_prod]
  exact bigSep_congr fun c _ => bigSep_univ_prod _

/-- Core `c`'s share of what is read, and subcore `(c, s)`'s share of that. -/
abbrev qC (c : Fin 2) : PosShare TreeShare := pieceOf fullShare 2 (by decide) c
abbrev qT (c : Fin 2) (s : Fin 16) : PosShare TreeShare := pieceOf (qC c) 16 (by decide) s

/-- What subcore `(c, s)` holds: its shares of the table and the row numbers, its 65 chunks at `f`. -/
def tilePts (d : Dev nD) (c : Fin 2) (s : Fin 16) (f : Buf (Elt F) (oLoc d)) : sProp 𝕄 :=
  iprop((xLoc d ↦{qT c s} m (xLoc d)) ∗ (iLoc d ↦{qT c s} m (iLoc d))
    ∗ bigSep Finset.univ fun t : Fin k0_t1_loop.trips => oLoc d ↦[chunk d c s t]{fullShare} f)

/-- What SparseCore `c` holds: its shares, and its subcores' chunks at `f`. -/
def corePts (d : Dev nD) (c : Fin 2) (f : Buf (Elt F) (oLoc d)) : sProp 𝕄 :=
  iprop((xLoc d ↦{qC c} m (xLoc d)) ∗ (iLoc d ↦{qC c} m (iLoc d))
    ∗ bigSep Finset.univ fun s : Fin 16 => bigSep Finset.univ fun t : Fin k0_t1_loop.trips => oLoc d ↦[chunk d c s t]{fullShare} f)

/-- A core's holding is its subcores'. -/
theorem corePts_tiles (d : Dev nD) (c : Fin 2) (f : Buf (Elt F) (oLoc d)) :
    corePts m d c f = bigSep Finset.univ fun s : Fin 16 => tilePts m d c s f := by
  unfold corePts tilePts
  rw [bigSep_sep', bigSep_sep', ← pointsTo_piecesOf, ← pointsTo_piecesOf]

/-- The three arrays whole are the cores' holdings. -/
theorem whole_cores (d : Dev nD) (f : Buf (Elt F) (oLoc d)) :
    (iprop((xLoc d ↦{fullShare} m (xLoc d)) ∗ (iLoc d ↦{fullShare} m (iLoc d)) ∗ (oLoc d ↦{fullShare} f)) : sProp 𝕄)
      = bigSep Finset.univ fun c : Fin 2 => corePts m d c f := by
  unfold corePts
  rw [bigSep_sep', bigSep_sep', ← pointsTo_piecesOf, ← pointsTo_piecesOf, oPts_chunks]

variable [FloatOps F]

/-! ## What the launch deals and gets back -/

instance tilePts_storable (d : Dev nD) (c : Fin 2) (s : Fin 16) (f : Buf (Elt F) (oLoc d)) :
    BI.Storable (upEmb : UEmb _ 𝕄) (tilePts m d c s f) := by unfold tilePts; infer_instance
instance corePts_storable (d : Dev nD) (c : Fin 2) (f : Buf (Elt F) (oLoc d)) :
    BI.Storable (upEmb : UEmb _ 𝕄) (corePts m d c f) := by unfold corePts; infer_instance

/-- Each core gets its holding with the output as launched and returns it with the gathered rows; likewise each subcore. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (G m d)
  go := fun q d c i => match q with | 0 => tilePts m d (Fin.cast nCore_zero c) (Fin.cast nSub_zero i) (m (oLoc d))
  td := fun q d c i => match q with | 0 => tilePts m d (Fin.cast nCore_zero c) (Fin.cast nSub_zero i) (G m d)
  x := fun _ _ => iprop(emp)

instance P_storable : (P (F := F) m).IsStorable where
  st q d c := match q with | 0 => corePts_storable m d _ _
  dn q d c := match q with | 0 => corePts_storable m d _ _
  go q d c i := match q with | 0 => tilePts_storable m d _ _ _
  td q d c i := match q with | 0 => tilePts_storable m d _ _ _

/-! ## A subcore's task -/

section Tile

variable (d : Dev nD) (c : Fin 2) (s : Fin 16)

/-- Trip `t`'s chunk before trip `k`: gathered when `t < k`, else as launched. -/
def chunkAt (k : ℕ) (t : Fin k0_t1_loop.trips) : sProp 𝕄 :=
  if t.val < k then (oLoc d ↦[chunk d c s t]{fullShare} G m d) else (oLoc d ↦[chunk d c s t]{fullShare} m (oLoc d))

/-- The loop's invariant: the shares, the chunks of the trips done gathered, the scratch, the counters at zero. -/
def inv (O : CellTallies nD τ sig (HIx 1)) (W : Waits sig (HIx 1)) (k : ℕ) (_ : PUnit) : sProp 𝕄 :=
  iprop(Transfers.MayWaits (VT d (at2 c s)) (none : HIx 1) O
    ∗ (xLoc d ↦{qT c s} m (xLoc d))
    ∗ (iLoc d ↦{qT c s} m (iLoc d))
    ∗ (bigSep Finset.univ fun t : Fin k0_t1_loop.trips => chunkAt m d c s k t)
    ∗ (∃ f, (VT d (at2 c s)).loc cc0_scratch0 ↦{fullShare} f)
    ∗ (∃ f, (VT d (at2 c s)).loc cc0_scratch1 ↦{fullShare} f)
    ∗ semVal (VT d (at2 c s), SemLoc.dma cc0_scratch2.sem) 0
    ∗ semVal (VT d (at2 c s), SemLoc.dma cc0_scoped0.sem) 0
    ∗ semVal (VT d (at2 c s), SemLoc.dma cc0_scoped1.sem) 0
    ∗ ∃ W', ⌜∀ p ∈ W', p ∈ W ∨ p.2 = none⌝ ∗ owes (VT d (at2 c s)) O W')

/-- Before trip `k` its own chunk is as launched; the other chunks are the same before and after. -/
theorem chunks_step (k : Fin k0_t1_loop.trips) (n : ℕ) (hn : n = k.val ∨ n = k.val + 1) :
    (bigSep Finset.univ fun t : Fin k0_t1_loop.trips => chunkAt (F := F) m d c s n t)
      = iprop(chunkAt m d c s n k ∗ bigSep (Finset.univ.erase k) fun t : Fin k0_t1_loop.trips => chunkAt m d c s k.val t) := by
  rw [SparseCore.bigSep_erase' (Finset.mem_univ k)]
  refine congrArg _ (bigSep_congr fun t ht => ?_)
  have hne : t.val ≠ k.val := fun e => (Finset.mem_erase.1 ht).1 (Fin.ext e)
  unfold chunkAt
  rcases hn with rfl | rfl
  · rfl
  · by_cases h : t.val < k.val
    · rw [if_pos h, if_pos (by omega)]
    · rw [if_neg h, if_neg (by omega)]

theorem chunkAt_now (k : Fin k0_t1_loop.trips) : chunkAt (F := F) m d c s k.val k = (oLoc d ↦[chunk d c s k]{fullShare} m (oLoc d)) := by
  unfold chunkAt; rw [if_neg (lt_irrefl _)]
theorem chunkAt_next (k : Fin k0_t1_loop.trips) : chunkAt (F := F) m d c s (k.val + 1) k = (oLoc d ↦[chunk d c s k]{fullShare} G m d) := by
  unfold chunkAt; rw [if_pos (Nat.lt_succ_self _)]
theorem chunks_start :
    (bigSep Finset.univ fun t : Fin k0_t1_loop.trips => chunkAt (F := F) m d c s 0 t)
      = bigSep Finset.univ fun t : Fin k0_t1_loop.trips => oLoc d ↦[chunk d c s t]{fullShare} m (oLoc d) :=
  bigSep_congr fun t _ => by unfold chunkAt; rw [if_neg (Nat.not_lt_zero _)]
theorem chunks_end :
    (bigSep Finset.univ fun t : Fin k0_t1_loop.trips => chunkAt (F := F) m d c s k0_t1_loop.trips t)
      = bigSep Finset.univ fun t : Fin k0_t1_loop.trips => oLoc d ↦[chunk d c s t]{fullShare} G m d :=
  bigSep_congr fun t _ => by unfold chunkAt; rw [if_pos t.isLt]

abbrev cell2 : GSem nD τ sig := (VT d (at2 c s), .dma cc0_scratch2.sem)
abbrev cell0 : GSem nD τ sig := (VT d (at2 c s), .dma cc0_scoped0.sem)
abbrev cell1 : GSem nD τ sig := (VT d (at2 c s), .dma cc0_scoped1.sem)

omit [FloatOps F] in
/-- The three counters are among the subcore's own at zero. -/
theorem ownSems0_tile :
    (ownSems0 (VT d (at2 c s)) : sProp 𝕄)
      = iprop(semVal (cell2 d c s) 0 ∗ semVal (cell0 d c s) 0 ∗ semVal (cell1 d c s) 0
          ∗ bigSep ((((ownCells (VT d (at2 c s))).erase (cell2 d c s)).erase (cell0 d c s)).erase (cell1 d c s)) fun g => semVal g 0) := by
  unfold SparseCore.Cfg.ownSems0
  rw [SparseCore.bigSep_erase' ((mem_ownCells (g := cell2 d c s)).mpr ⟨rfl, by
      show (SemLoc.dma cc0_scratch2.sem : SemLoc sig).isScoped .scVector = true; decide⟩),
    SparseCore.bigSep_erase' (Finset.mem_erase.mpr ⟨by simp [cell2, cell0]; decide, (mem_ownCells (g := cell0 d c s)).mpr ⟨rfl, by
      show (SemLoc.dma cc0_scoped0.sem : SemLoc sig).isScoped .scVector = true; decide⟩⟩),
    SparseCore.bigSep_erase' (Finset.mem_erase.mpr ⟨by simp [cell0, cell1]; decide, Finset.mem_erase.mpr ⟨by simp [cell2, cell1]; decide,
      (mem_ownCells (g := cell1 d c s)).mpr ⟨rfl, by show (SemLoc.dma cc0_scoped1.sem : SemLoc sig).isScoped .scVector = true; decide⟩⟩⟩)]

omit [FloatOps F] in
/-- The two scratch buffers are among the subcore's own. -/
theorem ownBufs_tile :
    (ownBufs (VT d (at2 c s)) : sProp 𝕄)
      = iprop((∃ f, (VT d (at2 c s)).loc cc0_scratch0 ↦{fullShare} f) ∗ (∃ f, (VT d (at2 c s)).loc cc0_scratch1 ↦{fullShare} f)
          ∗ bigSep (((ownRefs (τ := τ) (.scVector (cV (at2 c s)) (jV (at2 c s)))).erase ((Proc.scVector (cV (at2 c s)) (jV (at2 c s))).devRef cc0_scratch0)).erase
              ((Proc.scVector (cV (at2 c s)) (jV (at2 c s))).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV (at2 c s)) (jV (at2 c s)))
    (b := (Proc.scVector (cV (at2 c s)) (jV (at2 c s))).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV (at2 c s)) (jV (at2 c s))) (b := (Proc.scVector (cV (at2 c s)) (jV (at2 c s))).devRef cc0_scratch1) rfl⟩)]

/-- One trip takes the invariant at `k` to the invariant at `k + 1`. -/
theorem inv_trip (hpre : PreOK m) (O : CellTallies nD τ sig (HIx 1)) (W : Waits sig (HIx 1)) (v2 : BitVec 32) (k : Fin k0_t1_loop.trips) (u : PUnit) :
    inv m d c s O W k.val u
      ⊢ wp Idealize.ShloMosaic.frame (wpE (defs₀ (F := F)) 𝒱₀ (VT d (at2 c s)) none) Set.univ
          (k0_t1_body (at2 c s) xV (Memref.isWhole_whole _) iV (Memref.isWhole_whole _) oV (Memref.isWhole_whole _)
            sV (Memref.isWhole_whole _) rV (Memref.isWhole_whole _) cc0_scratch2 cc0_scoped0 cc0_scoped1 v2 k u)
          fun u' => inv m d c s O W (k.val + 1) u' := by
  unfold inv
  rw [chunks_step m d c s k k.val (.inl rfl), chunks_step m d c s k (k.val + 1) (.inr rfl), chunkAt_now, chunkAt_next]
  iintro ⟨#Hmw, Hx, Hi, ⟨Ho, Hrest⟩, ⟨%fs, Hs⟩, ⟨%fr, Hr⟩, Hc2, Hc0, Hc1, %W', %hW', HO⟩
  iapply (wp_wand_r Idealize.ShloMosaic.frame (wpE (defs₀ (F := F)) 𝒱₀ (VT d (at2 c s)) none) Set.univ)
  isplitl [Hx Hi Ho Hs Hr Hc2 Hc0 Hc1 HO]
  · iapply (trip m d (at2 c s) k (qT c s) v2 hpre O W' fs fr)
    isplitr; · iexact Hmw
    isplitl [Hx]; · iexact Hx
    isplitl [Hi]; · iexact Hi
    isplitl [Ho]; · iexact Ho
    isplitl [Hs]; · iexact Hs
    isplitl [Hr]; · iexact Hr
    isplitl [Hc2]; · iexact Hc2
    isplitl [Hc0]; · iexact Hc0
    isplitl [Hc1]; · iexact Hc1
    iexact HO
  iintro %_ ⟨Hx, Hi, Ho, ⟨%fs', Hs⟩, ⟨%fr', Hr⟩, Hc2, Hc0, Hc1, %W2, %hW2, HO⟩
  isplitr; · iexact Hmw
  isplitl [Hx]; · iexact Hx
  isplitl [Hi]; · iexact Hi
  isplitl [Ho Hrest]
  · isplitl [Ho]; · iexact Ho
    iexact Hrest
  isplitl [Hs]; · iexists _; iexact Hs
  isplitl [Hr]; · iexists _; iexact Hr
  isplitl [Hc2]; · iexact Hc2
  isplitl [Hc0]; · iexact Hc0
  isplitl [Hc1]; · iexact Hc1
  iexists W2; isplitr
  · ipureintro; intro p hp
    rcases hW2 p hp with h | h
    · exact hW' p h
    · exact .inr h
  · iexact HO

set_option maxHeartbeats 1000000 in
/-- The task on subcore `(c, s)`: from its holding with the output as launched to its holding with the rows gathered. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tilePts m d c s (m (oLoc d))
        ∗ scopedBufs (VT d (at2 c s)) ∗ scopedSems0 (VT d (at2 c s)) ∗ owes (VT d (at2 c s)) O W)
      ⊢ wp Idealize.ShloMosaic.frame (wpE (defs₀ (F := F)) 𝒱₀ (VT d (at2 c s)) none) Set.univ
          (cc0_sc_gather (at2 c s) xV (Memref.isWhole_whole _) iV (Memref.isWhole_whole _) oV (Memref.isWhole_whole _)
            sV (Memref.isWhole_whole _) rV (Memref.isWhole_whole _) cc0_scratch2 cc0_scoped0 cc0_scoped1)
          fun _ => iprop(tilePts m d c s (G m d) ∗ scopedBufs (VT d (at2 c s)) ∗ scopedSems0 (VT d (at2 c s))
            ∗ ∃ W', ⌜∀ p ∈ W', p ∈ W ∨ p.2 = none ∨ p.2 = some (0 : Fin 1)⌝ ∗ owes (VT d (at2 c s)) O W') := by
  rw [(K (F := F)).scopedBufs_V hF d (cV (at2 c s)) (jV (at2 c s)), SparseCore.Cfg.scopedSems0_V (Val := Elt F) d (cV (at2 c s)) (jV (at2 c s)), ownSems0_tile, ownBufs_tile]
  rw [cc0_sc_gather_eq_skeleton]; unfold cc0_sc_gather_skel tilePts
  iintro ⟨#Hlv, -, ⟨Hx, Hi, Ho⟩, ⟨Hs, Hr, Hbufs⟩, ⟨Hc2, Hc0, Hc1, Hsems⟩, HO⟩
  ihave Hmw := (show levAts (K (F := F)).L (K (F := F)).lev ⊢ Transfers.MayWaits (VT d (at2 c s)) (none : HIx 1) O from
    (K (F := F)).mayWaits_none (thr := VT d (at2 c s)) hO) $$ Hlv
  sl_exec
  sl_for (inv m d c s O W) $$ [Hmw Hx Hi Ho Hs Hr Hc2 Hc0 Hc1 HO]
  case region =>
    intro k u
    exact inv_trip m d c s hpre O W _ k u
  · unfold inv
    rw [chunks_start]
    isplitl [Hmw]; · iexact Hmw
    isplitl [Hx]; · iexact Hx
    isplitl [Hi]; · iexact Hi
    isplitl [Ho]; · iexact Ho
    isplitl [Hs]; · iexact Hs
    isplitl [Hr]; · iexact Hr
    isplitl [Hc2]; · iexact Hc2
    isplitl [Hc0]; · iexact Hc0
    isplitl [Hc1]; · iexact Hc1
    iexists W; isplitr
    · ipureintro; exact fun p hp => .inl hp
    · iexact HO
  iintro %_ HI
  unfold inv
  icases HI with ⟨-, Hx, Hi, Ho, Hs, Hr, Hc2, Hc0, Hc1, %W', %hW', HO⟩
  ihave Ho' := (Entails.of_eq (chunks_end m d c s)) $$ Ho
  sl_step
  isplitl [Hx Hi Ho']
  · isplitl [Hx]; · iexact Hx
    isplitl [Hi]; · iexact Hi
    iexact Ho'
  isplitl [Hs Hr Hbufs]
  · isplitl [Hs]; · iexact Hs
    isplitl [Hr]; · iexact Hr
    iexact Hbufs
  isplitl [Hc2 Hc0 Hc1 Hsems]
  · isplitl [Hc2]; · iexact Hc2
    isplitl [Hc0]; · iexact Hc0
    isplitl [Hc1]; · iexact Hc1
    iexact Hsems
  iexists W'; isplitr
  · ipureintro; exact fun p hp => (hW' p hp).imp_right Or.inl
  · iexact HO

end Tile

/-! ## The obligation of the subcores, the split per core -/

theorem defs_vector (c : Fin τ.nSC) (s : Fin τ.nSub) :
    defs₀ (F := F) (.scVector c s) 0 ()
      = SparseCore.onTile hcore0 hsub0 (fun c s => cc0_sc_gather (at2 c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_vector]; simp only [SparseCore.onTile, hci, and_self, ↓reduceDIte]
  exact tile_body m d ⟨_, hci.1⟩ ⟨_, hci.2⟩ hF hpre O W hO

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core deals its holding to its subcores and joins what they return. -/
theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (G m d))
          -∗ corePts m d (Fin.cast nCore_zero c) (G m d)))
  rw [bigSep_subs (F := F) (fun i => tilePts m d (Fin.cast nCore_zero c) i (m (oLoc d))),
    bigSep_subs (F := F) (fun i => tilePts m d (Fin.cast nCore_zero c) i (G m d)), corePts_tiles, corePts_tiles]
  iintro H; imodintro
  isplitl [H]; · iexact H
  iintro H; iexact H

/-! ## The launch's ghost state -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The three arrays with the output at `f`. -/
abbrev FIN (d : Dev nD) : sProp 𝕄 := iprop((xLoc d ↦{fullShare} m (xLoc d)) ∗ (iLoc d ↦{fullShare} m (iLoc d)) ∗ (oLoc d ↦{fullShare} G m d))

theorem st0_eq (d : Dev nD) : (bigSep Finset.univ fun c : Fin ((K (F := F)).nCore 0) => (P m).st 0 d c)
    = iprop((xLoc d ↦{fullShare} m (xLoc d)) ∗ (iLoc d ↦{fullShare} m (iLoc d)) ∗ (oLoc d ↦{fullShare} m (oLoc d))) :=
  (bigSep_cores (F := F) fun c => corePts m d c (m (oLoc d))).trans (whole_cores m d _).symm
theorem dn0_eq (d : Dev nD) : (bigSep Finset.univ fun c : Fin ((K (F := F)).nCore 0) => (P m).dn 0 d c) = FIN m d :=
  (bigSep_cores (F := F) fun c => corePts m d c (G m d)).trans (whole_cores m d _).symm

/-- @main on device `d`'s TensorCore: the one call, from the three arrays to the three with the output gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hx]; · iexact Hx
    isplitl [Hi]; · iexact Hi
    iexact Ho
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

/-- What the final memory of device `d` holds. -/
def fq (d : Dev nD) (s' : Phys nD τ sig (Elt F)) : Prop :=
  s'.mem.mem (xLoc d) = m (xLoc d) ∧ s'.mem.mem (iLoc d) = m (iLoc d) ∧ s'.mem.mem (oLoc d) = G m d

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- The end of a run: the arguments kept, the output gathered, every counter at zero. -/
def QC : PUnit × MemSt nD τ sig (Elt F) → Prop := fun r =>
  (∀ c : Dev nD, r.2.mem (xLoc c) = m (xLoc c) ∧ r.2.mem (iLoc c) = m (iLoc c) ∧ r.2.mem (oLoc c) = G m c) ∧ r.2.sem = fun _ => 0

/-- Every fair execution of the program from a memory whose row numbers are in range ends, with the output gathered. -/
theorem run_main [∀ e, Nonempty (Elt F e)] (hpre : PreOK m) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.GatherRun

end
-- ==== Proof.GatherClaims.lean ====
module

public import proofs.«01_k».proof.Defs
public import proofs.«01_k».proof.Proof.Gen.Gather
public import proofs.«01_k».proof.Proof.Gen.GatherIdeal
public import proofs.«01_k».proof.Proof.Gen.Pre_idx_in_rows
public import proofs.«01_k».proof.Proof.Gen.GatherRef.Run
public import proofs.«01_k».proof.Proof.Gen.GatherRefIdeal.Run
public import proofs.«01_k».proof.Proof.GatherLaunch
public import Idealize.ShloMosaic.Lib.Routing.Ops
public import Idealize.ShloMosaic.Lib.Quiescent

/-! # The claims about the SparseCore gather

The kernel's run is that of `GatherLaunch`, stated for any float values; the idealization has the same text, so its run is
the same one taken at the extended reals. The reference is a host program that indexes the table by the row numbers, a
negative one counted from the end: where every row number is in range that branch is never taken and each row of its result
is the table's row named, which is what the kernel leaves. -/

@[expose] public section

noncomputable section

namespace Cert.GatherClaims

open Idealize.ShloMosaic Idealize.ShloMosaic.TcCoe Idealize.SL.Sem

/-- A 1-bit conjunction of two comparisons' results. -/
theorem andi_bits (p q : Bool) : IntOp.andi (BitVec.ofBool p) (BitVec.ofBool q) = BitVec.ofBool (p && q) := by
  cases p <;> cases q <;> decide

/-- A comparison's bit is one just when it holds. -/
theorem bit_one (p : Bool) : (BitVec.ofBool p = 1#1) ↔ p = true := by cases p <;> decide

/-- A word at least zero and below 137216, both signed, has its own value below 137216. -/
theorem word_lt (v : BitVec 32) (e : IntOp.andi (IntOp.cmpi .sge v 0#32) (IntOp.cmpi .slt v 137216#32) = 1#1) : v.toNat < 137216 := by
  simp only [IntOp.cmpi, andi_bits, bit_one, Bool.and_eq_true, BitVec.sle_eq_decide, BitVec.slt_eq_decide,
    decide_eq_true_eq, BitVec.toInt_eq_toNat_cond, BitVec.toNat_ofNat, Nat.reducePow, Nat.reduceMod] at e
  omega

/-- Such a word is not negative. -/
theorem word_nonneg (v : BitVec 32) (h : v.toNat < 137216) : IntOp.cmpi .slt v 0#32 ≠ 1#1 := by
  simp only [IntOp.cmpi, ne_eq, bit_one, BitVec.slt_eq_decide, decide_eq_true_eq, BitVec.toInt_eq_toNat_cond, BitVec.toNat_ofNat, Nat.reducePow, Nat.reduceMod]
  omega

/-- Such a word is the word of its value's remainder. -/
theorem word_mod (v : BitVec 32) (h : v.toNat < 137216) : v = BitVec.ofNat 32 (v.toNat % 137216) := by
  refine BitVec.eq_of_toNat_eq ?_
  rw [BitVec.toNat_ofNat, Nat.mod_eq_of_lt h, Nat.mod_eq_of_lt v.isLt]

/-- The precondition puts every row number of the kernel's launch memory in range. -/
theorem in_rows (m : (ℓ : Loc Cert.Gather.nD Cert.Gather.τ Cert.Gather.sig) → Buf (Elt Bits) ℓ)
    (h : Cert.Pre_Gather (hPre_idx_in_rows := Cert.Pre_idx_in_rows.Gen.facts) m) : Cert.GatherRun.PreOK (F := Bits) m := by
  intro d j
  have e := congrFun (h d) j
  simp only [Cert.Pre_idx_in_rows.fn, andi, cmpi, broadcastInDim, constantI] at e
  exact word_lt _ e

/-- The same of the idealized kernel's. -/
theorem in_rows_ideal (m : (ℓ : Loc Cert.GatherIdeal.nD Cert.GatherIdeal.τ Cert.GatherIdeal.sig) → Buf (Elt Ideal) ℓ)
    (h : Cert.Pre_GatherIdeal (hPre_idx_in_rows := Cert.Pre_idx_in_rows.Gen.facts) m) : Cert.GatherRun.PreOK (F := Ideal) m := by
  intro d j
  have e := congrFun (h d) j
  simp only [Cert.Pre_idx_in_rows.fn, andi, cmpi, broadcastInDim, constantI] at e
  exact word_lt _ e

/-- The kernel runs to its end, keeps its arguments and leaves every semaphore at zero. -/
theorem frame_kernel : Cert.quiescent_Gather (hGather := Cert.Gather.Gen.facts) (hPre_idx_in_rows := Cert.Pre_idx_in_rows.Gen.facts) :=
  fun m ρ h => (θ_run Cert.Gather.defs _ _).mono (fun _ q => ⟨fun c => ⟨(q.1 c).1, (q.1 c).2.1⟩, q.2⟩)
    (Cert.GatherRun.run_main (F := Bits) m ρ (in_rows m h))

/-- The idealized kernel's run: the run of `GatherLaunch` at the extended reals. -/
theorem run_ideal (m : (ℓ : Loc Cert.GatherIdeal.nD Cert.GatherIdeal.τ Cert.GatherIdeal.sig) → Buf (Elt Ideal) ℓ)
    (ρ : Dev Cert.GatherIdeal.nD → PrngReg) (h : Cert.Pre_GatherIdeal (hPre_idx_in_rows := Cert.Pre_idx_in_rows.Gen.facts) m) :
    θ_run (Cert.GatherIdeal.defs (F := Ideal)) (Cert.GatherIdeal.threads (F := Ideal)) ⟨m, fun _ => 0, ρ⟩ (Cert.GatherRun.QC (F := Ideal) m) :=
  Cert.GatherRun.run_main (F := Ideal) m ρ (in_rows_ideal m h)

/-- The same of the kernel over the extended reals. -/
theorem frame_ideal : Cert.quiescent_GatherIdeal (hGatherIdeal := Cert.GatherIdeal.Gen.facts) (hPre_idx_in_rows := Cert.Pre_idx_in_rows.Gen.facts) :=
  fun m ρ h => (θ_run Cert.GatherIdeal.defs _ _).mono (fun _ q => ⟨fun c => ⟨(q.1 c).1, (q.1 c).2.1⟩, q.2⟩)
    (run_ideal m ρ h)

/-- The reference over the extended reals runs to its end, keeps its arguments and has no semaphore. -/
theorem frame_reference : Cert.quiescent_GatherRefIdeal (hGatherRefIdeal := Cert.GatherRefIdeal.Gen.facts) (hPre_idx_in_rows := Cert.Pre_idx_in_rows.Gen.facts) :=
  fun m ρ _ => (θ_run Cert.GatherRefIdeal.defs _ _).mono
    (fun r h => ⟨fun c => ⟨(h c).2.1, (h c).2.2⟩, sem_eq_zero_of_no_sems (by decide) r.2⟩)
    (Cert.GatherRefIdeal.Value.run (F := Ideal) m ρ)

/-- The same of the reference over the machine's floats. -/
theorem frame_plain : Cert.quiescent_GatherRef (hGatherRef := Cert.GatherRef.Gen.facts) (hPre_idx_in_rows := Cert.Pre_idx_in_rows.Gen.facts) :=
  fun m ρ _ => (θ_run Cert.GatherRef.defs _ _).mono
    (fun r h => ⟨fun c => ⟨(h c).2.1, (h c).2.2⟩, sem_eq_zero_of_no_sems (by decide) r.2⟩)
    (Cert.GatherRef.Value.run (F := Bits) m ρ)

section Indexing

open Cert.GatherRef Cert.GatherRef.Gen

/-- The reference's indexing of a table `x` by in-range row numbers `idx`: entry `(r, y)` is the table's entry
    `(idx[r], y)`. -/
theorem indexed {α : Type} (x : S137216x1024.Idx → α) (idx : IVec S133120 32) (h : ∀ j, (idx j).toNat < 137216) (j : S133120x1024.Idx) :
    Host.gather gather_S137216x1024_S133120x1_S133120x1024_1_0_n_n_0_1_11024 x
        (broadcastInDim S133120x1 ![0] bcast_S133120_S133120x1_0 (select (cmpi .slt idx (broadcastInDim S133120 ![] bcast_S_S133120 (constantI S_ 32 0#32)))
          (addi idx (broadcastInDim S133120 ![] bcast_S_S133120 (constantI S_ 32 137216#32))) idx)) j
      = x (ValueIdx.ix2 (n0 := 137216) (n1 := 1024) ⟨(idx (ValueIdx.ix1 (n := 133120) (j 0))).toNat % 137216, Nat.mod_lt _ (by decide)⟩ (j 1)) := by
  have hs : select (cmpi .slt idx (broadcastInDim S133120 ![] bcast_S_S133120 (constantI S_ 32 0#32)))
      (addi idx (broadcastInDim S133120 ![] bcast_S_S133120 (constantI S_ 32 137216#32))) idx = idx := by
    funext i
    simp only [select, cmpi, broadcastInDim, constantI]
    exact if_neg (word_nonneg _ (h i))
  rw [hs]
  have hj := ValueIdx.eq_ix2 (n0 := 133120) (n1 := 1024) j
  refine (congrArg _ hj).trans ?_
  refine Routing.gather_row (nb := 137216) (B := 1024) (n := 133120) gather_S137216x1024_S133120x1_S133120x1024_1_0_n_n_0_1_11024 rfl rfl rfl rfl rfl x _ (j 0) (j 1)
    ⟨(idx (ValueIdx.ix1 (n := 133120) (j 0))).toNat % 137216, Nat.mod_lt _ (by decide)⟩ ?_ (by decide)
  exact (Routing.bcCol (n := 133120) _ idx (j 0)).trans (word_mod _ (h _))

end Indexing

/-- Over the extended reals the kernel's rows are the reference's. -/
theorem value : Cert.algebraic_GatherIdeal_GatherRefIdeal (hGatherIdeal := Cert.GatherIdeal.Gen.facts)
    (hGatherRefIdeal := Cert.GatherRefIdeal.Gen.facts) (hPre_idx_in_rows := Cert.Pre_idx_in_rows.Gen.facts) := by
  intro m ρ m' ρ' hpre hagree
  refine ⟨fun c => Cert.GatherRun.G (F := Ideal) m c,
    (θ_run Cert.GatherIdeal.defs _ _).mono (fun _ q c => ⟨(q.1 c).2.2, (q.1 c).1, (q.1 c).2.1⟩) (run_ideal m ρ hpre), ?_⟩
  refine (θ_run Cert.GatherRefIdeal.defs _ _).mono (fun r h c => ⟨((h c).1).trans ?_, (h c).2⟩) (Cert.GatherRefIdeal.Value.run (F := Ideal) m' ρ')
  rw [(hagree c).1, (hagree c).2]
  exact funext fun j => indexed _ _ (in_rows_ideal m hpre c) j

/-- Over the machine's floats too, bit for bit. -/
theorem exact : Cert.bitexact_Gather_GatherRef (hGather := Cert.Gather.Gen.facts)
    (hGatherRef := Cert.GatherRef.Gen.facts) (hPre_idx_in_rows := Cert.Pre_idx_in_rows.Gen.facts) := by
  intro m ρ m' ρ' hpre hagree
  refine ⟨fun c => Cert.GatherRun.G (F := Bits) m c,
    (θ_run Cert.Gather.defs _ _).mono (fun _ q c => ⟨(q.1 c).2.2, (q.1 c).1, (q.1 c).2.1⟩) (Cert.GatherRun.run_main (F := Bits) m ρ (in_rows m hpre)), ?_⟩
  refine (θ_run Cert.GatherRef.defs _ _).mono (fun r h c => ⟨((h c).1).trans ?_, (h c).2⟩) (Cert.GatherRef.Value.run (F := Bits) m' ρ')
  rw [(hagree c).1, (hagree c).2]
  exact funext fun j => indexed _ _ (in_rows m hpre c) j

end Cert.GatherClaims

end
-- ==== Proof.FfnValue.lean ====
/- The value of `FfnIdeal`: its result array is the reference's term of the argument arrays. -/
module

public import proofs.«01_k».proof.Proof.Gen.FfnIdeal.Frame
public import proofs.«01_k».proof.Proof.Gen.FfnRefIdeal.Run
public import Idealize.ShloMosaic.Lib.Pipeline.ValueKit

@[expose] public section

set_option maxRecDepth 16384

noncomputable section

namespace Cert.FfnIdeal.Whole

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The root-mean-square norm of the residual stream's rows. -/
abbrev NORM (H : FVec Ideal S66560x1024 .f32) (W : FVec Ideal S1024 .f32) : FVec Ideal S66560x1024 .f32 :=
  mulf (mulf H
    (broadcastInDim S66560x1024 ![0, 1] Cert.FfnRefIdeal.Gen.bcast_S66560x1_S66560x1024_0_1
      (Host.rsqrt (addf (Host.divf (broadcastInDim Cert.FfnRefIdeal.S66560x1 ![0] Cert.FfnRefIdeal.Gen.bcast_S66560_S66560x1_0
        (Host.reduceAdd (mulf H H) (constant Cert.FfnRefIdeal.S_ .f32 0x00000000#32)
          Cert.FfnRefIdeal.Gen.reducesTo_S66560x1024_S66560_d1 Cert.FfnRefIdeal.Gen.h_S_))
        (broadcastInDim Cert.FfnRefIdeal.S66560x1 ![] Cert.FfnRefIdeal.Gen.bcast_S_S66560x1 (constant Cert.FfnRefIdeal.S_ .f32 0x44800000#32)))
        (broadcastInDim Cert.FfnRefIdeal.S66560x1 ![] Cert.FfnRefIdeal.Gen.bcast_S_S66560x1 (constant Cert.FfnRefIdeal.S_ .f32 0x358637BD#32))))))
    (broadcastInDim S66560x1024 ![0, 1] Cert.FfnRefIdeal.Gen.bcast_S1x1024_S66560x1024_0_1
      (broadcastInDim S1x1024 ![1] Cert.FfnRefIdeal.Gen.bcast_S1024_S1x1024_1 W))

/-- A projection of the normed rows to the feed-forward width. -/
abbrev PROJ (H : FVec Ideal S66560x1024 .f32) (W : FVec Ideal S1024 .f32) (A : FVec Ideal S1024x2816 .f32) : FVec Ideal Cert.FfnRefIdeal.S66560x2816 .f32 :=
  Host.dotGeneral Cert.FfnRefIdeal.dot_S66560x1024_S1024x2816_S66560x2816_1_0_0_1_n_n none (NORM H W) A

/-- The reference's term: the rows plus the gated feed-forward network of their norm. -/
abbrev REF (H : FVec Ideal S66560x1024 .f32) (W : FVec Ideal S1024 .f32) (A B : FVec Ideal S1024x2816 .f32) (D : FVec Ideal S2816x1024 .f32) :
    FVec Ideal S66560x1024 .f32 :=
  addf H (Host.dotGeneral Cert.FfnRefIdeal.dot_S66560x2816_S2816x1024_S66560x1024_1_0_0_1_n_n none
    (mulf (mulf (PROJ H W A) (Host.divf (broadcastInDim Cert.FfnRefIdeal.S66560x2816 ![] Cert.FfnRefIdeal.Gen.bcast_S_S66560x2816 (constant Cert.FfnRefIdeal.S_ .f32 0x3F800000#32))
      (addf (broadcastInDim Cert.FfnRefIdeal.S66560x2816 ![] Cert.FfnRefIdeal.Gen.bcast_S_S66560x2816 (constant Cert.FfnRefIdeal.S_ .f32 0x3F800000#32))
        (Host.exp (Host.negf (PROJ H W A)))))) (PROJ H W B)) D)

/-- Where each window stands at a point. -/
theorem idx : ∀ t : Fin cfg0.N, win0_0.index t = ![t.val / 2, 0] ∧ win0_1.index t = ![0, 0]
    ∧ win0_2.index t = ![0, t.val % 2] ∧ win0_3.index t = ![0, t.val % 2] ∧ win0_4.index t = ![t.val % 2, 0]
    ∧ win0_5.index t = ![t.val / 2, 0] :=
  (by decide +kernel : ∀ t : Fin grid0.N, _)

/-- Where an element of the output's block at a point sits in the result array. -/
theorem emb5 (t : Fin cfg0.N) (y : S512x1024.Idx) : ((cfg0.win 5).blk t).view.emb y
    = ix2 (⟨t.val / 2 * 512 + (y 0).val, by have h : t.val < 260 := t.isLt; have h' : (y 0).val < 512 := (y 0).isLt; omega⟩ : Fin 66560) (y 1 : Fin 1024) := by
  blk_ext [idx t]

/-- What the last point `t` of a row block stores, over the block `s` before it: the reference's term at the array index under it. -/
theorem point (c : Dev nD) (s t : Fin cfg0.N) (hst : s.val + 1 = t.val) (ht : t.val % 2 = 1) (y) :
    k0_pay4 (iblk m c 0 t) (k0_pay3 (k0_pay1 (iblk m c 0 s) (iblk m c 1 s)) (iblk m c 2 t) (iblk m c 3 t)
      (k0_pay3 (k0_pay1 (iblk m c 0 s) (iblk m c 1 s)) (iblk m c 2 s) (iblk m c 3 s) (k0_pay2 (F := Ideal)) (iblk m c 4 s)) (iblk m c 4 t)) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  rw [emb5]
  idx_vars y
  pointwise [k0_pay4, k0_pay3, k0_pay2, k0_pay1, REF, PROJ, NORM]
  rw [Fin.sum_univ_two_halves 1408 1408 rfl]
  simp only [zero_sub]
  have hs0 : s.val % 2 = 0 := by omega
  have hs2 : s.val / 2 = t.val / 2 := by omega
  blk_point [iblk, V, idx t, idx s, hs0, hs2, ht]

/-- The result array after the run is the reference's term. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have h1 : t.val % 2 = 1 := (flush0_5 t).mp hf
  have hs : t.val - 1 < cfg0.N := Nat.lt_of_le_of_lt (Nat.sub_le _ _) t.isLt
  have h0s : (⟨t.val - 1, hs⟩ : Fin cfg0.N).val % 2 = 0 := by show (t.val - 1) % 2 = 0; omega
  have hA := outsAt0_A m c ⟨t.val - 1, hs⟩ h0s (by omega)
  rw [after0_5, outsAt0_B m c t (by omega) h1]
  dsimp only at hA ⊢
  rw [hA]
  frame_out
  rw [show ∀ X, View.read (Elt Ideal) (View.whole cc0_scratch0) ((Memref.isWhole_whole cc0_scratch0).unread X) = X from fun X => (Memref.isWhole_whole cc0_scratch0).read_unread X,
    show ∀ X, View.read (Elt Ideal) (View.whole cc0_scratch1) ((Memref.isWhole_whole cc0_scratch1).unread X) = X from fun X => (Memref.isWhole_whole cc0_scratch1).read_unread X]
  exact point m c ⟨t.val - 1, hs⟩ t (by show t.val - 1 + 1 = t.val; omega) h1 y

end Cert.FfnIdeal.Whole

end
-- ==== Proof.FfnClaims.lean ====
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.FfnValue
public import Idealize.ShloMosaic.Lib.Quiescent

/-! # The claims about the dense feed-forward part

The two runs of the kernel are the generated ones; the reference is a host program, whose run is generated too, and which
has no semaphore. The value of the kernel's result is the theorem of `FfnValue`. -/

@[expose] public section

noncomputable section

namespace Cert.FfnClaims

open Idealize.ShloMosaic Idealize.SL.Sem

/-- The kernel runs to its end, keeps its arguments and leaves every semaphore at zero. -/
theorem frame_kernel : Cert.quiescent_Ffn (hFfn := Cert.Ffn.Gen.facts) :=
  fun m ρ _ => Cert.Ffn.Gen.frame m ρ

/-- The same of the kernel over the extended reals. -/
theorem frame_ideal : Cert.quiescent_FfnIdeal (hFfnIdeal := Cert.FfnIdeal.Gen.facts) :=
  fun m ρ _ => Cert.FfnIdeal.Gen.frame m ρ

/-- The same of the reference over the extended reals. -/
theorem frame_reference : Cert.quiescent_FfnRefIdeal (hFfnRefIdeal := Cert.FfnRefIdeal.Gen.facts) :=
  fun m ρ _ => (θ_run Cert.FfnRefIdeal.defs _ _).mono
    (fun r h => ⟨fun c => ⟨(h c).2.1, (h c).2.2.1, (h c).2.2.2.1, (h c).2.2.2.2.1, (h c).2.2.2.2.2⟩,
      sem_eq_zero_of_no_sems (by decide) r.2⟩)
    (Cert.FfnRefIdeal.Value.run (F := Ideal) m ρ)

/-- Over the extended reals the kernel's result is the reference's. -/
theorem value : Cert.algebraic_FfnIdeal_FfnRefIdeal (hFfnIdeal := Cert.FfnIdeal.Gen.facts)
    (hFfnRefIdeal := Cert.FfnRefIdeal.Gen.facts) := by
  intro m ρ m' ρ' _ hagree
  refine ⟨fun c => (Cert.FfnIdeal.Gen.dats m 0 c).arrAt 5 (Cert.FfnIdeal.cfgs 0).N,
    Cert.FfnIdeal.Value.run_blocks (F := Ideal) m ρ, ?_⟩
  refine (θ_run Cert.FfnRefIdeal.defs _ _).mono (fun r h c => ⟨((h c).1).trans ?_, (h c).2.1, (h c).2.2.1, (h c).2.2.2.1, (h c).2.2.2.2.1, (h c).2.2.2.2.2⟩)
    (Cert.FfnRefIdeal.Value.run (F := Ideal) m' ρ')
  · refine Eq.trans ?_ (Cert.FfnIdeal.Whole.final m c).symm
    rw [← (hagree c).1, ← (hagree c).2.1, ← (hagree c).2.2.1, ← (hagree c).2.2.2.1, ← (hagree c).2.2.2.2] <;> rfl

end Cert.FfnClaims

end
-- ==== Proof.MergeValue.lean ====
/- The value of `MergeIdeal`: its result array is the reference's term of the argument arrays. -/
module

public import proofs.«01_k».proof.Proof.Gen.MergeIdeal.Frame
public import proofs.«01_k».proof.Proof.Gen.MergeRefIdeal.Run
public import Idealize.ShloMosaic.Lib.Pipeline.ValueKit
public import Idealize.ShloMosaic.Lib.StableHlo.RunRead

@[expose] public section

set_option maxRecDepth 16384

noncomputable section

namespace Cert.MergeIdeal.Whole

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The root-mean-square norm of the residual stream's rows. -/
abbrev NORM (H : FVec Ideal S66560x1024 .f32) (W : FVec Ideal S1024 .f32) : FVec Ideal S66560x1024 .f32 :=
  mulf (mulf H
    (broadcastInDim S66560x1024 ![0, 1] Cert.MergeRefIdeal.Gen.bcast_S66560x1_S66560x1024_0_1
      (Host.rsqrt (addf (Host.divf (broadcastInDim Cert.MergeRefIdeal.S66560x1 ![0] Cert.MergeRefIdeal.Gen.bcast_S66560_S66560x1_0
        (Host.reduceAdd (mulf H H) (constant Cert.MergeRefIdeal.S_ .f32 0x00000000#32)
          Cert.MergeRefIdeal.Gen.reducesTo_S66560x1024_S66560_d1 Cert.MergeRefIdeal.Gen.h_S_))
        (broadcastInDim Cert.MergeRefIdeal.S66560x1 ![] Cert.MergeRefIdeal.Gen.bcast_S_S66560x1 (constant Cert.MergeRefIdeal.S_ .f32 0x44800000#32)))
        (broadcastInDim Cert.MergeRefIdeal.S66560x1 ![] Cert.MergeRefIdeal.Gen.bcast_S_S66560x1 (constant Cert.MergeRefIdeal.S_ .f32 0x358637BD#32))))))
    (broadcastInDim S66560x1024 ![0, 1] Cert.MergeRefIdeal.Gen.bcast_S1x1024_S66560x1024_0_1
      (broadcastInDim S1x1024 ![1] Cert.MergeRefIdeal.Gen.bcast_S1024_S1x1024_1 W))

/-- The four branches' gates: the logistic function of the input projection's last columns. -/
abbrev GATES (H : FVec Ideal S66560x1024 .f32) (W : FVec Ideal S1024 .f32) (A : FVec Ideal S1024x7384 .f32) : FVec Ideal Cert.MergeRefIdeal.S66560x4x1024 .f32 :=
  shapeCast _ (Host.divf (broadcastInDim Cert.MergeRefIdeal.S66560x4096 ![] Cert.MergeRefIdeal.Gen.bcast_S_S66560x4096 (constant Cert.MergeRefIdeal.S_ .f32 0x3F800000#32))
    (addf (broadcastInDim Cert.MergeRefIdeal.S66560x4096 ![] Cert.MergeRefIdeal.Gen.bcast_S_S66560x4096 (constant Cert.MergeRefIdeal.S_ .f32 0x3F800000#32))
      (Host.exp (Host.negf (extractStridedSlice Cert.MergeRefIdeal.S66560x4096 ![0, 3288]
        (Host.dotGeneral Cert.MergeRefIdeal.dot_S66560x1024_S1024x7384_S66560x7384_1_0_0_1_n_n none (NORM H W) A)
        Cert.MergeRefIdeal.Gen.slices_S66560x7384_S66560x4096_0_3288)))))
    Cert.MergeRefIdeal.Gen.shapeCasts_S66560x4096_S66560x4x1024

/-- A branch's projection to the model's width. -/
abbrev PROJ (Y : FVec Ideal S66560x256 .bf16) (V : FVec Ideal Cert.MergeRefIdeal.S1x256x1024 .f32) : FVec Ideal S66560x1024 .f32 :=
  Host.dotGeneral Cert.MergeRefIdeal.dot_S66560x256_S256x1024_S66560x1024_1_0_0_1_n_n none (extf .f32 Y Cert.MergeRefIdeal.Gen.bitsLt_bf16_f32)
    (shapeCast _ V Cert.MergeRefIdeal.Gen.shapeCasts_S1x256x1024_S256x1024)

/-- The gated branches added up. -/
abbrev MERGED (G : FVec Ideal Cert.MergeRefIdeal.S66560x4x1024 .f32) (Y0 : FVec Ideal S66560x256 .bf16) (Y1 : FVec Ideal S66560x512 .bf16)
    (Y2 Y3 : FVec Ideal S66560x256 .bf16) (V : FVec Ideal S4x256x1024 .f32) : FVec Ideal S66560x1024 .f32 :=
  addf (addf (addf (addf (broadcastInDim S66560x1024 ![] Cert.MergeRefIdeal.Gen.bcast_S_S66560x1024 (constant Cert.MergeRefIdeal.S_ .f32 0x00000000#32))
    (mulf (shapeCast _ (extractStridedSlice Cert.MergeRefIdeal.S66560x1x1024 ![0, 0, 0] G Cert.MergeRefIdeal.Gen.slices_S66560x4x1024_S66560x1x1024_0_0_0) Cert.MergeRefIdeal.Gen.shapeCasts_S66560x1x1024_S66560x1024)
      (PROJ Y0 (extractStridedSlice Cert.MergeRefIdeal.S1x256x1024 ![0, 0, 0] V Cert.MergeRefIdeal.Gen.slices_S4x256x1024_S1x256x1024_0_0_0))))
    (mulf (shapeCast _ (extractStridedSlice Cert.MergeRefIdeal.S66560x1x1024 ![0, 1, 0] G Cert.MergeRefIdeal.Gen.slices_S66560x4x1024_S66560x1x1024_0_1_0) Cert.MergeRefIdeal.Gen.shapeCasts_S66560x1x1024_S66560x1024)
      (PROJ (shapeCast _ (extractStridedSlice Cert.MergeRefIdeal.S66560x4x64 ![0, 0, 0] (shapeCast _ Y1 Cert.MergeRefIdeal.Gen.shapeCasts_S66560x512_S66560x4x128) Cert.MergeRefIdeal.Gen.slices_S66560x4x128_S66560x4x64_0_0_0)
          Cert.MergeRefIdeal.Gen.shapeCasts_S66560x4x64_S66560x256)
        (extractStridedSlice Cert.MergeRefIdeal.S1x256x1024 ![1, 0, 0] V Cert.MergeRefIdeal.Gen.slices_S4x256x1024_S1x256x1024_1_0_0))))
    (mulf (shapeCast _ (extractStridedSlice Cert.MergeRefIdeal.S66560x1x1024 ![0, 2, 0] G Cert.MergeRefIdeal.Gen.slices_S66560x4x1024_S66560x1x1024_0_2_0) Cert.MergeRefIdeal.Gen.shapeCasts_S66560x1x1024_S66560x1024)
      (PROJ Y2 (extractStridedSlice Cert.MergeRefIdeal.S1x256x1024 ![2, 0, 0] V Cert.MergeRefIdeal.Gen.slices_S4x256x1024_S1x256x1024_2_0_0))))
    (mulf (shapeCast _ (extractStridedSlice Cert.MergeRefIdeal.S66560x1x1024 ![0, 3, 0] G Cert.MergeRefIdeal.Gen.slices_S66560x4x1024_S66560x1x1024_0_3_0) Cert.MergeRefIdeal.Gen.shapeCasts_S66560x1x1024_S66560x1024)
      (PROJ Y3 (extractStridedSlice Cert.MergeRefIdeal.S1x256x1024 ![3, 0, 0] V Cert.MergeRefIdeal.Gen.slices_S4x256x1024_S1x256x1024_3_0_0)))

/-- The reference's term: the rows plus the output projection of the merged branches. -/
abbrev REF (H : FVec Ideal S66560x1024 .f32) (W : FVec Ideal S1024 .f32) (A : FVec Ideal S1024x7384 .f32)
    (Y0 : FVec Ideal S66560x256 .bf16) (Y1 : FVec Ideal S66560x512 .bf16) (Y2 Y3 : FVec Ideal S66560x256 .bf16)
    (V : FVec Ideal S4x256x1024 .f32) (D : FVec Ideal S1024x1024 .f32) : FVec Ideal S66560x1024 .f32 :=
  addf H (Host.dotGeneral Cert.MergeRefIdeal.dot_S66560x1024_S1024x1024_S66560x1024_1_0_0_1_n_n none (MERGED (GATES H W A) Y0 Y1 Y2 Y3 V) D)

/-- Where each window stands at a point. -/
theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] ∧ win0_7.index t = ![0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- Where an element of the output's block at a point sits in the result array. -/
theorem emb12 (t : Fin cfg0.N) (y : S1024x1024.Idx) : ((cfg0.win 12).blk t).view.emb y
    = ix2 (⟨t.val * 1024 + (y 0).val, by have h : t.val < 65 := t.isLt; have h' : (y 0).val < 1024 := (y 0).isLt; omega⟩ : Fin 66560) (y 1 : Fin 1024) := by
  blk_ext [idx t]

/-- The second branch's weight rows, each group of 64 followed by 64 rows of zeros. -/
abbrev SLOTS (f : FVec Ideal S4x256x1024 .f32) : FVec Ideal S512x1024 .bf16 :=
  concatenate S512x1024 0 [
    ⟨S64x1024, shapeCast S64x1024 (extractStridedSlice S1x64x1024 ![1, 0, 0] (truncf .bf16 f bitsLt_bf16_f32) slices_S4x256x1024_S1x64x1024_1_0_0) shapeCasts_S1x64x1024_S64x1024⟩,
    ⟨S64x1024, broadcastInDim S64x1024 ![] bcast_S_S64x1024 (constant S_ .bf16 0x0000#16)⟩,
    ⟨S64x1024, shapeCast S64x1024 (extractStridedSlice S1x64x1024 ![1, 64, 0] (truncf .bf16 f bitsLt_bf16_f32) slices_S4x256x1024_S1x64x1024_1_64_0) shapeCasts_S1x64x1024_S64x1024⟩,
    ⟨S64x1024, broadcastInDim S64x1024 ![] bcast_S_S64x1024 (constant S_ .bf16 0x0000#16)⟩,
    ⟨S64x1024, shapeCast S64x1024 (extractStridedSlice S1x64x1024 ![1, 128, 0] (truncf .bf16 f bitsLt_bf16_f32) slices_S4x256x1024_S1x64x1024_1_128_0) shapeCasts_S1x64x1024_S64x1024⟩,
    ⟨S64x1024, broadcastInDim S64x1024 ![] bcast_S_S64x1024 (constant S_ .bf16 0x0000#16)⟩,
    ⟨S64x1024, shapeCast S64x1024 (extractStridedSlice S1x64x1024 ![1, 192, 0] (truncf .bf16 f bitsLt_bf16_f32) slices_S4x256x1024_S1x64x1024_1_192_0) shapeCasts_S1x64x1024_S64x1024⟩,
    ⟨S64x1024, broadcastInDim S64x1024 ![] bcast_S_S64x1024 (constant S_ .bf16 0x0000#16)⟩]
    concatenates_S64x1024_S64x1024_S64x1024_S64x1024_S64x1024_S64x1024_S64x1024_S64x1024_S512x1024_d0

/-- `SLOTS` at an index. -/
theorem slots_apply (f : FVec Ideal S4x256x1024 .f32) (a : Fin 512) (b : Fin 1024) : SLOTS f (ix2 a b)
    = (if h : a.val % 128 < 64 then f (ix3 1 ⟨a.val / 128 * 64 + a.val % 128, by have := a.isLt; omega⟩ b) else (0 : EReal)) := by
  have ha := a.isLt
  obtain ⟨R, hR⟩ : ∃ R : EReal, R = (if h : a.val % 128 < 64 then f (ix3 1 ⟨a.val / 128 * 64 + a.val % 128, by omega⟩ b) else (0 : EReal)) := ⟨_, rfl⟩
  rw [← hR]
  have key : ∀ n (hn : n < 256), a.val % 128 < 64 → n = a.val / 128 * 64 + a.val % 128 → f (ix3 1 ⟨n, hn⟩ b) = R := by
    intro n hn h e
    subst e
    rw [hR, dif_pos h]
  have key0 : ¬a.val % 128 < 64 → (0 : EReal) = R := fun h => by rw [hR, dif_neg h]
  clear hR
  pointwise [SLOTS]
  split_ifs <;> first
    | exact key0 (by omega)
    | exact key _ _ (by omega) (by omega)

/-- Window 8 holds them whole. -/
theorem read8 (c : Dev nD) (t : Fin cfg0.N) (a : Fin 512) (b : Fin 1024) : iblk m c 8 t (ix2 a b)
    = SLOTS (m (c, Proc.tc.devRef main_arg7)) (ix2 a b) := by
  have e : ((cfg0.win 8).blk t).view.emb (ix2 a b) = ix2 a b := by blk_ext [idx t]
  show V m c main_v15 (((cfg0.win 8).blk t).view.emb (ix2 a b)) = _
  rw [e]
  unfold V
  after_reads_simp [Matrix.cons_val]
  rfl

/-- A sum over four slots of 128 whose second halves vanish is the sum over the first halves. -/
theorem slot_sum (f : Fin 512 → EReal) (g : Fin 256 → EReal) (h0 : ∀ a, ¬a.val % 128 < 64 → f a = 0)
    (hg : ∀ k : Fin 256, f ⟨k.val / 64 * 128 + k.val % 64, by have := k.isLt; omega⟩ = g k) : ∑ a, f a = ∑ k, g k := by
  refine (Finset.sum_of_injOn (fun k : Fin 256 => (⟨k.val / 64 * 128 + k.val % 64, by have := k.isLt; omega⟩ : Fin 512)) ?_ (fun _ _ => Finset.mem_coe.2 (Finset.mem_univ _)) ?_
    (fun k _ => (hg k).symm)).symm
  · intro k _ k' _ h
    have h' : k.val / 64 * 128 + k.val % 64 = k'.val / 64 * 128 + k'.val % 64 := congrArg Fin.val h
    exact Fin.ext (by omega)
  · intro a _ ha
    refine h0 a fun hlt => ha ⟨⟨a.val / 128 * 64 + a.val % 128, by have := a.isLt; omega⟩, Finset.mem_coe.2 (Finset.mem_univ _), Fin.ext ?_⟩
    dsimp only
    omega

/-- The second branch's projection over the padded rows is the one over the rows without the padding. -/
theorem branch1 (c : Dev nD) (t : Fin cfg0.N) (r b : Fin 1024) :
    (∑ k, HMul.hMul (α := EReal) (β := EReal) (γ := EReal) (iblk m c 4 t (ix2 r k)) (iblk m c 8 t (ix2 k b)))
      = ∑ k : Fin 256, HMul.hMul (α := EReal) (β := EReal) (γ := EReal)
          (iblk m c 4 t (ix2 r (⟨k.val / 64 * 128 + k.val % 64, by have := k.isLt; omega⟩ : Fin 512)))
          (m ((c : Thread nD τ).loc main_arg7) (ix3 1 k b)) := by
  refine slot_sum _ _ (fun a ha => ?_) fun k => ?_
  · rw [read8, slots_apply, dif_neg ha]
    exact mul_zero _
  · have hk := k.isLt
    rw [read8, slots_apply, dif_pos (by dsimp only; omega)]
    refine congrArg (HMul.hMul (α := EReal) (β := EReal) (γ := EReal) _) ?_
    refine congrArg (m (c, Proc.tc.devRef main_arg7)) (congrArg (ix3 1 · b) (Fin.ext ?_))
    dsimp only
    omega

/-- Window 2 holds the gates' columns of the input projection. -/
theorem read2 (c : Dev nD) (t : Fin cfg0.N) (a : Fin 1024) (b : Fin 4096) : iblk m c 2 t (ix2 a b)
    = m ((c : Thread nD τ).loc main_arg2) (ix2 a ⟨3288 + b.val, by have := b.isLt; omega⟩) := by
  have e : ((cfg0.win 2).blk t).view.emb (ix2 a b) = ix2 a b := by blk_ext [idx t]
  show V m c main_v1 (((cfg0.win 2).blk t).view.emb (ix2 a b)) = _
  rw [e]
  unfold V
  entry_read
  pointwise

/-- The result array after the run is the reference's term. -/
theorem final (c : Dev nD) : (dats m 0 c).arrAt 12 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]; frame_out
  rw [emb12]
  idx_vars y
  pointwise [k0_pay1, k0_pay2, k0_pay3, k0_pay4, k0_pay5, k0_pay6, k0_pay7, k0_pay8, REF, MERGED, PROJ, GATES, NORM]
  simp only [branch1, read2, zero_sub]
  blk_point [iblk, V, idx t]

end Cert.MergeIdeal.Whole

end
-- ==== Proof.MergeClaims.lean ====
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.MergeValue
public import Idealize.ShloMosaic.Lib.Quiescent

/-! # The claims about the merge of the mixers

The two runs of the kernel are the generated ones; the reference is a host program, whose run is generated too, and which
has no semaphore. The value of the kernel's result is the theorem of `MergeValue`. -/

@[expose] public section

noncomputable section

namespace Cert.MergeClaims

open Idealize.ShloMosaic Idealize.SL.Sem

/-- The kernel runs to its end, keeps its arguments and leaves every semaphore at zero. -/
theorem frame_kernel : Cert.quiescent_Merge (hMerge := Cert.Merge.Gen.facts) :=
  fun m ρ _ => Cert.Merge.Gen.frame m ρ

/-- The same of the kernel over the extended reals. -/
theorem frame_ideal : Cert.quiescent_MergeIdeal (hMergeIdeal := Cert.MergeIdeal.Gen.facts) :=
  fun m ρ _ => Cert.MergeIdeal.Gen.frame m ρ

/-- The same of the reference over the extended reals. -/
theorem frame_reference : Cert.quiescent_MergeRefIdeal (hMergeRefIdeal := Cert.MergeRefIdeal.Gen.facts) :=
  fun m ρ _ => (θ_run Cert.MergeRefIdeal.defs _ _).mono
    (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩,
      sem_eq_zero_of_no_sems (by decide) r.2⟩)
    (Cert.MergeRefIdeal.Value.run (F := Ideal) m ρ)

/-- Over the extended reals the kernel's result is the reference's. -/
theorem value : Cert.algebraic_MergeIdeal_MergeRefIdeal (hMergeIdeal := Cert.MergeIdeal.Gen.facts)
    (hMergeRefIdeal := Cert.MergeRefIdeal.Gen.facts) := by
  intro m ρ m' ρ' _ hagree
  refine ⟨fun c => (Cert.MergeIdeal.Gen.dats m 0 c).arrAt 12 (Cert.MergeIdeal.cfgs 0).N,
    Cert.MergeIdeal.Value.run_blocks (F := Ideal) m ρ, ?_⟩
  refine (θ_run Cert.MergeRefIdeal.defs _ _).mono (fun r h c => ⟨((h c).1).trans ?_, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩)
    (Cert.MergeRefIdeal.Value.run (F := Ideal) m' ρ')
  · refine Eq.trans ?_ (Cert.MergeIdeal.Whole.final m c).symm
    rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2] <;> rfl

end Cert.MergeClaims

end
-- ==== Proof.InprojValue.lean ====
/- The values of `InprojIdeal`: its four result arrays are the reference's terms of the argument arrays. -/
module

public import proofs.«01_k».proof.Proof.Gen.InprojIdeal.Frame
public import proofs.«01_k».proof.Proof.Gen.InprojRefIdeal.Run
public import Idealize.ShloMosaic.Lib.Pipeline.ValueKit
public import Idealize.ShloMosaic.Lib.StableHlo.RunRead

@[expose] public section

set_option maxRecDepth 16384

noncomputable section

namespace Cert.InprojIdeal.Whole

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

/-- The root-mean-square norm of the residual stream's rows. -/
def NORM (H : FVec Ideal S66560x1024 .f32) (W : FVec Ideal S1024 .f32) : FVec Ideal S66560x1024 .f32 :=
  mulf (mulf H
    (broadcastInDim S66560x1024 ![0, 1] Cert.InprojRefIdeal.Gen.bcast_S66560x1_S66560x1024_0_1
      (Host.rsqrt (addf (Host.divf (broadcastInDim Cert.InprojRefIdeal.S66560x1 ![0] Cert.InprojRefIdeal.Gen.bcast_S66560_S66560x1_0
        (Host.reduceAdd (mulf H H) (constant Cert.InprojRefIdeal.S_ .f32 0x00000000#32)
          Cert.InprojRefIdeal.Gen.reducesTo_S66560x1024_S66560_d1 Cert.InprojRefIdeal.Gen.h_S_))
        (broadcastInDim Cert.InprojRefIdeal.S66560x1 ![] Cert.InprojRefIdeal.Gen.bcast_S_S66560x1 (constant Cert.InprojRefIdeal.S_ .f32 0x44800000#32)))
        (broadcastInDim Cert.InprojRefIdeal.S66560x1 ![] Cert.InprojRefIdeal.Gen.bcast_S_S66560x1 (constant Cert.InprojRefIdeal.S_ .f32 0x358637BD#32))))))
    (broadcastInDim S66560x1024 ![0, 1] Cert.InprojRefIdeal.Gen.bcast_S1x1024_S66560x1024_0_1
      (broadcastInDim S1x1024 ![1] Cert.InprojRefIdeal.Gen.bcast_S1024_S1x1024_1 W))

/-- All the columns of the input projection of the normed rows. -/
def PROJ (H : FVec Ideal S66560x1024 .f32) (W : FVec Ideal S1024 .f32) (A : FVec Ideal S1024x7384 .f32) : FVec Ideal Cert.InprojRefIdeal.S66560x7384 .f32 :=
  Host.dotGeneral Cert.InprojRefIdeal.dot_S66560x1024_S1024x7384_S66560x7384_1_0_0_1_n_n none (NORM H W) A

/-- The projection at an index. -/
theorem proj_apply (H : FVec Ideal S66560x1024 .f32) (W : FVec Ideal S1024 .f32) (A : FVec Ideal S1024x7384 .f32) (r : Fin 66560) (j : Fin 7384) :
    PROJ H W A (ix2 r j) = ∑ k : Fin 1024, HMul.hMul (α := EReal) (β := EReal) (γ := EReal) (NORM H W (ix2 r k)) (A (ix2 k j)) := by
  pointwise [PROJ]

/-- The integer zero is the number zero. -/
theorem zero_of_int : (FloatOps.sitofp (F := Ideal) FTy.f32 0#32 : EReal) = 0 := by
  show (((0#32 : BitVec 32).toInt : ℝ) : EReal) = 0
  rw [show (0#32 : BitVec 32).toInt = 0 by decide]
  norm_num

/-- Where each window stands at a point. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- The norm's weights as the kernel has them. -/
theorem read1 (c : Dev nD) (t : Fin cfg0.N) (k : Fin 1024) : iblk m c 1 t (ix2 (0 : Fin 1) k) = m ((c : Thread nD τ).loc main_arg1) (ix1 k) := by
  have e : ((cfg0.win 1).blk t).view.emb (ix2 (0 : Fin 1) k) = ix2 (0 : Fin 1) k := by blk_ext [idx t]
  show V m c main_v19 (((cfg0.win 1).blk t).view.emb (ix2 (0 : Fin 1) k)) = _
  rw [e]
  have e' : V m c main_v19 = shapeCast S1x1024 (m ((c : Thread nD τ).loc main_arg1)) shapeCasts_S1024_S1x1024 := by
    unfold V
    after_reads_simp [Matrix.cons_val]
    rfl
  rw [e']
  pointwise

/-- A block of rows, normed, is the rows of the normed array. -/
theorem norm_apply (c : Dev nD) (t : Fin cfg0.N) (r : Fin 512) (k : Fin 1024) : k0_pay1 (iblk m c 0 t) (iblk m c 1 t) (ix2 r k)
    = NORM (m ((c : Thread nD τ).loc main_arg0)) (m ((c : Thread nD τ).loc main_arg1))
        (ix2 (⟨t.val * 512 + r.val, by have h : t.val < 130 := t.isLt; have := r.isLt; omega⟩ : Fin 66560) k) := by
  pointwise [k0_pay1, NORM]
  simp only [read1]
  blk_point [iblk, V, idx t]

/-- The first mixer's columns of the weights, as the kernel's host part lays them out: padded with zeros to whole lanes. -/
abbrev WG (f : FVec Ideal S1024x7384 .f32) : FVec Ideal S1024x896 .bf16 :=
  truncf .bf16 (concatenate S1024x896 1 [⟨S1024x512, extractStridedSlice S1024x512 ![0, 0] f slices_S1024x7384_S1024x512_0_0⟩,
    ⟨S1024x256, extractStridedSlice S1024x256 ![0, 528] f slices_S1024x7384_S1024x256_0_528⟩,
    ⟨S1024x128, pad S1024x128 ![0, 0] ![0, 112] ![0, 0] (extractStridedSlice S1024x16 ![0, 512] f slices_S1024x7384_S1024x16_0_512)
      (sitofp .f32 (constantI S_ 32 0#32)) pads_S1024x16_S1024x128_000_01120 h_S_⟩] concatenates_S1024x512_S1024x256_S1024x128_S1024x896_d1) bitsLt_bf16_f32

/-- `WG` at an index. -/
theorem wG_apply (f : FVec Ideal S1024x7384 .f32) (k : Fin 1024) (j : Fin 896) :
    WG f (ix2 k j) = (if h : j.val < 784 then f (ix2 k ⟨(if j.val < 512 then j.val else if j.val < 768 then j.val + 16 else j.val - 256), by (try split_ifs) <;> omega⟩) else (0 : EReal)) := by
  have hj := j.isLt
  obtain ⟨R, hR⟩ : ∃ R : EReal, R = (if h : j.val < 784 then f (ix2 k ⟨(if j.val < 512 then j.val else if j.val < 768 then j.val + 16 else j.val - 256), by (try split_ifs) <;> omega⟩) else (0 : EReal)) := ⟨_, rfl⟩
  rw [← hR]
  have key : ∀ n (hn : n < 7384), j.val < 784 → n = (if j.val < 512 then j.val else if j.val < 768 then j.val + 16 else j.val - 256) → f (ix2 k ⟨n, hn⟩) = R := by
    intro n hn h e
    subst e
    rw [hR, dif_pos h]
  have key0 : ¬j.val < 784 → (0 : EReal) = R := fun h => by rw [hR, dif_neg h]
  clear hR
  pointwise [WG]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The first mixer's columns of the projection, as the reference cuts them out: followed by columns of zeros. -/
abbrev PG (P : FVec Ideal Cert.InprojRefIdeal.S66560x7384 .f32) : FVec Ideal Cert.InprojRefIdeal.S66560x896 .f32 :=
  concatenate Cert.InprojRefIdeal.S66560x896 1 [⟨Cert.InprojRefIdeal.S66560x128, extractStridedSlice Cert.InprojRefIdeal.S66560x128 ![0, 0] P Cert.InprojRefIdeal.Gen.slices_S66560x7384_S66560x128_0_0⟩,
    ⟨Cert.InprojRefIdeal.S66560x128, extractStridedSlice Cert.InprojRefIdeal.S66560x128 ![0, 128] P Cert.InprojRefIdeal.Gen.slices_S66560x7384_S66560x128_0_128⟩,
    ⟨Cert.InprojRefIdeal.S66560x256, extractStridedSlice Cert.InprojRefIdeal.S66560x256 ![0, 256] P Cert.InprojRefIdeal.Gen.slices_S66560x7384_S66560x256_0_256⟩,
    ⟨Cert.InprojRefIdeal.S66560x256, extractStridedSlice Cert.InprojRefIdeal.S66560x256 ![0, 528] P Cert.InprojRefIdeal.Gen.slices_S66560x7384_S66560x256_0_528⟩,
    ⟨Cert.InprojRefIdeal.S66560x16, extractStridedSlice Cert.InprojRefIdeal.S66560x16 ![0, 512] P Cert.InprojRefIdeal.Gen.slices_S66560x7384_S66560x16_0_512⟩,
    ⟨Cert.InprojRefIdeal.S66560x112, broadcastInDim Cert.InprojRefIdeal.S66560x112 ![] Cert.InprojRefIdeal.Gen.bcast_S_S66560x112 (constant Cert.InprojRefIdeal.S_ .f32 0x00000000#32)⟩]
    Cert.InprojRefIdeal.Gen.concatenates_S66560x128_S66560x128_S66560x256_S66560x256_S66560x16_S66560x112_S66560x896_d1

/-- `PG` at an index. -/
theorem pG_apply (P : FVec Ideal Cert.InprojRefIdeal.S66560x7384 .f32) (r : Fin 66560) (j : Fin 896) :
    PG P (ix2 r j) = (if h : j.val < 784 then P (ix2 r ⟨(if j.val < 512 then j.val else if j.val < 768 then j.val + 16 else j.val - 256), by (try split_ifs) <;> omega⟩) else (0 : EReal)) := by
  have hj := j.isLt
  obtain ⟨R, hR⟩ : ∃ R : EReal, R = (if h : j.val < 784 then P (ix2 r ⟨(if j.val < 512 then j.val else if j.val < 768 then j.val + 16 else j.val - 256), by (try split_ifs) <;> omega⟩) else (0 : EReal)) := ⟨_, rfl⟩
  rw [← hR]
  have key : ∀ n (hn : n < 7384), j.val < 784 → n = (if j.val < 512 then j.val else if j.val < 768 then j.val + 16 else j.val - 256) → P (ix2 r ⟨n, hn⟩) = R := by
    intro n hn h e
    subst e
    rw [hR, dif_pos h]
  have key0 : ¬j.val < 784 → (0 : EReal) = R := fun h => by rw [hR, dif_neg h]
  clear hR
  pointwise [PG]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The kernel's window on the first mixer's weights holds them whole. -/
theorem read2 (c : Dev nD) (t : Fin cfg0.N) (k : Fin 1024) (j : Fin 896) : iblk m c 2 t (ix2 k j)
    = WG (m (c, Proc.tc.devRef main_arg2)) (ix2 k j) := by
  have e : ((cfg0.win 2).blk t).view.emb (ix2 k j) = ix2 k j := by blk_ext [idx t]
  show V m c main_v5 (((cfg0.win 2).blk t).view.emb (ix2 k j)) = _
  rw [e]
  unfold V
  after_reads_simp [Matrix.cons_val]
  rfl

/-- Where an element of the first output's block at a point sits in its array. -/
theorem emb6 (t : Fin cfg0.N) (y : S512x896.Idx) : ((cfg0.win 6).blk t).view.emb y
    = ix2 (⟨t.val * 512 + (y 0).val, by have h : t.val < 130 := t.isLt; have h' : (y 0).val < 512 := (y 0).isLt; omega⟩ : Fin 66560) (y 1 : Fin 896) := by
  blk_ext [idx t]

/-- The kernel's product for the first mixer at an index. -/
theorem prodG (x : Vec Ideal S512x1024 .f32) (v : Vec Ideal S1x1024 .f32) (w : Vec Ideal S1024x896 .bf16) (r : Fin 512) (j : Fin 896) :
    k0_pay2 x v w (ix2 r j) = ∑ k : Fin 1024, HMul.hMul (α := EReal) (β := EReal) (γ := EReal) (k0_pay1 x v (ix2 r k)) (w (ix2 k j)) := by
  pointwise [k0_pay2]

/-- The products over the first mixer's padded columns are the projection's cut columns. -/
theorem colsG (c : Dev nD) (t : Fin cfg0.N) (r : Fin 512) (j : Fin 896) :
    k0_pay2 (iblk m c 0 t) (iblk m c 1 t) (iblk m c 2 t) (ix2 r j)
    = PG (PROJ (m ((c : Thread nD τ).loc main_arg0)) (m ((c : Thread nD τ).loc main_arg1)) (m ((c : Thread nD τ).loc main_arg2)))
        (ix2 (⟨t.val * 512 + r.val, by have h : t.val < 130 := t.isLt; have := r.isLt; omega⟩ : Fin 66560) j) := by
  rw [prodG, pG_apply]
  by_cases h : j.val < 784
  · rw [dif_pos h, proj_apply]
    refine Finset.sum_congr rfl fun k _ => ?_
    rw [norm_apply, read2, wG_apply, dif_pos h]
  · rw [dif_neg h]
    refine Finset.sum_eq_zero fun k _ => ?_
    rw [read2, wG_apply, dif_neg h]
    exact mul_zero _

/-- The first result array after the run is the reference's term. -/
theorem final6 (c : Dev nD) : (dats m 0 c).arrAt 6 (cfgs 0).N
    = PG (PROJ (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  rw [after0_6]; frame_out
  rw [emb6]
  idx_vars y
  exact colsG m c t y0 y1

/-- The second mixer's columns of the weights, as the kernel's host part lays them out: padded with zeros to whole lanes. -/
abbrev WM (f : FVec Ideal S1024x7384 .f32) : FVec Ideal S1024x512 .bf16 :=
  truncf .bf16 (concatenate S1024x512 1 [⟨S1024x384, extractStridedSlice S1024x384 ![0, 784] f slices_S1024x7384_S1024x384_0_784⟩,
    ⟨S1024x128, pad S1024x128 ![0, 0] ![0, 96] ![0, 0] (extractStridedSlice S1024x32 ![0, 1168] f slices_S1024x7384_S1024x32_0_1168)
      (sitofp .f32 (constantI S_ 32 0#32)) pads_S1024x32_S1024x128_000_0960 h_S_⟩] concatenates_S1024x384_S1024x128_S1024x512_d1) bitsLt_bf16_f32

/-- `WM` at an index. -/
theorem wM_apply (f : FVec Ideal S1024x7384 .f32) (k : Fin 1024) (j : Fin 512) :
    WM f (ix2 k j) = (if h : j.val < 416 then f (ix2 k ⟨(784 + j.val), by (try split_ifs) <;> omega⟩) else (0 : EReal)) := by
  have hj := j.isLt
  obtain ⟨R, hR⟩ : ∃ R : EReal, R = (if h : j.val < 416 then f (ix2 k ⟨(784 + j.val), by (try split_ifs) <;> omega⟩) else (0 : EReal)) := ⟨_, rfl⟩
  rw [← hR]
  have key : ∀ n (hn : n < 7384), j.val < 416 → n = (784 + j.val) → f (ix2 k ⟨n, hn⟩) = R := by
    intro n hn h e
    subst e
    rw [hR, dif_pos h]
  have key0 : ¬j.val < 416 → (0 : EReal) = R := fun h => by rw [hR, dif_neg h]
  clear hR
  pointwise [WM]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The second mixer's columns of the projection, as the reference cuts them out: followed by columns of zeros. -/
abbrev PM (P : FVec Ideal Cert.InprojRefIdeal.S66560x7384 .f32) : FVec Ideal Cert.InprojRefIdeal.S66560x512 .f32 :=
  concatenate Cert.InprojRefIdeal.S66560x512 1 [⟨Cert.InprojRefIdeal.S66560x256, extractStridedSlice Cert.InprojRefIdeal.S66560x256 ![0, 784] P Cert.InprojRefIdeal.Gen.slices_S66560x7384_S66560x256_0_784⟩,
    ⟨Cert.InprojRefIdeal.S66560x128, extractStridedSlice Cert.InprojRefIdeal.S66560x128 ![0, 1040] P Cert.InprojRefIdeal.Gen.slices_S66560x7384_S66560x128_0_1040⟩,
    ⟨Cert.InprojRefIdeal.S66560x32, extractStridedSlice Cert.InprojRefIdeal.S66560x32 ![0, 1168] P Cert.InprojRefIdeal.Gen.slices_S66560x7384_S66560x32_0_1168⟩,
    ⟨Cert.InprojRefIdeal.S66560x96, broadcastInDim Cert.InprojRefIdeal.S66560x96 ![] Cert.InprojRefIdeal.Gen.bcast_S_S66560x96 (constant Cert.InprojRefIdeal.S_ .f32 0x00000000#32)⟩]
    Cert.InprojRefIdeal.Gen.concatenates_S66560x256_S66560x128_S66560x32_S66560x96_S66560x512_d1

/-- `PM` at an index. -/
theorem pM_apply (P : FVec Ideal Cert.InprojRefIdeal.S66560x7384 .f32) (r : Fin 66560) (j : Fin 512) :
    PM P (ix2 r j) = (if h : j.val < 416 then P (ix2 r ⟨(784 + j.val), by (try split_ifs) <;> omega⟩) else (0 : EReal)) := by
  have hj := j.isLt
  obtain ⟨R, hR⟩ : ∃ R : EReal, R = (if h : j.val < 416 then P (ix2 r ⟨(784 + j.val), by (try split_ifs) <;> omega⟩) else (0 : EReal)) := ⟨_, rfl⟩
  rw [← hR]
  have key : ∀ n (hn : n < 7384), j.val < 416 → n = (784 + j.val) → P (ix2 r ⟨n, hn⟩) = R := by
    intro n hn h e
    subst e
    rw [hR, dif_pos h]
  have key0 : ¬j.val < 416 → (0 : EReal) = R := fun h => by rw [hR, dif_neg h]
  clear hR
  pointwise [PM]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The kernel's window on the second mixer's weights holds them whole. -/
theorem read3 (c : Dev nD) (t : Fin cfg0.N) (k : Fin 1024) (j : Fin 512) : iblk m c 3 t (ix2 k j)
    = WM (m (c, Proc.tc.devRef main_arg2)) (ix2 k j) := by
  have e : ((cfg0.win 3).blk t).view.emb (ix2 k j) = ix2 k j := by blk_ext [idx t]
  show V m c main_v10 (((cfg0.win 3).blk t).view.emb (ix2 k j)) = _
  rw [e]
  unfold V
  after_reads_simp [Matrix.cons_val]
  rfl

/-- Where an element of the second output's block at a point sits in its array. -/
theorem emb7 (t : Fin cfg0.N) (y : S512x512.Idx) : ((cfg0.win 7).blk t).view.emb y
    = ix2 (⟨t.val * 512 + (y 0).val, by have h : t.val < 130 := t.isLt; have h' : (y 0).val < 512 := (y 0).isLt; omega⟩ : Fin 66560) (y 1 : Fin 512) := by
  blk_ext [idx t]

/-- The kernel's product for the second mixer at an index. -/
theorem prodM (x : Vec Ideal S512x1024 .f32) (v : Vec Ideal S1x1024 .f32) (w : Vec Ideal S1024x512 .bf16) (r : Fin 512) (j : Fin 512) :
    k0_pay3 x v w (ix2 r j) = ∑ k : Fin 1024, HMul.hMul (α := EReal) (β := EReal) (γ := EReal) (k0_pay1 x v (ix2 r k)) (w (ix2 k j)) := by
  pointwise [k0_pay3]

/-- The products over the second mixer's padded columns are the projection's cut columns. -/
theorem colsM (c : Dev nD) (t : Fin cfg0.N) (r : Fin 512) (j : Fin 512) :
    k0_pay3 (iblk m c 0 t) (iblk m c 1 t) (iblk m c 3 t) (ix2 r j)
    = PM (PROJ (m ((c : Thread nD τ).loc main_arg0)) (m ((c : Thread nD τ).loc main_arg1)) (m ((c : Thread nD τ).loc main_arg2)))
        (ix2 (⟨t.val * 512 + r.val, by have h : t.val < 130 := t.isLt; have := r.isLt; omega⟩ : Fin 66560) j) := by
  rw [prodM, pM_apply]
  by_cases h : j.val < 416
  · rw [dif_pos h, proj_apply]
    refine Finset.sum_congr rfl fun k _ => ?_
    rw [norm_apply, read3, wM_apply, dif_pos h]
  · rw [dif_neg h]
    refine Finset.sum_eq_zero fun k _ => ?_
    rw [read3, wM_apply, dif_neg h]
    exact mul_zero _

/-- The second result array after the run is the reference's term. -/
theorem final7 (c : Dev nD) : (dats m 0 c).arrAt 7 (cfgs 0).N
    = PM (PROJ (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  rw [after0_7]; frame_out
  rw [emb7]
  idx_vars y
  exact colsM m c t y0 y1

/-- The third mixer's columns of the weights, as the kernel's host part lays them out: padded with zeros to whole lanes. -/
abbrev WD (f : FVec Ideal S1024x7384 .f32) : FVec Ideal S1024x1152 .bf16 :=
  truncf .bf16 (concatenate S1024x1152 1 [⟨S1024x1024, extractStridedSlice S1024x1024 ![0, 1200] f slices_S1024x7384_S1024x1024_0_1200⟩,
    ⟨S1024x128, pad S1024x128 ![0, 0] ![0, 120] ![0, 0] (extractStridedSlice S1024x8 ![0, 2224] f slices_S1024x7384_S1024x8_0_2224)
      (sitofp .f32 (constantI S_ 32 0#32)) pads_S1024x8_S1024x128_000_01200 h_S_⟩] concatenates_S1024x1024_S1024x128_S1024x1152_d1) bitsLt_bf16_f32

/-- `WD` at an index. -/
theorem wD_apply (f : FVec Ideal S1024x7384 .f32) (k : Fin 1024) (j : Fin 1152) :
    WD f (ix2 k j) = (if h : j.val < 1032 then f (ix2 k ⟨(1200 + j.val), by (try split_ifs) <;> omega⟩) else (0 : EReal)) := by
  have hj := j.isLt
  obtain ⟨R, hR⟩ : ∃ R : EReal, R = (if h : j.val < 1032 then f (ix2 k ⟨(1200 + j.val), by (try split_ifs) <;> omega⟩) else (0 : EReal)) := ⟨_, rfl⟩
  rw [← hR]
  have key : ∀ n (hn : n < 7384), j.val < 1032 → n = (1200 + j.val) → f (ix2 k ⟨n, hn⟩) = R := by
    intro n hn h e
    subst e
    rw [hR, dif_pos h]
  have key0 : ¬j.val < 1032 → (0 : EReal) = R := fun h => by rw [hR, dif_neg h]
  clear hR
  pointwise [WD]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The third mixer's columns of the projection, as the reference cuts them out: followed by columns of zeros. -/
abbrev PD (P : FVec Ideal Cert.InprojRefIdeal.S66560x7384 .f32) : FVec Ideal Cert.InprojRefIdeal.S66560x1152 .f32 :=
  concatenate Cert.InprojRefIdeal.S66560x1152 1 [⟨Cert.InprojRefIdeal.S66560x768, extractStridedSlice Cert.InprojRefIdeal.S66560x768 ![0, 1200] P Cert.InprojRefIdeal.Gen.slices_S66560x7384_S66560x768_0_1200⟩,
    ⟨Cert.InprojRefIdeal.S66560x256, extractStridedSlice Cert.InprojRefIdeal.S66560x256 ![0, 1968] P Cert.InprojRefIdeal.Gen.slices_S66560x7384_S66560x256_0_1968⟩,
    ⟨Cert.InprojRefIdeal.S66560x4, extractStridedSlice Cert.InprojRefIdeal.S66560x4 ![0, 2224] P Cert.InprojRefIdeal.Gen.slices_S66560x7384_S66560x4_0_2224⟩,
    ⟨Cert.InprojRefIdeal.S66560x4, extractStridedSlice Cert.InprojRefIdeal.S66560x4 ![0, 2228] P Cert.InprojRefIdeal.Gen.slices_S66560x7384_S66560x4_0_2228⟩,
    ⟨Cert.InprojRefIdeal.S66560x120, broadcastInDim Cert.InprojRefIdeal.S66560x120 ![] Cert.InprojRefIdeal.Gen.bcast_S_S66560x120 (constant Cert.InprojRefIdeal.S_ .f32 0x00000000#32)⟩]
    Cert.InprojRefIdeal.Gen.concatenates_S66560x768_S66560x256_S66560x4_S66560x4_S66560x120_S66560x1152_d1

/-- `PD` at an index. -/
theorem pD_apply (P : FVec Ideal Cert.InprojRefIdeal.S66560x7384 .f32) (r : Fin 66560) (j : Fin 1152) :
    PD P (ix2 r j) = (if h : j.val < 1032 then P (ix2 r ⟨(1200 + j.val), by (try split_ifs) <;> omega⟩) else (0 : EReal)) := by
  have hj := j.isLt
  obtain ⟨R, hR⟩ : ∃ R : EReal, R = (if h : j.val < 1032 then P (ix2 r ⟨(1200 + j.val), by (try split_ifs) <;> omega⟩) else (0 : EReal)) := ⟨_, rfl⟩
  rw [← hR]
  have key : ∀ n (hn : n < 7384), j.val < 1032 → n = (1200 + j.val) → P (ix2 r ⟨n, hn⟩) = R := by
    intro n hn h e
    subst e
    rw [hR, dif_pos h]
  have key0 : ¬j.val < 1032 → (0 : EReal) = R := fun h => by rw [hR, dif_neg h]
  clear hR
  pointwise [PD]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The kernel's window on the third mixer's weights holds them whole. -/
theorem read4 (c : Dev nD) (t : Fin cfg0.N) (k : Fin 1024) (j : Fin 1152) : iblk m c 4 t (ix2 k j)
    = WD (m (c, Proc.tc.devRef main_arg2)) (ix2 k j) := by
  have e : ((cfg0.win 4).blk t).view.emb (ix2 k j) = ix2 k j := by blk_ext [idx t]
  show V m c main_v15 (((cfg0.win 4).blk t).view.emb (ix2 k j)) = _
  rw [e]
  unfold V
  after_reads_simp [Matrix.cons_val]
  rfl

/-- Where an element of the third output's block at a point sits in its array. -/
theorem emb8 (t : Fin cfg0.N) (y : S512x1152.Idx) : ((cfg0.win 8).blk t).view.emb y
    = ix2 (⟨t.val * 512 + (y 0).val, by have h : t.val < 130 := t.isLt; have h' : (y 0).val < 512 := (y 0).isLt; omega⟩ : Fin 66560) (y 1 : Fin 1152) := by
  blk_ext [idx t]

/-- The kernel's product for the third mixer at an index. -/
theorem prodD (x : Vec Ideal S512x1024 .f32) (v : Vec Ideal S1x1024 .f32) (w : Vec Ideal S1024x1152 .bf16) (r : Fin 512) (j : Fin 1152) :
    k0_pay4 x v w (ix2 r j) = ∑ k : Fin 1024, HMul.hMul (α := EReal) (β := EReal) (γ := EReal) (k0_pay1 x v (ix2 r k)) (w (ix2 k j)) := by
  pointwise [k0_pay4]

/-- The products over the third mixer's padded columns are the projection's cut columns. -/
theorem colsD (c : Dev nD) (t : Fin cfg0.N) (r : Fin 512) (j : Fin 1152) :
    k0_pay4 (iblk m c 0 t) (iblk m c 1 t) (iblk m c 4 t) (ix2 r j)
    = PD (PROJ (m ((c : Thread nD τ).loc main_arg0)) (m ((c : Thread nD τ).loc main_arg1)) (m ((c : Thread nD τ).loc main_arg2)))
        (ix2 (⟨t.val * 512 + r.val, by have h : t.val < 130 := t.isLt; have := r.isLt; omega⟩ : Fin 66560) j) := by
  rw [prodD, pD_apply]
  by_cases h : j.val < 1032
  · rw [dif_pos h, proj_apply]
    refine Finset.sum_congr rfl fun k _ => ?_
    rw [norm_apply, read4, wD_apply, dif_pos h]
  · rw [dif_neg h]
    refine Finset.sum_eq_zero fun k _ => ?_
    rw [read4, wD_apply, dif_neg h]
    exact mul_zero _

/-- The third result array after the run is the reference's term. -/
theorem final8 (c : Dev nD) : (dats m 0 c).arrAt 8 (cfgs 0).N
    = PD (PROJ (m ((c : Thread nD τ).loc main_arg0)) (m ((c : Thread nD τ).loc main_arg1)) (m ((c : Thread nD τ).loc main_arg2))) := by
  refine (dats m 0 c).arrAt_eq_of_covers 8 _ (by decide +kernel) fun t _ y => ?_
  blk_simp
  rw [after0_8]; frame_out
  rw [emb8]
  idx_vars y
  exact colsD m c t y0 y1

/-- The fourth mixer's columns of the weights, as the kernel's host part lays them out: padded with zeros to whole lanes. -/
abbrev WR (f : FVec Ideal S1024x7384 .f32) : FVec Ideal S1024x1152 .bf16 :=
  truncf .bf16 (pad S1024x1152 ![0, 0] ![0, 96] ![0, 0] (extractStridedSlice S1024x1056 ![0, 2232] f slices_S1024x7384_S1024x1056_0_2232)
      (sitofp .f32 (constantI S_ 32 0#32)) pads_S1024x1056_S1024x1152_000_0960 h_S_) bitsLt_bf16_f32

/-- `WR` at an index. -/
theorem wR_apply (f : FVec Ideal S1024x7384 .f32) (k : Fin 1024) (j : Fin 1152) :
    WR f (ix2 k j) = (if h : j.val < 1056 then f (ix2 k ⟨(2232 + j.val), by (try split_ifs) <;> omega⟩) else (0 : EReal)) := by
  have hj := j.isLt
  obtain ⟨R, hR⟩ : ∃ R : EReal, R = (if h : j.val < 1056 then f (ix2 k ⟨(2232 + j.val), by (try split_ifs) <;> omega⟩) else (0 : EReal)) := ⟨_, rfl⟩
  rw [← hR]
  have key : ∀ n (hn : n < 7384), j.val < 1056 → n = (2232 + j.val) → f (ix2 k ⟨n, hn⟩) = R := by
    intro n hn h e
    subst e
    rw [hR, dif_pos h]
  have key0 : ¬j.val < 1056 → (0 : EReal) = R := fun h => by rw [hR, dif_neg h]
  clear hR
  pointwise [WR]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The fourth mixer's columns of the projection, as the reference cuts them out: followed by columns of zeros. -/
abbrev PR (P : FVec Ideal Cert.InprojRefIdeal.S66560x7384 .f32) : FVec Ideal Cert.InprojRefIdeal.S66560x1152 .f32 :=
  concatenate Cert.InprojRefIdeal.S66560x1152 1 [⟨Cert.InprojRefIdeal.S66560x1056, extractStridedSlice Cert.InprojRefIdeal.S66560x1056 ![0, 2232] P Cert.InprojRefIdeal.Gen.slices_S66560x7384_S66560x1056_0_2232⟩,
    ⟨Cert.InprojRefIdeal.S66560x96, broadcastInDim Cert.InprojRefIdeal.S66560x96 ![] Cert.InprojRefIdeal.Gen.bcast_S_S66560x96 (constant Cert.InprojRefIdeal.S_ .f32 0x00000000#32)⟩]
    Cert.InprojRefIdeal.Gen.concatenates_S66560x1056_S66560x96_S66560x1152_d1

/-- `PR` at an index. -/
theorem pR_apply (P : FVec Ideal Cert.InprojRefIdeal.S66560x7384 .f32) (r : Fin 66560) (j : Fin 1152) :
    PR P (ix2 r j) = (if h : j.val < 1056 then P (ix2 r ⟨(2232 + j.val), by (try split_ifs) <;> omega⟩) else (0 : EReal)) := by
  have hj := j.isLt
  obtain ⟨R, hR⟩ : ∃ R : EReal, R = (if h : j.val < 1056 then P (ix2 r ⟨(2232 + j.val), by (try split_ifs) <;> omega⟩) else (0 : EReal)) := ⟨_, rfl⟩
  rw [← hR]
  have key : ∀ n (hn : n < 7384), j.val < 1056 → n = (2232 + j.val) → P (ix2 r ⟨n, hn⟩) = R := by
    intro n hn h e
    subst e
    rw [hR, dif_pos h]
  have key0 : ¬j.val < 1056 → (0 : EReal) = R := fun h => by rw [hR, dif_neg h]
  clear hR
  pointwise [PR]
  split_ifs <;> first
    | exact key0 (by omega)
    | exact key _ _ (by omega) (by split_ifs <;> omega)
    | exact key _ _ (by omega) (by omega)
    | (refine Eq.trans (?_ : _ = (0 : EReal)) (key0 (by omega)); exact zero_of_int)

/-- The kernel's window on the fourth mixer's weights holds them whole. -/
theorem read5 (c : Dev nD) (t : Fin cfg0.N) (k : Fin 1024) (j : Fin 1152) : iblk m c 5 t (ix2 k j)
    = WR (m (c, Proc.tc.devRef main_arg2)) (ix2 k j) := by
  have e : ((cfg0.win 5).blk t).view.emb (ix2 k j) = ix2 k j := by blk_ext [idx t]
  show V m c main_v18 (((cfg0.win 5).blk t).view.emb (ix2 k j)) = _
  rw [e]
  unfold V
  after_reads_simp [Matrix.cons_val]
  rfl

/-- Where an element of the fourth output's block at a point sits in its array. -/
theorem emb9 (t : Fin cfg0.N) (y : S512x1152.Idx) : ((cfg0.win 9).blk t).view.emb y
    = ix2 (⟨t.val * 512 + (y 0).val, by have h : t.val < 130 := t.isLt; have h' : (y 0).val < 512 := (y 0).isLt; omega⟩ : Fin 66560) (y 1 : Fin 1152) := by
  blk_ext [idx t]

/-- The kernel's product for the fourth mixer at an index. -/
theorem prodR (x : Vec Ideal S512x1024 .f32) (v : Vec Ideal S1x1024 .f32) (w : Vec Ideal S1024x1152 .bf16) (r : Fin 512) (j : Fin 1152) :
    k0_pay5 x v w (ix2 r j) = ∑ k : Fin 1024, HMul.hMul (α := EReal) (β := EReal) (γ := EReal) (k0_pay1 x v (ix2 r k)) (w (ix2 k j)) := by
  pointwise [k0_pay5]

/-- The products over the fourth mixer's padded columns are the projection's cut columns. -/
theorem colsR (c : Dev nD) (t : Fin cfg0.N) (r : Fin 512) (j : Fin 1152) :
    k0_pay5 (iblk m c 0 t) (iblk m c 1 t) (iblk m c 5 t) (ix2 r j)
    = PR (PROJ (m ((c : Thread nD τ).loc main_arg0)) (m ((c : Thread nD τ).loc main_arg1)) (m ((c : Thread nD τ).loc main_arg2)))
        (ix2 (⟨t.val * 512 + r.val, by have h : t.val < 130 := t.isLt; have := r.isLt; omega⟩ : Fin 66560) j) := by
  rw [prodR, pR_apply]
  by_cases h : j.val < 1056
  · rw [dif_pos h, proj_apply]
    refine Finset.sum_congr rfl fun k _ => ?_
    rw [norm_apply, read5, wR_apply, dif_pos h]
  · rw [dif_neg h]
    refine Finset.sum_eq_zero fun k _ => ?_
    rw [read5, wR_apply, dif_neg h]
    exact mul_zero _

/-- The fourth result array after the run is the reference's term. -/
theorem final9 (c : Dev nD) : (dats m 0 c).arrAt 9 (cfgs 0).N
    = PR (PROJ (m ((c : Thread nD τ).loc main_arg0)) (m ((c : Thread nD τ).loc main_arg1)) (m ((c : Thread nD τ).loc main_arg2))) := by
  refine (dats m 0 c).arrAt_eq_of_covers 9 _ (by decide +kernel) fun t _ y => ?_
  blk_simp
  rw [after0_9]; frame_out
  rw [emb9]
  idx_vars y
  exact colsR m c t y0 y1

end Cert.InprojIdeal.Whole

end
-- ==== Proof.InprojClaims.lean ====
module

public import proofs.«01_k».proof.Defs
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.InprojValue
public import Idealize.ShloMosaic.Lib.Quiescent

/-! # The claims about the input projection

The two runs of the kernel are the generated ones; the reference is a host program, whose run is generated too, and which
has no semaphore. The value of the kernel's result is the theorem of `InprojValue`. -/

@[expose] public section

noncomputable section

namespace Cert.InprojClaims

open Idealize.ShloMosaic Idealize.SL.Sem

/-- The kernel runs to its end, keeps its arguments and leaves every semaphore at zero. -/
theorem frame_kernel : Cert.quiescent_Inproj (hInproj := Cert.Inproj.Gen.facts) :=
  fun m ρ _ => Cert.Inproj.Gen.frame m ρ

/-- The same of the kernel over the extended reals. -/
theorem frame_ideal : Cert.quiescent_InprojIdeal (hInprojIdeal := Cert.InprojIdeal.Gen.facts) :=
  fun m ρ _ => Cert.InprojIdeal.Gen.frame m ρ

/-- The same of the reference over the extended reals. -/
theorem frame_reference : Cert.quiescent_InprojRefIdeal (hInprojRefIdeal := Cert.InprojRefIdeal.Gen.facts) :=
  fun m ρ _ => (θ_run Cert.InprojRefIdeal.defs _ _).mono
    (fun r h => ⟨fun c => ⟨(h c).2.2.2.2.1, (h c).2.2.2.2.2.1, (h c).2.2.2.2.2.2⟩,
      sem_eq_zero_of_no_sems (by decide) r.2⟩)
    (Cert.InprojRefIdeal.Value.run (F := Ideal) m ρ)

/-- Over the extended reals the kernel's results are the reference's. -/
theorem value : Cert.algebraic_InprojIdeal_InprojRefIdeal (hInprojIdeal := Cert.InprojIdeal.Gen.facts)
    (hInprojRefIdeal := Cert.InprojRefIdeal.Gen.facts) := by
  intro m ρ m' ρ' _ hagree
  refine ⟨fun c => (Cert.InprojIdeal.Gen.dats m 0 c).arrAt 6 (Cert.InprojIdeal.cfgs 0).N, fun c => (Cert.InprojIdeal.Gen.dats m 0 c).arrAt 7 (Cert.InprojIdeal.cfgs 0).N, fun c => (Cert.InprojIdeal.Gen.dats m 0 c).arrAt 8 (Cert.InprojIdeal.cfgs 0).N, fun c => (Cert.InprojIdeal.Gen.dats m 0 c).arrAt 9 (Cert.InprojIdeal.cfgs 0).N,
    Cert.InprojIdeal.Value.run_blocks (F := Ideal) m ρ, ?_⟩
  refine (θ_run Cert.InprojRefIdeal.defs _ _).mono (fun r h c => ⟨((h c).1).trans ?_, ((h c).2.1).trans ?_, ((h c).2.2.1).trans ?_, ((h c).2.2.2.1).trans ?_, (h c).2.2.2.2.1, (h c).2.2.2.2.2.1, (h c).2.2.2.2.2.2⟩)
    (Cert.InprojRefIdeal.Value.run (F := Ideal) m' ρ')
  · refine Eq.trans ?_ (Cert.InprojIdeal.Whole.final6 m c).symm
    rw [← (hagree c).1, ← (hagree c).2.1, ← (hagree c).2.2] <;> rfl
  · refine Eq.trans ?_ (Cert.InprojIdeal.Whole.final7 m c).symm
    rw [← (hagree c).1, ← (hagree c).2.1, ← (hagree c).2.2] <;> rfl
  · refine Eq.trans ?_ (Cert.InprojIdeal.Whole.final8 m c).symm
    rw [← (hagree c).1, ← (hagree c).2.1, ← (hagree c).2.2] <;> rfl
  · refine Eq.trans ?_ (Cert.InprojIdeal.Whole.final9 m c).symm
    rw [← (hagree c).1, ← (hagree c).2.1, ← (hagree c).2.2] <;> rfl

end Cert.InprojClaims

end
-- ==== Proof.ExpertsIn.lean ====
/- The precondition of the routed experts: every block's expert is one of the eight, so that the weights' blocks, which the
   table picks, are inside their arrays. -/
module

public import proofs.«01_k».proof.Defs
public import proofs.«01_k».proof.Proof.Gen.Experts.Frame
public import proofs.«01_k».proof.Proof.Gen.ExpertsIdeal.Frame
public import proofs.«01_k».proof.Proof.Gen.Pre_experts_in_range
public import Idealize.ShloMosaic.Lib.Pipeline.ValueKit

@[expose] public section

noncomputable section

namespace Cert.ExpertsIn

open Idealize.ShloMosaic

/-- A word that passes both signed comparisons, with 0 and with 8, is below 8. -/
theorem word_of_checks (w : BitVec 32) (e : IntOp.andi (IntOp.cmpi .sge w 0#32) (IntOp.cmpi .slt w 8#32) = 1#1) : w.toNat < 8 := by
  have andi_one (a b : BitVec 1) : IntOp.andi a b = 1#1 ↔ a = 1#1 ∧ b = 1#1 := by revert a b; decide
  have ofBool_one (p : Bool) : (BitVec.ofBool p = 1#1) ↔ p = true := by cases p <;> decide
  rw [andi_one] at e
  simp only [IntOp.cmpi, ofBool_one, BitVec.sle, BitVec.slt, decide_eq_true_eq, BitVec.toInt, BitVec.toNat_ofNat] at e
  have := w.isLt
  omega

end Cert.ExpertsIn

open Cert.ExpertsIn

namespace Cert.Experts.Whole

open Cert.Experts Cert.Experts.Gen Idealize.ShloMosaic Idealize.ShloMosaic.TcCoe

variable (m : (ℓ : Loc nD τ sig) → Buf (Elt Bits) ℓ)

/-- Under the precondition every block's expert is one of the eight. -/
theorem word_lt (h : Cert.Pre_Experts (hPre_experts_in_range := Cert.Pre_experts_in_range.Gen.facts) m) (c : Dev nD) (x : S268.Idx) :
    (m ((c : Thread nD τ).loc main_arg0) x : BitVec 32).toNat < 8 := by
  have e := congrFun (h c) x
  simp only [Cert.Pre_experts_in_range.fn, andi, cmpi, constantI, broadcastInDim] at e
  exact word_of_checks _ e

/-- Where the first weights' window stands: at the block's expert, and at the half of the hidden columns. -/
theorem tr2 (pf : pre0.Contents (Elt Bits)) (i : grid0.Coords) :
    cc0_transform_2 k0_off1_inb numel1_S1 pf i = ![(pf 0 (ix1 (i 0 : Fin 268)) : BitVec 32).toNat, 0, (i 1).val] := by
  have h0 : (i 0).val < 268 := (i 0).isLt
  have h1 : (i 1).val < 2 := (i 1).isLt
  unfold cc0_transform_2
  dsimp only [Scalar.indexCast]
  refine congrArg₂ (fun a b => ![a, 0, b]) (congrArg (fun z => (pf 0 z : BitVec 32).toNat) ?_) ?_
  · refine (funext fun a : Fin 1 => ?_ : (_ : S268.Idx) = _)
    obtain rfl : a = 0 := Subsingleton.elim _ _
    refine Fin.ext ?_
    show (BitVec.ofNat 32 (i 0).val).toNat + 1 * 0 = (i 0).val
    rw [BitVec.toNat_ofNat]
    omega
  · simp [BitVec.toNat_ofNat]
    omega

/-- The second weights' window stands as the first's. -/
theorem tr3 (pf : pre0.Contents (Elt Bits)) (i : grid0.Coords) :
    cc0_transform_3 k0_off1_inb numel1_S1 pf i = ![(pf 0 (ix1 (i 0 : Fin 268)) : BitVec 32).toNat, 0, (i 1).val] :=
  tr2 pf i

/-- Where the third weights' window stands: at the block's expert, and at the half of the hidden rows. -/
theorem tr4 (pf : pre0.Contents (Elt Bits)) (i : grid0.Coords) :
    cc0_transform_4 k0_off1_inb numel1_S1 pf i = ![(pf 0 (ix1 (i 0 : Fin 268)) : BitVec 32).toNat, (i 1).val, 0] := by
  have e := tr2 pf i
  have e0 := congrFun e 0
  have e2 := congrFun e 2
  funext a
  fin_cases a
  · exact e0
  · exact e2
  · rfl

/-- So every block of the weights is inside its array, at whole words. -/
theorem ok_of_pre (h : Cert.Pre_Experts (hPre_experts_in_range := Cert.Pre_experts_in_range.Gen.facts) m) : Ok m := by
  have hw : ∀ x, (tbl m 0 x : BitVec 32).toNat < 8 := fun x => by
    have e : tbl m 0 = m (((0 : Dev nD) : Thread nD τ).loc main_arg0) := V_main_arg0 m 0
    rw [e]
    exact word_lt m h 0 x
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have h0 := hw (ix1 (i 0 : Fin 268))
    have h1 : (i 1).val < 2 := (i 1).isLt
    rw [tr2]
    fin_cases a <;> simp <;> omega
  · have h0 := hw (ix1 (i 0 : Fin 268))
    have h1 : (i 1).val < 2 := (i 1).isLt
    rw [tr3]
    fin_cases a <;> simp <;> omega
  · have h0 := hw (ix1 (i 0 : Fin 268))
    have h1 : (i 1).val < 2 := (i 1).isLt
    rw [tr4]
    fin_cases a <;> simp <;> omega

end Cert.Experts.Whole

namespace Cert.ExpertsIdeal.Whole

open Cert.ExpertsIdeal Cert.ExpertsIdeal.Gen Idealize.ShloMosaic Idealize.ShloMosaic.TcCoe

variable (m : (ℓ : Loc nD τ sig) → Buf (Elt Ideal) ℓ)

/-- Under the precondition every block's expert is one of the eight. -/
theorem word_lt (h : Cert.Pre_ExpertsIdeal (hPre_experts_in_range := Cert.Pre_experts_in_range.Gen.facts) m) (c : Dev nD) (x : S268.Idx) :
    (m ((c : Thread nD τ).loc main_arg0) x : BitVec 32).toNat < 8 := by
  have e := congrFun (h c) x
  simp only [Cert.Pre_experts_in_range.fn, andi, cmpi, constantI, broadcastInDim] at e
  exact word_of_checks _ e

/-- Where the first weights' window stands: at the block's expert, and at the half of the hidden columns. -/
theorem tr2 (pf : pre0.Contents (Elt Ideal)) (i : grid0.Coords) :
    cc0_transform_2 k0_off1_inb numel1_S1 pf i = ![(pf 0 (ix1 (i 0 : Fin 268)) : BitVec 32).toNat, 0, (i 1).val] := by
  have h0 : (i 0).val < 268 := (i 0).isLt
  have h1 : (i 1).val < 2 := (i 1).isLt
  unfold cc0_transform_2
  dsimp only [Scalar.indexCast]
  refine congrArg₂ (fun a b => ![a, 0, b]) (congrArg (fun z => (pf 0 z : BitVec 32).toNat) ?_) ?_
  · refine (funext fun a : Fin 1 => ?_ : (_ : S268.Idx) = _)
    obtain rfl : a = 0 := Subsingleton.elim _ _
    refine Fin.ext ?_
    show (BitVec.ofNat 32 (i 0).val).toNat + 1 * 0 = (i 0).val
    rw [BitVec.toNat_ofNat]
    omega
  · simp [BitVec.toNat_ofNat]
    omega

/-- The second weights' window stands as the first's. -/
theorem tr3 (pf : pre0.Contents (Elt Ideal)) (i : grid0.Coords) :
    cc0_transform_3 k0_off1_inb numel1_S1 pf i = ![(pf 0 (ix1 (i 0 : Fin 268)) : BitVec 32).toNat, 0, (i 1).val] :=
  tr2 pf i

/-- Where the third weights' window stands: at the block's expert, and at the half of the hidden rows. -/
theorem tr4 (pf : pre0.Contents (Elt Ideal)) (i : grid0.Coords) :
    cc0_transform_4 k0_off1_inb numel1_S1 pf i = ![(pf 0 (ix1 (i 0 : Fin 268)) : BitVec 32).toNat, (i 1).val, 0] := by
  have e := tr2 pf i
  have e0 := congrFun e 0
  have e2 := congrFun e 2
  funext a
  fin_cases a
  · exact e0
  · exact e2
  · rfl

/-- So every block of the weights is inside its array, at whole words. -/
theorem ok_of_pre (h : Cert.Pre_ExpertsIdeal (hPre_experts_in_range := Cert.Pre_experts_in_range.Gen.facts) m) : Ok m := by
  have hw : ∀ x, (tbl m 0 x : BitVec 32).toNat < 8 := fun x => by
    have e : tbl m 0 = m (((0 : Dev nD) : Thread nD τ).loc main_arg0) := V_main_arg0 m 0
    rw [e]
    exact word_lt m h 0 x
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have h0 := hw (ix1 (i 0 : Fin 268))
    have h1 : (i 1).val < 2 := (i 1).isLt
    rw [tr2]
    fin_cases a <;> simp <;> omega
  · have h0 := hw (ix1 (i 0 : Fin 268))
    have h1 : (i 1).val < 2 := (i 1).isLt
    rw [tr3]
    fin_cases a <;> simp <;> omega
  · have h0 := hw (ix1 (i 0 : Fin 268))
    have h1 : (i 1).val < 2 := (i 1).isLt
    rw [tr4]
    fin_cases a <;> simp <;> omega

end Cert.ExpertsIdeal.Whole

end
-- ==== Proof.ExpertsValue.lean ====
/- The value of `ExpertsIdeal`: its result array is the reference's term of the argument arrays, where every block's expert is
   one of the eight. -/
module

public import proofs.«01_k».proof.Proof.ExpertsIn
public import proofs.«01_k».proof.Proof.Gen.ExpertsRefIdeal.Run
public import Idealize.ShloMosaic.Lib.Pipeline.ValueKit
public import Idealize.ShloMosaic.Lib.StableHlo.RunRead

@[expose] public section

set_option maxRecDepth 16384

noncomputable section

namespace Cert.ExpertsIdeal.Whole

open Cert.ExpertsIdeal Cert.ExpertsIdeal.Gen Idealize.ShloMosaic Idealize.ShloMosaic.TcCoe Idealize.SL.Sem
open Idealize.ShloMosaic.Pipeline (Dat)

/-- The column of expert numbers the reference gathers the weights at: a negative one counts from the end. -/
abbrev COL (E : IVec S268 32) : IVec Cert.ExpertsRefIdeal.S268x1 32 :=
  broadcastInDim Cert.ExpertsRefIdeal.S268x1 ![0] Cert.ExpertsRefIdeal.Gen.bcast_S268_S268x1_0
    (select (cmpi .slt E (broadcastInDim S268 ![] Cert.ExpertsRefIdeal.Gen.bcast_S_S268 (constantI Cert.ExpertsRefIdeal.S_ 32 0#32)))
      (addi E (broadcastInDim S268 ![] Cert.ExpertsRefIdeal.Gen.bcast_S_S268 (constantI Cert.ExpertsRefIdeal.S_ 32 8#32))) E)

/-- The weights of each block's expert, as the reference gathers them: of the hidden layer. -/
abbrev UP (E : IVec S268 32) (A : FVec Ideal S8x1024x3584 .f32) : FVec Ideal Cert.ExpertsRefIdeal.S268x1024x3584 .f32 :=
  Host.gather Cert.ExpertsRefIdeal.gather_S8x1024x3584_S268x1_S268x1024x3584_12_0_n_n_0_1_110243584 A (COL E)

/-- The weights of each block's expert, as the reference gathers them: of the output. -/
abbrev DOWN (E : IVec S268 32) (A : FVec Ideal S8x3584x1024 .f32) : FVec Ideal Cert.ExpertsRefIdeal.S268x3584x1024 .f32 :=
  Host.gather Cert.ExpertsRefIdeal.gather_S8x3584x1024_S268x1_S268x3584x1024_12_0_n_n_0_1_135841024 A (COL E)

/-- A block's rows through weights of the hidden layer. -/
abbrev HID (X : FVec Ideal S137216x1024 .bf16) (U : FVec Ideal Cert.ExpertsRefIdeal.S268x1024x3584 .f32) :
    FVec Ideal Cert.ExpertsRefIdeal.S268x512x3584 .f32 :=
  Host.dotGeneral Cert.ExpertsRefIdeal.dot_S268x512x1024_S268x1024x3584_S268x512x3584_2_1_1_2_0_0 none
    (shapeCast _ (extf .f32 X Cert.ExpertsRefIdeal.Gen.bitsLt_bf16_f32) Cert.ExpertsRefIdeal.Gen.shapeCasts_S137216x1024_S268x512x1024) U

/-- The gated network of each block's rows with the block's own weights, scaled by the rows' gates. -/
abbrev NET (X : FVec Ideal S137216x1024 .bf16) (G : FVec Ideal S137216 .f32) (U V : FVec Ideal Cert.ExpertsRefIdeal.S268x1024x3584 .f32)
    (D : FVec Ideal Cert.ExpertsRefIdeal.S268x3584x1024 .f32) : FVec Ideal S137216x1024 .f32 :=
  mulf (shapeCast _ (Host.dotGeneral Cert.ExpertsRefIdeal.dot_S268x512x3584_S268x3584x1024_S268x512x1024_2_1_1_2_0_0 none
      (mulf (mulf (HID X U) (Host.divf (broadcastInDim Cert.ExpertsRefIdeal.S268x512x3584 ![] Cert.ExpertsRefIdeal.Gen.bcast_S_S268x512x3584 (constant Cert.ExpertsRefIdeal.S_ .f32 0x3F800000#32))
        (addf (broadcastInDim Cert.ExpertsRefIdeal.S268x512x3584 ![] Cert.ExpertsRefIdeal.Gen.bcast_S_S268x512x3584 (constant Cert.ExpertsRefIdeal.S_ .f32 0x3F800000#32))
          (Host.exp (Host.negf (HID X U)))))) (HID X V)) D) Cert.ExpertsRefIdeal.Gen.shapeCasts_S268x512x1024_S137216x1024)
    (broadcastInDim S137216x1024 ![0, 1] Cert.ExpertsRefIdeal.Gen.bcast_S137216x1_S137216x1024_0_1
      (broadcastInDim S137216x1 ![0] Cert.ExpertsRefIdeal.Gen.bcast_S137216_S137216x1_0 G))

/-- The reference's term. -/
abbrev REF (E : IVec S268 32) (X : FVec Ideal S137216x1024 .bf16) (G : FVec Ideal S137216 .f32) (A B : FVec Ideal S8x1024x3584 .f32)
    (D : FVec Ideal S8x3584x1024 .f32) : FVec Ideal S137216x1024 .f32 :=
  NET X G (UP E A) (UP E B) (DOWN E D)

/-- The weights of each block's expert, read off the stack of all experts' weights. -/
def PICK {a b : ℕ} (E : IVec S268 32) (hE : ∀ x, (E x).toNat < 8) (A : FVec Ideal ⟨3, ![8, a, b]⟩ .f32) : FVec Ideal ⟨3, ![268, a, b]⟩ .f32 :=
  fun y => A (ix3 (⟨(E (ix1 (y 0 : Fin 268))).toNat, hE _⟩ : Fin 8) (y 1 : Fin a) (y 2 : Fin b))

theorem pick_apply {a b : ℕ} (E : IVec S268 32) (hE : ∀ x, (E x).toNat < 8) (A : FVec Ideal ⟨3, ![8, a, b]⟩ .f32) (i : Fin 268) (j : Fin a) (k : Fin b) :
    PICK E hE A (ix3 i j k) = A (ix3 (⟨(E (ix1 i)).toNat, hE _⟩ : Fin 8) j k) := rfl

/-- A word below 8 is not negative: the column holds the word itself. -/
theorem col_apply (E : IVec S268 32) (hE : ∀ x, (E x).toNat < 8) (i : Fin 268) : COL E (ix2 i (0 : Fin 1)) = E (ix1 i) := by
  have key : ∀ w : BitVec 32, w.toNat < 8 → Scalar.select (IntOp.cmpi .slt w 0#32) (IntOp.addi w 8#32) w = w := fun w h => by
    have : BitVec.slt w 0#32 = false := by
      simp only [BitVec.slt, BitVec.toInt, BitVec.toNat_ofNat, decide_eq_false_iff_not]
      omega
    simp [IntOp.cmpi, this, Scalar.select]
  refine Eq.trans ?_ (key _ (hE (ix1 i)))
  pointwise [COL]

/-- A word below 8, read signed and clamped, is itself. -/
theorem clamp (w : BitVec 32) (h : w.toNat < 8) : min w.toInt.toNat (8 - 1) = w.toNat := by
  have : w.toInt = (w.toNat : ℤ) := by simp only [BitVec.toInt]; split <;> omega
  rw [this]
  omega

/-- What the reference gathers of the hidden layer's weights is each block's expert's. -/
theorem up_eq (E : IVec S268 32) (hE : ∀ x, (E x).toNat < 8) (A : FVec Ideal S8x1024x3584 .f32) : UP E A = PICK E hE A := by
  funext y
  unfold UP Host.gather PICK
  refine congrArg A (funext fun a => Fin.ext ?_)
  match a with
  | ⟨0, _⟩ =>
    show GatherDims.start _ y (COL E) 0 + GatherDims.batchCoord _ y 0 + GatherDims.offCoord _ y 0 = _
    rw [GatherDims.batchCoord_eq_zero _ _ _ (by decide), GatherDims.offCoord_eq_zero _ _ _ (by decide)]
    simp only [Nat.add_zero]
    unfold GatherDims.start
    rw [dif_pos (by decide)]
    have hsi : GatherDims.siIdx Cert.ExpertsRefIdeal.gather_S8x1024x3584_S268x1_S268x1024x3584_12_0_n_n_0_1_110243584 y ⟨0, by decide⟩ = ix2 (y 0 : Fin 268) (0 : Fin 1) := by
      funext b; refine Fin.ext ?_
      match b with
      | ⟨0, _⟩ => rfl
      | ⟨1, _⟩ => rfl
    exact (congrArg (fun z => min (COL E z).toInt.toNat (8 - 1)) hsi).trans ((congrArg (fun w : BitVec 32 => min w.toInt.toNat (8 - 1)) (col_apply E hE _)).trans (clamp _ (hE _)))
  | ⟨1, _⟩ =>
    show GatherDims.start _ y (COL E) 1 + GatherDims.batchCoord _ y 1 + GatherDims.offCoord _ y 1 = _
    rw [GatherDims.batchCoord_eq_zero _ _ _ (by decide)]
    unfold GatherDims.start GatherDims.offCoord
    rw [dif_neg (by decide), dif_pos (by decide), Nat.add_zero, Nat.zero_add]
    rfl
  | ⟨2, _⟩ =>
    show GatherDims.start _ y (COL E) 2 + GatherDims.batchCoord _ y 2 + GatherDims.offCoord _ y 2 = _
    rw [GatherDims.batchCoord_eq_zero _ _ _ (by decide)]
    unfold GatherDims.start GatherDims.offCoord
    rw [dif_neg (by decide), dif_pos (by decide), Nat.add_zero, Nat.zero_add]
    rfl

/-- What the reference gathers of the output's weights is each block's expert's. -/
theorem down_eq (E : IVec S268 32) (hE : ∀ x, (E x).toNat < 8) (A : FVec Ideal S8x3584x1024 .f32) : DOWN E A = PICK E hE A := by
  funext y
  unfold DOWN Host.gather PICK
  refine congrArg A (funext fun a => Fin.ext ?_)
  match a with
  | ⟨0, _⟩ =>
    show GatherDims.start _ y (COL E) 0 + GatherDims.batchCoord _ y 0 + GatherDims.offCoord _ y 0 = _
    rw [GatherDims.batchCoord_eq_zero _ _ _ (by decide), GatherDims.offCoord_eq_zero _ _ _ (by decide)]
    simp only [Nat.add_zero]
    unfold GatherDims.start
    rw [dif_pos (by decide)]
    have hsi : GatherDims.siIdx Cert.ExpertsRefIdeal.gather_S8x3584x1024_S268x1_S268x3584x1024_12_0_n_n_0_1_135841024 y ⟨0, by decide⟩ = ix2 (y 0 : Fin 268) (0 : Fin 1) := by
      funext b; refine Fin.ext ?_
      match b with
      | ⟨0, _⟩ => rfl
      | ⟨1, _⟩ => rfl
    exact (congrArg (fun z => min (COL E z).toInt.toNat (8 - 1)) hsi).trans ((congrArg (fun w : BitVec 32 => min w.toInt.toNat (8 - 1)) (col_apply E hE _)).trans (clamp _ (hE _)))
  | ⟨1, _⟩ =>
    show GatherDims.start _ y (COL E) 1 + GatherDims.batchCoord _ y 1 + GatherDims.offCoord _ y 1 = _
    rw [GatherDims.batchCoord_eq_zero _ _ _ (by decide)]
    unfold GatherDims.start GatherDims.offCoord
    rw [dif_neg (by decide), dif_pos (by decide), Nat.add_zero, Nat.zero_add]
    rfl
  | ⟨2, _⟩ =>
    show GatherDims.start _ y (COL E) 2 + GatherDims.batchCoord _ y 2 + GatherDims.offCoord _ y 2 = _
    rw [GatherDims.batchCoord_eq_zero _ _ _ (by decide)]
    unfold GatherDims.start GatherDims.offCoord
    rw [dif_neg (by decide), dif_pos (by decide), Nat.add_zero, Nat.zero_add]
    rfl

variable (m : (ℓ : Loc nD τ sig) → Buf (Elt Ideal) ℓ)

/-- A point's coordinates in the grid: its block of rows and its half of the hidden layer. -/
theorem coord : ∀ t : Fin grid0.N, (grid0.coords t 0).val = t.val / 2 ∧ (grid0.coords t 1).val = t.val % 2 :=
  (by decide +kernel : ∀ t : Fin grid0.N, _)

/-- Where the windows that read no table stand at a point. -/
theorem idx (hO : Ok m) : ∀ t : Fin (cfgM m hO).N, ((cfgM m hO).win 0).index t = ![t.val / 2, 0] ∧ ((cfgM m hO).win 1).index t = ![t.val / 2, 0]
    ∧ ((cfgM m hO).win 5).index t = ![t.val / 2, 0] :=
  (by decide +kernel : ∀ t : Fin grid0.N, cc0_transform_0 (grid0.coords t) = ![t.val / 2, 0] ∧ cc0_transform_1 (grid0.coords t) = ![t.val / 2, 0]
    ∧ cc0_transform_5 (grid0.coords t) = ![t.val / 2, 0])

theorem idx2 (hO : Ok m) (t : Fin (cfgM m hO).N) : ((cfgM m hO).win 2).index t
    = ![(tbl m 0 (ix1 (grid0.coords t 0 : Fin 268)) : BitVec 32).toNat, 0, t.val % 2] := by
  have e := tr2 (tbl m) (grid0.coords t)
  rw [(coord t).2] at e
  exact e

theorem idx3 (hO : Ok m) (t : Fin (cfgM m hO).N) : ((cfgM m hO).win 3).index t
    = ![(tbl m 0 (ix1 (grid0.coords t 0 : Fin 268)) : BitVec 32).toNat, 0, t.val % 2] := by
  have e := tr3 (tbl m) (grid0.coords t)
  rw [(coord t).2] at e
  exact e

theorem idx4 (hO : Ok m) (t : Fin (cfgM m hO).N) : ((cfgM m hO).win 4).index t
    = ![(tbl m 0 (ix1 (grid0.coords t 0 : Fin 268)) : BitVec 32).toNat, t.val % 2, 0] := by
  have e := tr4 (tbl m) (grid0.coords t)
  rw [(coord t).2] at e
  exact e

/-- Where an element of the output's block at a point sits in the result array. -/
theorem emb5 (hO : Ok m) (t : Fin (cfgM m hO).N) (y : S512x1024.Idx) : (((cfgM m hO).win 5).blk t).view.emb y
    = ix2 (⟨t.val / 2 * 512 + (y 0).val, by have h : t.val < 536 := t.isLt; have h' : (y 0).val < 512 := (y 0).isLt; omega⟩ : Fin 137216) (y 1 : Fin 1024) := by
  blk_ext [idx m hO t]

/-- The expert of a point's block of rows. -/
abbrev expert (h : Cert.Pre_ExpertsIdeal (hPre_experts_in_range := Cert.Pre_experts_in_range.Gen.facts) m) (t : Fin 536) : Fin 8 :=
  ⟨(m (((0 : Dev nD) : Thread nD τ).loc main_arg0) (ix1 (⟨t.val / 2, by omega⟩ : Fin 268)) : BitVec 32).toNat, word_lt m h 0 _⟩

/-- The table's word of a point's block. -/
theorem word (t : Fin grid0.N) : tbl m 0 (ix1 (grid0.coords t 0 : Fin 268))
    = m (((0 : Dev nD) : Thread nD τ).loc main_arg0) (ix1 (⟨t.val / 2, by have h : t.val < 536 := t.isLt; omega⟩ : Fin 268)) := by
  have e : tbl m 0 = m (((0 : Dev nD) : Thread nD τ).loc main_arg0) := V_main_arg0 m 0
  rw [e]
  exact congrArg (fun z : Fin 268 => m (((0 : Dev nD) : Thread nD τ).loc main_arg0) (ix1 z)) (Fin.ext (coord t).1)

section Reads

variable (h : Cert.Pre_ExpertsIdeal (hPre_experts_in_range := Cert.Pre_experts_in_range.Gen.facts) m) (hO : Ok m) (t : Fin (cfgM m hO).N)

/-- The block of rows at a point. -/
theorem read0 (r : Fin 512) (k : Fin 1024) : iblk m hO 0 0 t (ix2 r k)
    = m (((0 : Dev nD) : Thread nD τ).loc main_arg1) (ix2 (⟨t.val / 2 * 512 + r.val, by have h : t.val < 536 := t.isLt; omega⟩ : Fin 137216) k) := by
  blk_ext [iblk, V, idx m hO t]

/-- The block of gates at a point. -/
theorem read1 (r : Fin 512) : iblk m hO 0 1 t (ix2 r (0 : Fin 1))
    = m (((0 : Dev nD) : Thread nD τ).loc main_arg2) (ix1 (⟨t.val / 2 * 512 + r.val, by have h : t.val < 536 := t.isLt; omega⟩ : Fin 137216)) := by
  have e : (((cfgM m hO).win 1).blk t).view.emb (ix2 r (0 : Fin 1)) = ix2 (⟨t.val / 2 * 512 + r.val, by have h : t.val < 536 := t.isLt; omega⟩ : Fin 137216) (0 : Fin 1) := by
    blk_ext [idx m hO t]
  show V m 0 main_v0 ((((cfgM m hO).win 1).blk t).view.emb (ix2 r (0 : Fin 1))) = _
  rw [e]
  unfold V
  entry_read
  pointwise

/-- The block of the first weights at a point: of the block's expert. -/
theorem read2 (k : Fin 1024) (f : Fin 1792) : iblk m hO 0 2 t (ix3 (0 : Fin 1) k f)
    = m (((0 : Dev nD) : Thread nD τ).loc main_arg3) (ix3 (expert m h t) k (⟨t.val % 2 * 1792 + f.val, by omega⟩ : Fin 3584)) := by
  have e : (((cfgM m hO).win 2).blk t).view.emb (ix3 (0 : Fin 1) k f) = ix3 (expert m h t) k (⟨t.val % 2 * 1792 + f.val, by omega⟩ : Fin 3584) := by
    blk_ext [idx2 m hO t, word m t]
  show V m 0 main_v1 ((((cfgM m hO).win 2).blk t).view.emb (ix3 (0 : Fin 1) k f)) = _
  rw [e]
  unfold V
  entry_read
  pointwise

/-- The block of the second weights at a point: of the block's expert. -/
theorem read3 (k : Fin 1024) (f : Fin 1792) : iblk m hO 0 3 t (ix3 (0 : Fin 1) k f)
    = m (((0 : Dev nD) : Thread nD τ).loc main_arg4) (ix3 (expert m h t) k (⟨t.val % 2 * 1792 + f.val, by omega⟩ : Fin 3584)) := by
  have e : (((cfgM m hO).win 3).blk t).view.emb (ix3 (0 : Fin 1) k f) = ix3 (expert m h t) k (⟨t.val % 2 * 1792 + f.val, by omega⟩ : Fin 3584) := by
    blk_ext [idx3 m hO t, word m t]
  show V m 0 main_v2 ((((cfgM m hO).win 3).blk t).view.emb (ix3 (0 : Fin 1) k f)) = _
  rw [e]
  unfold V
  entry_read
  pointwise

/-- The block of the third weights at a point: of the block's expert. -/
theorem read4 (f : Fin 1792) (k : Fin 1024) : iblk m hO 0 4 t (ix3 (0 : Fin 1) f k)
    = m (((0 : Dev nD) : Thread nD τ).loc main_arg5) (ix3 (expert m h t) (⟨t.val % 2 * 1792 + f.val, by omega⟩ : Fin 3584) k) := by
  have e : (((cfgM m hO).win 4).blk t).view.emb (ix3 (0 : Fin 1) f k) = ix3 (expert m h t) (⟨t.val % 2 * 1792 + f.val, by omega⟩ : Fin 3584) k := by
    blk_ext [idx4 m hO t, word m t]
  show V m 0 main_v3 ((((cfgM m hO).win 4).blk t).view.emb (ix3 (0 : Fin 1) f k)) = _
  rw [e]
  unfold V
  entry_read
  pointwise

end Reads

/-- What the last point `t` of a row block stores, over the block `s` before it: the reference's term at the array index under it. -/
theorem point (h : Cert.Pre_ExpertsIdeal (hPre_experts_in_range := Cert.Pre_experts_in_range.Gen.facts) m) (hO : Ok m)
    (s t : Fin (cfgM m hO).N) (hst : s.val + 1 = t.val) (ht : t.val % 2 = 1) (y) :
    k0_pay1 (k0_pay3 (iblk m hO 0 0 t) (iblk m hO 0 2 t) (iblk m hO 0 3 t)
      (k0_pay3 (iblk m hO 0 0 s) (iblk m hO 0 2 s) (iblk m hO 0 3 s) (k0_pay2 (F := Ideal)) (iblk m hO 0 4 s)) (iblk m hO 0 4 t)) (iblk m hO 0 1 t) y
    = REF (m (((0 : Dev nD) : Thread nD τ).loc main_arg0)) (m (((0 : Dev nD) : Thread nD τ).loc main_arg1)) (m (((0 : Dev nD) : Thread nD τ).loc main_arg2))
        (m (((0 : Dev nD) : Thread nD τ).loc main_arg3)) (m (((0 : Dev nD) : Thread nD τ).loc main_arg4)) (m (((0 : Dev nD) : Thread nD τ).loc main_arg5))
        ((((cfgM m hO).win 5).blk t).view.emb y) := by
  rw [emb5]
  unfold REF
  rw [up_eq _ (word_lt m h 0), up_eq _ (word_lt m h 0), down_eq _ (word_lt m h 0)]
  idx_vars y
  pointwise [k0_pay3, k0_pay2, k0_pay1, NET, HID]
  rw [Fin.sum_univ_two_halves 1792 1792 rfl]
  simp only [zero_sub, pick_apply]
  have hs0 : s.val % 2 = 0 := by omega
  have hs2 : s.val / 2 = t.val / 2 := by omega
  have hd : (t.val / 2 * 512 + y0.val) / 512 = t.val / 2 := by omega
  simp only [read0, read1, read2 m h, read3 m h, read4 m h, expert, hs0, hs2, ht, hd, Nat.zero_mul, Nat.zero_add, Nat.one_mul]

/-- The blocks written back fill the result array. -/
theorem covers (hO : Ok m) : ((cfgM m hO).win 5).Covers := by
  refine ⟨?_, fun β => ?_⟩
  · show ∀ a : Fin 2, 0 < S512x1024.size a
    decide
  · have b0 : (β (0 : Fin 2)).val < 268 := lt_of_lt_of_eq (β (0 : Fin 2)).isLt (by show (137216 + 512 - 1) / 512 = 268; norm_num)
    have b1 : (β (1 : Fin 2)).val < 1 := lt_of_lt_of_eq (β (1 : Fin 2)).isLt (by show (1024 + 1024 - 1) / 1024 = 1; norm_num)
    refine ⟨(⟨2 * (β (0 : Fin 2)).val + 1, by omega⟩ : Fin 536), (flush0_5 _ _).mpr (by show (2 * (β (0 : Fin 2)).val + 1) % 2 = 1; omega), fun a => ⟨?_, .inl rfl⟩⟩
    refine (congrFun (idx m hO _).2.2 a).trans ?_
    match a with
    | ⟨0, _⟩ => show (2 * (β (0 : Fin 2)).val + 1) / 2 = (β (0 : Fin 2)).val; omega
    | ⟨1, _⟩ => show 0 = (β (1 : Fin 2)).val; omega

/-- What the last point `t` of a row block leaves in the output's block, over the block `s` before it. -/
theorem stored (hO : Ok m) (c : Dev nD) (t : Fin (cfgM m hO).N) (hs : t.val - 1 < (cfgM m hO).N) (h1 : t.val % 2 = 1) :
    (outsAt0 m hO c t.val t.isLt).1 = k0_pay1 (k0_pay3 (iblk m hO c 0 t) (iblk m hO c 2 t) (iblk m hO c 3 t)
      (k0_pay3 (iblk m hO c 0 ⟨t.val - 1, hs⟩) (iblk m hO c 2 ⟨t.val - 1, hs⟩) (iblk m hO c 3 ⟨t.val - 1, hs⟩) (k0_pay2 (F := Ideal)) (iblk m hO c 4 ⟨t.val - 1, hs⟩)) (iblk m hO c 4 t)) (iblk m hO c 1 t) := by
  have h0s : (⟨t.val - 1, hs⟩ : Fin (cfgM m hO).N).val % 2 = 0 := by show (t.val - 1) % 2 = 0; omega
  have hA := outsAt0_A m hO c ⟨t.val - 1, hs⟩ h0s (by omega)
  rw [outsAt0_B m hO c t (by omega) h1]
  dsimp only at hA ⊢
  rw [hA]
  frame_out
  rw [show ∀ X, View.read (Elt Ideal) (View.whole cc0_scratch0) ((Memref.isWhole_whole cc0_scratch0).unread X) = X from fun X => (Memref.isWhole_whole cc0_scratch0).read_unread X]
  exact congr (congrArg k0_pay1 (congr (congr (congr (congr (congrArg k0_pay3 ((hs0_0 m hO t).read_unread _)) ((hs0_2 m hO t).read_unread _)) ((hs0_3 m hO t).read_unread _)) (congr (congr (congr (congr (congrArg k0_pay3 ((hs0_0 m hO ⟨t.val - 1, hs⟩).read_unread _)) ((hs0_2 m hO ⟨t.val - 1, hs⟩).read_unread _)) ((hs0_3 m hO ⟨t.val - 1, hs⟩).read_unread _)) rfl) ((hs0_4 m hO ⟨t.val - 1, hs⟩).read_unread _))) ((hs0_4 m hO t).read_unread _))) ((hs0_1 m hO t).read_unread _)

/-- The result array after the run is the reference's term. -/
theorem final (h : Cert.Pre_ExpertsIdeal (hPre_experts_in_range := Cert.Pre_experts_in_range.Gen.facts) m) (hO : Ok m) (c : Dev nD) :
    (dats m hO 0 c).arrAt 5 (cfgM m hO).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain rfl : c = 0 := Subsingleton.elim _ _
  refine (dats m hO 0 0).arrAt_eq_of_covers 5 _ (covers m hO) fun t hf y => ?_
  have h1 : t.val % 2 = 1 := (flush0_5 _ t).mp hf
  have hs : t.val - 1 < (cfgM m hO).N := Nat.lt_of_le_of_lt (Nat.sub_le _ _) t.isLt
  have e := stored m hO 0 t hs h1
  blk_simp
  rw [after0_5, e]
  exact point m h hO ⟨t.val - 1, hs⟩ t (by show t.val - 1 + 1 = t.val; omega) h1 y

end Cert.ExpertsIdeal.Whole

end
-- ==== Proof.ExpertsClaims.lean ====
module

public import proofs.«01_k».proof.Defs
public import proofs.«01_k».proof.Proof.Gen.Experts.Frame
public import proofs.«01_k».proof.Proof.Gen.ExpertsIdeal.Frame
public import proofs.«01_k».proof.Proof.Gen.ExpertsRefIdeal.Run
public import proofs.«01_k».proof.Proof.ExpertsIn
public import proofs.«01_k».proof.Proof.ExpertsValue
public import Idealize.ShloMosaic.Lib.Quiescent

/-! # The claims about the routed experts

The two runs of the kernel are the generated ones, at a table of experts that are all in range; the reference is a host
program, whose run is generated too, and which has no semaphore. The value of the kernel's result is the theorem of
`ExpertsValue`. -/

@[expose] public section

noncomputable section

namespace Cert.ExpertsClaims

open Idealize.ShloMosaic Idealize.ShloMosaic.TcCoe Idealize.SL.Sem

/-- The kernel runs to its end, keeps its arguments and leaves every semaphore at zero. -/
theorem frame_kernel : Cert.quiescent_Experts (hExperts := Cert.Experts.Gen.facts) (hPre_experts_in_range := Cert.Pre_experts_in_range.Gen.facts) :=
  fun m ρ h => Cert.Experts.Gen.frame m ρ (Cert.Experts.Whole.ok_of_pre m h)

/-- The same of the kernel over the extended reals. -/
theorem frame_ideal : Cert.quiescent_ExpertsIdeal (hExpertsIdeal := Cert.ExpertsIdeal.Gen.facts) (hPre_experts_in_range := Cert.Pre_experts_in_range.Gen.facts) :=
  fun m ρ h => Cert.ExpertsIdeal.Gen.frame m ρ (Cert.ExpertsIdeal.Whole.ok_of_pre m h)

/-- The same of the reference over the extended reals. -/
theorem frame_reference : Cert.quiescent_ExpertsRefIdeal (hExpertsRefIdeal := Cert.ExpertsRefIdeal.Gen.facts) (hPre_experts_in_range := Cert.Pre_experts_in_range.Gen.facts) :=
  fun m ρ _ => (θ_run Cert.ExpertsRefIdeal.defs _ _).mono
    (fun r h => ⟨fun c => ⟨(h c).2.1, (h c).2.2.1, (h c).2.2.2.1, (h c).2.2.2.2.1, (h c).2.2.2.2.2.1, (h c).2.2.2.2.2.2⟩,
      sem_eq_zero_of_no_sems (by decide) r.2⟩)
    (Cert.ExpertsRefIdeal.Value.run (F := Ideal) m ρ)

section Run

open Cert.ExpertsIdeal Cert.ExpertsIdeal.Gen

variable (m : (ℓ : Loc nD τ sig) → Buf (Elt Ideal) ℓ) (ρ : Dev nD → PrngReg)

/-- The kernel's run, its result array named and its arguments kept. -/
theorem run (hO : Ok m) : θ_run (defs (F := Ideal)) (onTc (τ := τ) (main (F := Ideal))) ⟨m, fun _ => 0, ρ⟩ (fun r => ∀ c : Dev nD,
    r.2.mem ((c.tc : Thread nD τ).loc main_v4) = (dats m hO 0 c).arrAt 5 (cfgM m hO).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨(h c).1 5,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Run

/-- Over the extended reals the kernel's result is the reference's. -/
theorem value : Cert.algebraic_ExpertsIdeal_ExpertsRefIdeal (hExpertsIdeal := Cert.ExpertsIdeal.Gen.facts)
    (hExpertsRefIdeal := Cert.ExpertsRefIdeal.Gen.facts) (hPre_experts_in_range := Cert.Pre_experts_in_range.Gen.facts) := by
  intro m ρ m' ρ' hpre hagree
  have hO := Cert.ExpertsIdeal.Whole.ok_of_pre m hpre
  refine ⟨fun c => (Cert.ExpertsIdeal.Gen.dats m hO 0 c).arrAt 5 (Cert.ExpertsIdeal.Gen.cfgM m hO).N, run m ρ hO, ?_⟩
  refine (θ_run Cert.ExpertsRefIdeal.defs _ _).mono (fun r h c => ⟨((h c).1).trans ?_, (h c).2.1, (h c).2.2.1, (h c).2.2.2.1, (h c).2.2.2.2.1, (h c).2.2.2.2.2.1, (h c).2.2.2.2.2.2⟩)
    (Cert.ExpertsRefIdeal.Value.run (F := Ideal) m' ρ')
  · refine Eq.trans ?_ (Cert.ExpertsIdeal.Whole.final m hpre hO c).symm
    rw [← (hagree c).1, ← (hagree c).2.1, ← (hagree c).2.2.1, ← (hagree c).2.2.2.1, ← (hagree c).2.2.2.2.1, ← (hagree c).2.2.2.2.2] <;> rfl

end Cert.ExpertsClaims

end
-- ==== Proof.PrepValue.lean ====
/- The value of `PrepIdeal`: its three result arrays are the reference's terms of the argument arrays. -/
module

public import proofs.«01_k».proof.Proof.Gen.PrepIdeal.Frame
public import proofs.«01_k».proof.Proof.Gen.PrepIdeal.Value
public import proofs.«01_k».proof.Proof.Gen.PrepRefIdeal.Run
public import Idealize.ShloMosaic.Lib.Pipeline.ValueKit
public import Idealize.ShloMosaic.Lib.StableHlo.RunRead

@[expose] public section

set_option maxRecDepth 16384

noncomputable section

namespace Cert.PrepIdeal.Whole

open Cert.PrepIdeal Cert.PrepIdeal.Gen Idealize.ShloMosaic Idealize.ShloMosaic.TcCoe Idealize.SL.Sem
open Idealize.ShloMosaic.Pipeline (Dat)

variable (m : (ℓ : Loc nD τ sig) → Buf (Elt Ideal) ℓ)

/-- The columns of head 0 of the raising of the queries, times the scale. -/
abbrev SCALED0 (f : FVec Ideal S256x384 .f32) : FVec Ideal S256x96 .f32 :=
  mulf (extractStridedSlice S256x96 ![0, 0] f slices_S256x384_S256x96_0_0) (broadcastInDim S256x96 ![] bcast_S_S256x96 (constant S_ .f32 0x3E16C740#32))

/-- The columns of head 1 of the raising of the queries, times the scale. -/
abbrev SCALED1 (f : FVec Ideal S256x384 .f32) : FVec Ideal S256x96 .f32 :=
  mulf (extractStridedSlice S256x96 ![0, 96] f slices_S256x384_S256x96_0_96) (broadcastInDim S256x96 ![] bcast_S_S256x96 (constant S_ .f32 0x3E16C740#32))

/-- The columns of head 2 of the raising of the queries, times the scale. -/
abbrev SCALED2 (f : FVec Ideal S256x384 .f32) : FVec Ideal S256x96 .f32 :=
  mulf (extractStridedSlice S256x96 ![0, 192] f slices_S256x384_S256x96_0_192) (broadcastInDim S256x96 ![] bcast_S_S256x96 (constant S_ .f32 0x3E16C740#32))

/-- The columns of head 3 of the raising of the queries, times the scale. -/
abbrev SCALED3 (f : FVec Ideal S256x384 .f32) : FVec Ideal S256x96 .f32 :=
  mulf (extractStridedSlice S256x96 ![0, 288] f slices_S256x384_S256x96_0_288) (broadcastInDim S256x96 ![] bcast_S_S256x96 (constant S_ .f32 0x3E16C740#32))

/-- The raising of the queries as the kernel's host part lays it out: four head slots of 128 lanes, zeros after the 96 columns. -/
abbrev WQA (f : FVec Ideal S256x384 .f32) : FVec Ideal S256x512 .bf16 :=
  truncf .bf16 (concatenate S256x512 1 [⟨S256x64, extractStridedSlice S256x64 ![0, 0] (SCALED0 f) slices_S256x96_S256x64_0_0⟩, ⟨S256x16, extractStridedSlice S256x16 ![0, 64] (SCALED0 f) slices_S256x96_S256x16_0_64⟩, ⟨S256x16, extractStridedSlice S256x16 ![0, 80] (SCALED0 f) slices_S256x96_S256x16_0_80⟩, ⟨S256x32, broadcastInDim S256x32 ![] bcast_S_S256x32 (constant S_ .f32 0x00000000#32)⟩,
    ⟨S256x64, extractStridedSlice S256x64 ![0, 0] (SCALED1 f) slices_S256x96_S256x64_0_0⟩, ⟨S256x16, extractStridedSlice S256x16 ![0, 64] (SCALED1 f) slices_S256x96_S256x16_0_64⟩, ⟨S256x16, extractStridedSlice S256x16 ![0, 80] (SCALED1 f) slices_S256x96_S256x16_0_80⟩, ⟨S256x32, broadcastInDim S256x32 ![] bcast_S_S256x32 (constant S_ .f32 0x00000000#32)⟩,
    ⟨S256x64, extractStridedSlice S256x64 ![0, 0] (SCALED2 f) slices_S256x96_S256x64_0_0⟩, ⟨S256x16, extractStridedSlice S256x16 ![0, 64] (SCALED2 f) slices_S256x96_S256x16_0_64⟩, ⟨S256x16, extractStridedSlice S256x16 ![0, 80] (SCALED2 f) slices_S256x96_S256x16_0_80⟩, ⟨S256x32, broadcastInDim S256x32 ![] bcast_S_S256x32 (constant S_ .f32 0x00000000#32)⟩,
    ⟨S256x64, extractStridedSlice S256x64 ![0, 0] (SCALED3 f) slices_S256x96_S256x64_0_0⟩, ⟨S256x16, extractStridedSlice S256x16 ![0, 64] (SCALED3 f) slices_S256x96_S256x16_0_64⟩, ⟨S256x16, extractStridedSlice S256x16 ![0, 80] (SCALED3 f) slices_S256x96_S256x16_0_80⟩, ⟨S256x32, broadcastInDim S256x32 ![] bcast_S_S256x32 (constant S_ .f32 0x00000000#32)⟩]
    concatenates_S256x64_S256x16_S256x16_S256x32_S256x64_S256x16_S256x16_S256x32_S256x64_S256x16_S256x16_S256x32_S256x64_S256x16_S256x16_S256x32_S256x512_d1) bitsLt_bf16_f32

/-- The same with the halves of the rotated columns exchanged, and zeros in place of the others. -/
abbrev WQB (f : FVec Ideal S256x384 .f32) : FVec Ideal S256x512 .bf16 :=
  truncf .bf16 (concatenate S256x512 1 [⟨S256x64, broadcastInDim S256x64 ![] bcast_S_S256x64 (constant S_ .f32 0x00000000#32)⟩, ⟨S256x16, extractStridedSlice S256x16 ![0, 80] (SCALED0 f) slices_S256x96_S256x16_0_80⟩, ⟨S256x16, extractStridedSlice S256x16 ![0, 64] (SCALED0 f) slices_S256x96_S256x16_0_64⟩, ⟨S256x32, broadcastInDim S256x32 ![] bcast_S_S256x32 (constant S_ .f32 0x00000000#32)⟩,
    ⟨S256x64, broadcastInDim S256x64 ![] bcast_S_S256x64 (constant S_ .f32 0x00000000#32)⟩, ⟨S256x16, extractStridedSlice S256x16 ![0, 80] (SCALED1 f) slices_S256x96_S256x16_0_80⟩, ⟨S256x16, extractStridedSlice S256x16 ![0, 64] (SCALED1 f) slices_S256x96_S256x16_0_64⟩, ⟨S256x32, broadcastInDim S256x32 ![] bcast_S_S256x32 (constant S_ .f32 0x00000000#32)⟩,
    ⟨S256x64, broadcastInDim S256x64 ![] bcast_S_S256x64 (constant S_ .f32 0x00000000#32)⟩, ⟨S256x16, extractStridedSlice S256x16 ![0, 80] (SCALED2 f) slices_S256x96_S256x16_0_80⟩, ⟨S256x16, extractStridedSlice S256x16 ![0, 64] (SCALED2 f) slices_S256x96_S256x16_0_64⟩, ⟨S256x32, broadcastInDim S256x32 ![] bcast_S_S256x32 (constant S_ .f32 0x00000000#32)⟩,
    ⟨S256x64, broadcastInDim S256x64 ![] bcast_S_S256x64 (constant S_ .f32 0x00000000#32)⟩, ⟨S256x16, extractStridedSlice S256x16 ![0, 80] (SCALED3 f) slices_S256x96_S256x16_0_80⟩, ⟨S256x16, extractStridedSlice S256x16 ![0, 64] (SCALED3 f) slices_S256x96_S256x16_0_64⟩, ⟨S256x32, broadcastInDim S256x32 ![] bcast_S_S256x32 (constant S_ .f32 0x00000000#32)⟩]
    concatenates_S256x64_S256x16_S256x16_S256x32_S256x64_S256x16_S256x16_S256x32_S256x64_S256x16_S256x16_S256x32_S256x64_S256x16_S256x16_S256x32_S256x512_d1) bitsLt_bf16_f32

/-- The raising of the latents to the keys, in head slots of 128 lanes, zeros after the 64 columns. -/
abbrev WK (f : FVec Ideal S128x512 .f32) : FVec Ideal S128x512 .bf16 :=
  truncf .bf16 (concatenate S128x512 1 [⟨S128x64, extractStridedSlice S128x64 ![0, 0] (extractStridedSlice S128x128 ![0, 0] f slices_S128x512_S128x128_0_0) slices_S128x128_S128x64_0_0⟩, ⟨S128x64, broadcastInDim S128x64 ![] bcast_S_S128x64 (constant S_ .f32 0x00000000#32)⟩,
    ⟨S128x64, extractStridedSlice S128x64 ![0, 0] (extractStridedSlice S128x128 ![0, 128] f slices_S128x512_S128x128_0_128) slices_S128x128_S128x64_0_0⟩, ⟨S128x64, broadcastInDim S128x64 ![] bcast_S_S128x64 (constant S_ .f32 0x00000000#32)⟩,
    ⟨S128x64, extractStridedSlice S128x64 ![0, 0] (extractStridedSlice S128x128 ![0, 256] f slices_S128x512_S128x128_0_256) slices_S128x128_S128x64_0_0⟩, ⟨S128x64, broadcastInDim S128x64 ![] bcast_S_S128x64 (constant S_ .f32 0x00000000#32)⟩,
    ⟨S128x64, extractStridedSlice S128x64 ![0, 0] (extractStridedSlice S128x128 ![0, 384] f slices_S128x512_S128x128_0_384) slices_S128x128_S128x64_0_0⟩, ⟨S128x64, broadcastInDim S128x64 ![] bcast_S_S128x64 (constant S_ .f32 0x00000000#32)⟩]
    concatenates_S128x64_S128x64_S128x64_S128x64_S128x64_S128x64_S128x64_S128x64_S128x512_d1) bitsLt_bf16_f32

/-- The raising of the latents to the values, in head slots of 128 lanes, zeros after the 64 columns. -/
abbrev WV (f : FVec Ideal S128x512 .f32) : FVec Ideal S128x512 .bf16 :=
  truncf .bf16 (concatenate S128x512 1 [⟨S128x64, extractStridedSlice S128x64 ![0, 64] (extractStridedSlice S128x128 ![0, 0] f slices_S128x512_S128x128_0_0) slices_S128x128_S128x64_0_64⟩, ⟨S128x64, broadcastInDim S128x64 ![] bcast_S_S128x64 (constant S_ .f32 0x00000000#32)⟩,
    ⟨S128x64, extractStridedSlice S128x64 ![0, 64] (extractStridedSlice S128x128 ![0, 128] f slices_S128x512_S128x128_0_128) slices_S128x128_S128x64_0_64⟩, ⟨S128x64, broadcastInDim S128x64 ![] bcast_S_S128x64 (constant S_ .f32 0x00000000#32)⟩,
    ⟨S128x64, extractStridedSlice S128x64 ![0, 64] (extractStridedSlice S128x128 ![0, 256] f slices_S128x512_S128x128_0_256) slices_S128x128_S128x64_0_64⟩, ⟨S128x64, broadcastInDim S128x64 ![] bcast_S_S128x64 (constant S_ .f32 0x00000000#32)⟩,
    ⟨S128x64, extractStridedSlice S128x64 ![0, 64] (extractStridedSlice S128x128 ![0, 384] f slices_S128x512_S128x128_0_384) slices_S128x128_S128x64_0_64⟩, ⟨S128x64, broadcastInDim S128x64 ![] bcast_S_S128x64 (constant S_ .f32 0x00000000#32)⟩]
    concatenates_S128x64_S128x64_S128x64_S128x64_S128x64_S128x64_S128x64_S128x64_S128x512_d1) bitsLt_bf16_f32

/-- A choice is a value where both branches are, each under its condition. -/
theorem dite_read {α : Type} {p : Prop} [Decidable p] {a : p → α} {b : ¬p → α} {R : α} (h1 : ∀ h, a h = R) (h2 : ∀ h, b h = R) :
    dite p a b = R := by
  by_cases h : p
  · rw [dif_pos h]; exact h1 h
  · rw [dif_neg h]; exact h2 h

/-- The same of a choice whose branches do not mention the condition. -/
theorem ite_read {α : Type} {p : Prop} [Decidable p] {a b : α} {R : α} (h1 : p → a = R) (h2 : ¬p → b = R) : ite p a b = R := by
  by_cases h : p
  · rw [if_pos h]; exact h1 h
  · rw [if_neg h]; exact h2 h

/-- The 96 columns of a head in `WQA`. -/
theorem wQA_col (f : FVec Ideal S256x384 .f32) (k : Fin 256) (h : Fin 4) (l : Fin 96) :
    WQA f (ix2 k (⟨h.val * 128 + l.val, by omega⟩ : Fin 512)) = HMul.hMul (α := EReal) (β := EReal) (γ := EReal) (f (ix2 k (⟨h.val * 96 + l.val, by omega⟩ : Fin 384))) (Ideal.ofBits .f32 0x3E16C740#32) := by
  have hh := h.isLt
  have hl := l.isLt
  obtain ⟨R, hR⟩ : ∃ R : EReal, R = HMul.hMul (α := EReal) (β := EReal) (γ := EReal) (f (ix2 k (⟨h.val * 96 + l.val, by omega⟩ : Fin 384))) (Ideal.ofBits .f32 0x3E16C740#32) := ⟨_, rfl⟩
  rw [← hR]
  have key : ∀ n (hn : n < 384), n = h.val * 96 + l.val → HMul.hMul (α := EReal) (β := EReal) (γ := EReal) (f (ix2 k (⟨n, hn⟩ : Fin 384))) (Ideal.ofBits .f32 0x3E16C740#32) = R := by
    intro n hn e
    subst e
    exact hR.symm
  clear hR
  pointwise [WQA]
  repeat' first
    | (exfalso; omega)
    | refine dite_read (fun _ => ?_) (fun _ => ?_)
    | refine ite_read (fun _ => ?_) (fun _ => ?_)
    | exact key _ _ (by omega)

/-- The lanes of a head in `WQA` that hold zeros. -/
theorem wQA_pad (f : FVec Ideal S256x384 .f32) (k : Fin 256) (h : Fin 4) (l : Fin 32) :
    WQA f (ix2 k (⟨h.val * 128 + (96 + l.val), by omega⟩ : Fin 512)) = (0 : EReal) := by
  have hh := h.isLt
  have hl := l.isLt
  pointwise [WQA]
  repeat' first
    | (exfalso; omega)
    | refine dite_read (fun _ => ?_) (fun _ => ?_)
    | refine ite_read (fun _ => ?_) (fun _ => ?_)
    | rfl

/-- The first lanes of a head in `WQB` hold zeros. -/
theorem wQB_low (f : FVec Ideal S256x384 .f32) (k : Fin 256) (h : Fin 4) (l : Fin 64) :
    WQB f (ix2 k (⟨h.val * 128 + l.val, by omega⟩ : Fin 512)) = (0 : EReal) := by
  have hh := h.isLt
  have hl := l.isLt
  pointwise [WQB]
  repeat' first
    | (exfalso; omega)
    | refine dite_read (fun _ => ?_) (fun _ => ?_)
    | refine ite_read (fun _ => ?_) (fun _ => ?_)
    | rfl

/-- The first half of a head's rotated lanes in `WQB`: the second half's columns. -/
theorem wQB_first (f : FVec Ideal S256x384 .f32) (k : Fin 256) (h : Fin 4) (l : Fin 16) :
    WQB f (ix2 k (⟨h.val * 128 + (64 + l.val), by omega⟩ : Fin 512)) = HMul.hMul (α := EReal) (β := EReal) (γ := EReal) (f (ix2 k (⟨h.val * 96 + (80 + l.val), by omega⟩ : Fin 384))) (Ideal.ofBits .f32 0x3E16C740#32) := by
  have hh := h.isLt
  have hl := l.isLt
  obtain ⟨R, hR⟩ : ∃ R : EReal, R = HMul.hMul (α := EReal) (β := EReal) (γ := EReal) (f (ix2 k (⟨h.val * 96 + (80 + l.val), by omega⟩ : Fin 384))) (Ideal.ofBits .f32 0x3E16C740#32) := ⟨_, rfl⟩
  rw [← hR]
  have key : ∀ n (hn : n < 384), n = h.val * 96 + (80 + l.val) → HMul.hMul (α := EReal) (β := EReal) (γ := EReal) (f (ix2 k (⟨n, hn⟩ : Fin 384))) (Ideal.ofBits .f32 0x3E16C740#32) = R := by
    intro n hn e
    subst e
    exact hR.symm
  clear hR
  pointwise [WQB]
  repeat' first
    | (exfalso; omega)
    | refine dite_read (fun _ => ?_) (fun _ => ?_)
    | refine ite_read (fun _ => ?_) (fun _ => ?_)
    | exact key _ _ (by omega)

/-- The second half of a head's rotated lanes in `WQB`: the first half's columns. -/
theorem wQB_second (f : FVec Ideal S256x384 .f32) (k : Fin 256) (h : Fin 4) (l : Fin 16) :
    WQB f (ix2 k (⟨h.val * 128 + (80 + l.val), by omega⟩ : Fin 512)) = HMul.hMul (α := EReal) (β := EReal) (γ := EReal) (f (ix2 k (⟨h.val * 96 + (64 + l.val), by omega⟩ : Fin 384))) (Ideal.ofBits .f32 0x3E16C740#32) := by
  have hh := h.isLt
  have hl := l.isLt
  obtain ⟨R, hR⟩ : ∃ R : EReal, R = HMul.hMul (α := EReal) (β := EReal) (γ := EReal) (f (ix2 k (⟨h.val * 96 + (64 + l.val), by omega⟩ : Fin 384))) (Ideal.ofBits .f32 0x3E16C740#32) := ⟨_, rfl⟩
  rw [← hR]
  have key : ∀ n (hn : n < 384), n = h.val * 96 + (64 + l.val) → HMul.hMul (α := EReal) (β := EReal) (γ := EReal) (f (ix2 k (⟨n, hn⟩ : Fin 384))) (Ideal.ofBits .f32 0x3E16C740#32) = R := by
    intro n hn e
    subst e
    exact hR.symm
  clear hR
  pointwise [WQB]
  repeat' first
    | (exfalso; omega)
    | refine dite_read (fun _ => ?_) (fun _ => ?_)
    | refine ite_read (fun _ => ?_) (fun _ => ?_)
    | exact key _ _ (by omega)

/-- The last lanes of a head in `WQB` hold zeros. -/
theorem wQB_pad (f : FVec Ideal S256x384 .f32) (k : Fin 256) (h : Fin 4) (l : Fin 32) :
    WQB f (ix2 k (⟨h.val * 128 + (96 + l.val), by omega⟩ : Fin 512)) = (0 : EReal) := by
  have hh := h.isLt
  have hl := l.isLt
  pointwise [WQB]
  repeat' first
    | (exfalso; omega)
    | refine dite_read (fun _ => ?_) (fun _ => ?_)
    | refine ite_read (fun _ => ?_) (fun _ => ?_)
    | rfl

/-- The 64 columns of a head in `WK`. -/
theorem wK_col (f : FVec Ideal S128x512 .f32) (k : Fin 128) (h : Fin 4) (l : Fin 64) :
    WK f (ix2 k (⟨h.val * 128 + l.val, by omega⟩ : Fin 512)) = f (ix2 k (⟨h.val * 128 + l.val, by omega⟩ : Fin 512)) := by
  have hh := h.isLt
  have hl := l.isLt
  obtain ⟨R, hR⟩ : ∃ R : EReal, R = f (ix2 k (⟨h.val * 128 + l.val, by omega⟩ : Fin 512)) := ⟨_, rfl⟩
  rw [← hR]
  have key : ∀ n (hn : n < 512), n = h.val * 128 + l.val → f (ix2 k (⟨n, hn⟩ : Fin 512)) = R := by
    intro n hn e
    subst e
    exact hR.symm
  clear hR
  pointwise [WK]
  repeat' first
    | (exfalso; omega)
    | refine dite_read (fun _ => ?_) (fun _ => ?_)
    | refine ite_read (fun _ => ?_) (fun _ => ?_)
    | exact key _ _ (by omega)

/-- The lanes of a head in `WK` that hold zeros. -/
theorem wK_pad (f : FVec Ideal S128x512 .f32) (k : Fin 128) (h : Fin 4) (l : Fin 64) :
    WK f (ix2 k (⟨h.val * 128 + (64 + l.val), by omega⟩ : Fin 512)) = (0 : EReal) := by
  have hh := h.isLt
  have hl := l.isLt
  pointwise [WK]
  repeat' first
    | (exfalso; omega)
    | refine dite_read (fun _ => ?_) (fun _ => ?_)
    | refine ite_read (fun _ => ?_) (fun _ => ?_)
    | rfl

/-- The 64 columns of a head in `WV`. -/
theorem wV_col (f : FVec Ideal S128x512 .f32) (k : Fin 128) (h : Fin 4) (l : Fin 64) :
    WV f (ix2 k (⟨h.val * 128 + l.val, by omega⟩ : Fin 512)) = f (ix2 k (⟨h.val * 128 + (64 + l.val), by omega⟩ : Fin 512)) := by
  have hh := h.isLt
  have hl := l.isLt
  obtain ⟨R, hR⟩ : ∃ R : EReal, R = f (ix2 k (⟨h.val * 128 + (64 + l.val), by omega⟩ : Fin 512)) := ⟨_, rfl⟩
  rw [← hR]
  have key : ∀ n (hn : n < 512), n = h.val * 128 + (64 + l.val) → f (ix2 k (⟨n, hn⟩ : Fin 512)) = R := by
    intro n hn e
    subst e
    exact hR.symm
  clear hR
  pointwise [WV]
  repeat' first
    | (exfalso; omega)
    | refine dite_read (fun _ => ?_) (fun _ => ?_)
    | refine ite_read (fun _ => ?_) (fun _ => ?_)
    | exact key _ _ (by omega)

/-- The lanes of a head in `WV` that hold zeros. -/
theorem wV_pad (f : FVec Ideal S128x512 .f32) (k : Fin 128) (h : Fin 4) (l : Fin 64) :
    WV f (ix2 k (⟨h.val * 128 + (64 + l.val), by omega⟩ : Fin 512)) = (0 : EReal) := by
  have hh := h.isLt
  have hl := l.isLt
  pointwise [WV]
  repeat' first
    | (exfalso; omega)
    | refine dite_read (fun _ => ?_) (fun _ => ?_)
    | refine ite_read (fun _ => ?_) (fun _ => ?_)
    | rfl

/-- The angles of the rotary embedding: positions against the inverse frequencies. -/
def ANG : FVec Ideal S8320x16 .f32 :=
  mulf (broadcastInDim S8320x16 ![0, 1] bcast_S8320x1_S8320x16_0_1 (broadcastInDim S8320x1 ![0] bcast_S8320_S8320x1_0 (sitofp .f32 (iotaInDim S8320 32 0))))
    (broadcastInDim S8320x16 ![0, 1] bcast_S1x16_S8320x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- Their cosines. -/
def COS : FVec Ideal S8320x16 .f32 := Host.cos ANG

/-- Their sines. -/
def SIN : FVec Ideal S8320x16 .f32 := Host.sin ANG

/-- The kernel's table of cosines over a head's lanes: ones before the rotated lanes, zeros after them. -/
abbrev C1 : FVec Ideal S8320x128 .f32 :=
  concatenate S8320x128 1 [⟨S8320x64, broadcastInDim S8320x64 ![] bcast_S_S8320x64 (constant S_ .f32 0x3F800000#32)⟩, ⟨S8320x16, COS⟩, ⟨S8320x16, COS⟩,
    ⟨S8320x32, broadcastInDim S8320x32 ![] bcast_S_S8320x32 (constant S_ .f32 0x00000000#32)⟩] concatenates_S8320x64_S8320x16_S8320x16_S8320x32_S8320x128_d1

/-- The kernel's table of sines over a head's lanes: negated over the first half of the rotated lanes, zeros outside them. -/
abbrev S1 : FVec Ideal S8320x128 .f32 :=
  concatenate S8320x128 1 [⟨S8320x64, mulf (broadcastInDim S8320x64 ![] bcast_S_S8320x64 (constant S_ .f32 0x00000000#32))
      (broadcastInDim S8320x64 ![] bcast_S_S8320x64 (constant S_ .f32 0x3F800000#32))⟩, ⟨S8320x16, Host.negf SIN⟩, ⟨S8320x16, SIN⟩,
    ⟨S8320x32, broadcastInDim S8320x32 ![] bcast_S_S8320x32 (constant S_ .f32 0x00000000#32)⟩] concatenates_S8320x64_S8320x16_S8320x16_S8320x32_S8320x128_d1

/-- `C1` before the rotated lanes. -/
theorem c1_low (r : Fin 8320) (l : Fin 64) : C1 (ix2 r (⟨l.val, by omega⟩ : Fin 128)) = (1 : EReal) := by
  have hl := l.isLt
  pointwise [C1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- `C1` over the first half of the rotated lanes. -/
theorem c1_first (r : Fin 8320) (l : Fin 16) : C1 (ix2 r (⟨64 + l.val, by omega⟩ : Fin 128)) = (COS (ix2 r l) : EReal) := by
  have hl := l.isLt
  pointwise [C1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- `C1` over the second half. -/
theorem c1_second (r : Fin 8320) (l : Fin 16) : C1 (ix2 r (⟨80 + l.val, by omega⟩ : Fin 128)) = (COS (ix2 r l) : EReal) := by
  have hl := l.isLt
  pointwise [C1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- `C1` after the rotated lanes. -/
theorem c1_pad (r : Fin 8320) (l : Fin 32) : C1 (ix2 r (⟨96 + l.val, by omega⟩ : Fin 128)) = (0 : EReal) := by
  have hl := l.isLt
  pointwise [C1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- `S1` before the rotated lanes. -/
theorem s1_low (r : Fin 8320) (l : Fin 64) : S1 (ix2 r (⟨l.val, by omega⟩ : Fin 128)) = (0 : EReal) := by
  have hl := l.isLt
  pointwise [S1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- `S1` over the first half of the rotated lanes. -/
theorem s1_first (r : Fin 8320) (l : Fin 16) : S1 (ix2 r (⟨64 + l.val, by omega⟩ : Fin 128)) = (-(SIN (ix2 r l) : EReal) : EReal) := by
  have hl := l.isLt
  pointwise [S1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- `S1` over the second half. -/
theorem s1_second (r : Fin 8320) (l : Fin 16) : S1 (ix2 r (⟨80 + l.val, by omega⟩ : Fin 128)) = (SIN (ix2 r l) : EReal) := by
  have hl := l.isLt
  pointwise [S1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- `S1` after the rotated lanes. -/
theorem s1_pad (r : Fin 8320) (l : Fin 32) : S1 (ix2 r (⟨96 + l.val, by omega⟩ : Fin 128)) = (0 : EReal) := by
  have hl := l.isLt
  pointwise [S1]
  all_goals first
    | (split_ifs <;> first
      | rfl
      | (exfalso; omega)
      | exact congrArg (fun n : Fin 16 => (COS (ix2 r n) : EReal)) (Fin.ext (by show (80 + l.val) - 64 - 16 = l.val; omega))
      | exact congrArg (fun n : Fin 16 => (SIN (ix2 r n) : EReal)) (Fin.ext (by show (80 + l.val) - 64 - 16 = l.val; omega)))

/-- The table that moves the shared rotated key to its lanes in a head: lane 64 + s takes column s. -/
abbrev EA : FVec Ideal S128x128 .bf16 :=
  uitofp .bf16 (andi (cmpi .slt (iotaInDim S128x128 32 0) (broadcastInDim S128x128 ![] bcast_S_S128x128 (constantI S_ 32 32#32)))
    (cmpi .eq (iotaInDim S128x128 32 1) (addi (broadcastInDim S128x128 ![] bcast_S_S128x128 (constantI S_ 32 64#32)) (iotaInDim S128x128 32 0))))

/-- The same with the halves exchanged. -/
abbrev EB : FVec Ideal S128x128 .bf16 :=
  uitofp .bf16 (andi (cmpi .slt (iotaInDim S128x128 32 0) (broadcastInDim S128x128 ![] bcast_S_S128x128 (constantI S_ 32 32#32)))
    (cmpi .eq (iotaInDim S128x128 32 1) (addi (broadcastInDim S128x128 ![] bcast_S_S128x128 (constantI S_ 32 64#32))
      (andi (addi (iotaInDim S128x128 32 0) (broadcastInDim S128x128 ![] bcast_S_S128x128 (constantI S_ 32 16#32)))
        (broadcastInDim S128x128 ![] bcast_S_S128x128 (constantI S_ 32 31#32))))))

/-- The bit one as a number. -/
theorem one_of_bit : (FloatOps.uitofp (F := Ideal) FTy.bf16 1#1 : EReal) = 1 := by
  show (((1#1 : BitVec 1).toNat : ℝ) : EReal) = 1
  norm_num

/-- The bit zero as a number. -/
theorem zero_of_bit : (FloatOps.uitofp (F := Ideal) FTy.bf16 0#1 : EReal) = 0 := by
  show (((0#1 : BitVec 1).toNat : ℝ) : EReal) = 0
  norm_num

/-- `EA` at an index. -/
theorem eA_apply (s u : Fin 128) : EA (ix2 s u) = (if s.val < 32 ∧ u.val = 64 + s.val then 1 else 0 : EReal) := by
  have key : ∀ s u : Fin 128, IntOp.andi (IntOp.cmpi CmpIPredicate.slt (BitVec.ofNat 32 s.val) 32#32)
      (IntOp.cmpi CmpIPredicate.eq (BitVec.ofNat 32 u.val) (IntOp.addi (64#32) (BitVec.ofNat 32 s.val))) = (if s.val < 32 ∧ u.val = 64 + s.val then 1#1 else 0#1) := by
    decide +kernel
  pointwise [EA]
  rw [key]
  split
  · exact one_of_bit
  · exact zero_of_bit

/-- `EB` at an index. -/
theorem eB_apply (s u : Fin 128) : EB (ix2 s u) = (if s.val < 32 ∧ u.val = 64 + (s.val + 16) % 32 then 1 else 0 : EReal) := by
  have key : ∀ s u : Fin 128, IntOp.andi (IntOp.cmpi CmpIPredicate.slt (BitVec.ofNat 32 s.val) 32#32)
      (IntOp.cmpi CmpIPredicate.eq (BitVec.ofNat 32 u.val) (IntOp.addi (64#32) (IntOp.andi (IntOp.addi (BitVec.ofNat 32 s.val) 16#32) 31#32))) = (if s.val < 32 ∧ u.val = 64 + (s.val + 16) % 32 then 1#1 else 0#1) := by
    decide +kernel
  pointwise [EB]
  rw [key]
  split
  · exact one_of_bit
  · exact zero_of_bit

/-- The compressed queries, normed. -/
def QN (X : FVec Ideal S8x8320x512 .f32) (W : FVec Ideal S256 .f32) : FVec Ideal Cert.PrepRefIdeal.S8x8320x256 .f32 :=
  mulf (mulf (extractStridedSlice Cert.PrepRefIdeal.S8x8320x256 ![0, 0, 0] X Cert.PrepRefIdeal.Gen.slices_S8x8320x512_S8x8320x256_0_0_0)
    (broadcastInDim Cert.PrepRefIdeal.S8x8320x256 ![0, 1, 2] Cert.PrepRefIdeal.Gen.bcast_S8x8320x1_S8x8320x256_0_1_2
      (Host.rsqrt (addf (Host.divf (broadcastInDim Cert.PrepRefIdeal.S8x8320x1 ![0, 1] Cert.PrepRefIdeal.Gen.bcast_S8x8320_S8x8320x1_0_1
        (Host.reduceAdd (mulf (extractStridedSlice Cert.PrepRefIdeal.S8x8320x256 ![0, 0, 0] X Cert.PrepRefIdeal.Gen.slices_S8x8320x512_S8x8320x256_0_0_0)
            (extractStridedSlice Cert.PrepRefIdeal.S8x8320x256 ![0, 0, 0] X Cert.PrepRefIdeal.Gen.slices_S8x8320x512_S8x8320x256_0_0_0))
          (constant Cert.PrepRefIdeal.S_ .f32 0x00000000#32) Cert.PrepRefIdeal.Gen.reducesTo_S8x8320x256_S8x8320_d2 Cert.PrepRefIdeal.Gen.h_S_))
        (broadcastInDim Cert.PrepRefIdeal.S8x8320x1 ![] Cert.PrepRefIdeal.Gen.bcast_S_S8x8320x1 (constant Cert.PrepRefIdeal.S_ .f32 0x43800000#32)))
        (broadcastInDim Cert.PrepRefIdeal.S8x8320x1 ![] Cert.PrepRefIdeal.Gen.bcast_S_S8x8320x1 (constant Cert.PrepRefIdeal.S_ .f32 0x358637BD#32))))))
    (broadcastInDim Cert.PrepRefIdeal.S8x8320x256 ![0, 1, 2] Cert.PrepRefIdeal.Gen.bcast_S1x1x256_S8x8320x256_0_1_2
      (broadcastInDim Cert.PrepRefIdeal.S1x1x256 ![2] Cert.PrepRefIdeal.Gen.bcast_S256_S1x1x256_2 W))

/-- The latents, normed. -/
def KN (X : FVec Ideal S8x8320x512 .f32) (W : FVec Ideal S128 .f32) : FVec Ideal Cert.PrepRefIdeal.S8x8320x128 .f32 :=
  mulf (mulf (extractStridedSlice Cert.PrepRefIdeal.S8x8320x128 ![0, 0, 256] X Cert.PrepRefIdeal.Gen.slices_S8x8320x512_S8x8320x128_0_0_256)
    (broadcastInDim Cert.PrepRefIdeal.S8x8320x128 ![0, 1, 2] Cert.PrepRefIdeal.Gen.bcast_S8x8320x1_S8x8320x128_0_1_2
      (Host.rsqrt (addf (Host.divf (broadcastInDim Cert.PrepRefIdeal.S8x8320x1 ![0, 1] Cert.PrepRefIdeal.Gen.bcast_S8x8320_S8x8320x1_0_1
        (Host.reduceAdd (mulf (extractStridedSlice Cert.PrepRefIdeal.S8x8320x128 ![0, 0, 256] X Cert.PrepRefIdeal.Gen.slices_S8x8320x512_S8x8320x128_0_0_256)
            (extractStridedSlice Cert.PrepRefIdeal.S8x8320x128 ![0, 0, 256] X Cert.PrepRefIdeal.Gen.slices_S8x8320x512_S8x8320x128_0_0_256))
          (constant Cert.PrepRefIdeal.S_ .f32 0x00000000#32) Cert.PrepRefIdeal.Gen.reducesTo_S8x8320x128_S8x8320_d2 Cert.PrepRefIdeal.Gen.h_S_))
        (broadcastInDim Cert.PrepRefIdeal.S8x8320x1 ![] Cert.PrepRefIdeal.Gen.bcast_S_S8x8320x1 (constant Cert.PrepRefIdeal.S_ .f32 0x43000000#32)))
        (broadcastInDim Cert.PrepRefIdeal.S8x8320x1 ![] Cert.PrepRefIdeal.Gen.bcast_S_S8x8320x1 (constant Cert.PrepRefIdeal.S_ .f32 0x358637BD#32))))))
    (broadcastInDim Cert.PrepRefIdeal.S8x8320x128 ![0, 1, 2] Cert.PrepRefIdeal.Gen.bcast_S1x1x128_S8x8320x128_0_1_2
      (broadcastInDim Cert.PrepRefIdeal.S1x1x128 ![2] Cert.PrepRefIdeal.Gen.bcast_S128_S1x1x128_2 W))

/-- The queries by heads, times the scale. -/
def QH (X : FVec Ideal S8x8320x512 .f32) (W : FVec Ideal S256 .f32) (A : FVec Ideal S256x384 .f32) : FVec Ideal Cert.PrepRefIdeal.S8x8320x4x96 .f32 :=
  mulf (shapeCast Cert.PrepRefIdeal.S8x8320x4x96 (Host.dotGeneral Cert.PrepRefIdeal.dot_S8x8320x256_S256x384_S8x8320x384_2_0_01_1_n_n none (QN X W) A)
      Cert.PrepRefIdeal.Gen.shapeCasts_S8x8320x384_S8x8320x4x96)
    (broadcastInDim Cert.PrepRefIdeal.S8x8320x4x96 ![] Cert.PrepRefIdeal.Gen.bcast_S_S8x8320x4x96 (constant Cert.PrepRefIdeal.S_ .f32 0x3E16C740#32))

/-- Keys and values by heads. -/
def KV (X : FVec Ideal S8x8320x512 .f32) (W : FVec Ideal S128 .f32) (A : FVec Ideal S128x512 .f32) : FVec Ideal Cert.PrepRefIdeal.S8x8320x4x128 .f32 :=
  shapeCast Cert.PrepRefIdeal.S8x8320x4x128 (Host.dotGeneral Cert.PrepRefIdeal.dot_S8x8320x128_S128x512_S8x8320x512_2_0_01_1_n_n none (KN X W) A)
    Cert.PrepRefIdeal.Gen.shapeCasts_S8x8320x512_S8x8320x4x128

/-- The rotated part of the queries, rotated. -/
def ROPEQ (Q : FVec Ideal Cert.PrepRefIdeal.S8x8320x4x96 .f32) : FVec Ideal Cert.PrepRefIdeal.S8x8320x4x32 .f32 :=
  concatenate Cert.PrepRefIdeal.S8x8320x4x32 3 [⟨Cert.PrepRefIdeal.S8x8320x4x16, subf (mulf (extractStridedSlice Cert.PrepRefIdeal.S8x8320x4x16 ![0, 0, 0, 0] (extractStridedSlice Cert.PrepRefIdeal.S8x8320x4x32 ![0, 0, 0, 64] Q Cert.PrepRefIdeal.Gen.slices_S8x8320x4x96_S8x8320x4x32_0_0_0_64) Cert.PrepRefIdeal.Gen.slices_S8x8320x4x32_S8x8320x4x16_0_0_0_0) (broadcastInDim Cert.PrepRefIdeal.S8x8320x4x16 ![0, 1, 2, 3] Cert.PrepRefIdeal.Gen.bcast_S1x8320x1x16_S8x8320x4x16_0_1_2_3 (broadcastInDim Cert.PrepRefIdeal.S1x8320x1x16 ![1, 2, 3] Cert.PrepRefIdeal.Gen.bcast_S8320x1x16_S1x8320x1x16_1_2_3 (broadcastInDim Cert.PrepRefIdeal.S8320x1x16 ![0, 2] Cert.PrepRefIdeal.Gen.bcast_S8320x16_S8320x1x16_0_2 COS)))) (mulf (extractStridedSlice Cert.PrepRefIdeal.S8x8320x4x16 ![0, 0, 0, 16] (extractStridedSlice Cert.PrepRefIdeal.S8x8320x4x32 ![0, 0, 0, 64] Q Cert.PrepRefIdeal.Gen.slices_S8x8320x4x96_S8x8320x4x32_0_0_0_64) Cert.PrepRefIdeal.Gen.slices_S8x8320x4x32_S8x8320x4x16_0_0_0_16) (broadcastInDim Cert.PrepRefIdeal.S8x8320x4x16 ![0, 1, 2, 3] Cert.PrepRefIdeal.Gen.bcast_S1x8320x1x16_S8x8320x4x16_0_1_2_3 (broadcastInDim Cert.PrepRefIdeal.S1x8320x1x16 ![1, 2, 3] Cert.PrepRefIdeal.Gen.bcast_S8320x1x16_S1x8320x1x16_1_2_3 (broadcastInDim Cert.PrepRefIdeal.S8320x1x16 ![0, 2] Cert.PrepRefIdeal.Gen.bcast_S8320x16_S8320x1x16_0_2 SIN))))⟩,
    ⟨Cert.PrepRefIdeal.S8x8320x4x16, addf (mulf (extractStridedSlice Cert.PrepRefIdeal.S8x8320x4x16 ![0, 0, 0, 16] (extractStridedSlice Cert.PrepRefIdeal.S8x8320x4x32 ![0, 0, 0, 64] Q Cert.PrepRefIdeal.Gen.slices_S8x8320x4x96_S8x8320x4x32_0_0_0_64) Cert.PrepRefIdeal.Gen.slices_S8x8320x4x32_S8x8320x4x16_0_0_0_16) (broadcastInDim Cert.PrepRefIdeal.S8x8320x4x16 ![0, 1, 2, 3] Cert.PrepRefIdeal.Gen.bcast_S1x8320x1x16_S8x8320x4x16_0_1_2_3 (broadcastInDim Cert.PrepRefIdeal.S1x8320x1x16 ![1, 2, 3] Cert.PrepRefIdeal.Gen.bcast_S8320x1x16_S1x8320x1x16_1_2_3 (broadcastInDim Cert.PrepRefIdeal.S8320x1x16 ![0, 2] Cert.PrepRefIdeal.Gen.bcast_S8320x16_S8320x1x16_0_2 COS)))) (mulf (extractStridedSlice Cert.PrepRefIdeal.S8x8320x4x16 ![0, 0, 0, 0] (extractStridedSlice Cert.PrepRefIdeal.S8x8320x4x32 ![0, 0, 0, 64] Q Cert.PrepRefIdeal.Gen.slices_S8x8320x4x96_S8x8320x4x32_0_0_0_64) Cert.PrepRefIdeal.Gen.slices_S8x8320x4x32_S8x8320x4x16_0_0_0_0) (broadcastInDim Cert.PrepRefIdeal.S8x8320x4x16 ![0, 1, 2, 3] Cert.PrepRefIdeal.Gen.bcast_S1x8320x1x16_S8x8320x4x16_0_1_2_3 (broadcastInDim Cert.PrepRefIdeal.S1x8320x1x16 ![1, 2, 3] Cert.PrepRefIdeal.Gen.bcast_S8320x1x16_S1x8320x1x16_1_2_3 (broadcastInDim Cert.PrepRefIdeal.S8320x1x16 ![0, 2] Cert.PrepRefIdeal.Gen.bcast_S8320x16_S8320x1x16_0_2 SIN))))⟩] Cert.PrepRefIdeal.Gen.concatenates_S8x8320x4x16_S8x8320x4x16_S8x8320x4x32_d3

/-- The shared key, rotated. -/
def ROPEK (X : FVec Ideal S8x8320x512 .f32) : FVec Ideal Cert.PrepRefIdeal.S8x8320x32 .f32 :=
  concatenate Cert.PrepRefIdeal.S8x8320x32 2 [⟨Cert.PrepRefIdeal.S8x8320x16, subf (mulf (extractStridedSlice Cert.PrepRefIdeal.S8x8320x16 ![0, 0, 0] (extractStridedSlice Cert.PrepRefIdeal.S8x8320x32 ![0, 0, 384] X Cert.PrepRefIdeal.Gen.slices_S8x8320x512_S8x8320x32_0_0_384) Cert.PrepRefIdeal.Gen.slices_S8x8320x32_S8x8320x16_0_0_0) (broadcastInDim Cert.PrepRefIdeal.S8x8320x16 ![0, 1, 2] Cert.PrepRefIdeal.Gen.bcast_S1x8320x16_S8x8320x16_0_1_2 (broadcastInDim Cert.PrepRefIdeal.S1x8320x16 ![1, 2] Cert.PrepRefIdeal.Gen.bcast_S8320x16_S1x8320x16_1_2 COS))) (mulf (extractStridedSlice Cert.PrepRefIdeal.S8x8320x16 ![0, 0, 16] (extractStridedSlice Cert.PrepRefIdeal.S8x8320x32 ![0, 0, 384] X Cert.PrepRefIdeal.Gen.slices_S8x8320x512_S8x8320x32_0_0_384) Cert.PrepRefIdeal.Gen.slices_S8x8320x32_S8x8320x16_0_0_16) (broadcastInDim Cert.PrepRefIdeal.S8x8320x16 ![0, 1, 2] Cert.PrepRefIdeal.Gen.bcast_S1x8320x16_S8x8320x16_0_1_2 (broadcastInDim Cert.PrepRefIdeal.S1x8320x16 ![1, 2] Cert.PrepRefIdeal.Gen.bcast_S8320x16_S1x8320x16_1_2 SIN)))⟩,
    ⟨Cert.PrepRefIdeal.S8x8320x16, addf (mulf (extractStridedSlice Cert.PrepRefIdeal.S8x8320x16 ![0, 0, 16] (extractStridedSlice Cert.PrepRefIdeal.S8x8320x32 ![0, 0, 384] X Cert.PrepRefIdeal.Gen.slices_S8x8320x512_S8x8320x32_0_0_384) Cert.PrepRefIdeal.Gen.slices_S8x8320x32_S8x8320x16_0_0_16) (broadcastInDim Cert.PrepRefIdeal.S8x8320x16 ![0, 1, 2] Cert.PrepRefIdeal.Gen.bcast_S1x8320x16_S8x8320x16_0_1_2 (broadcastInDim Cert.PrepRefIdeal.S1x8320x16 ![1, 2] Cert.PrepRefIdeal.Gen.bcast_S8320x16_S1x8320x16_1_2 COS))) (mulf (extractStridedSlice Cert.PrepRefIdeal.S8x8320x16 ![0, 0, 0] (extractStridedSlice Cert.PrepRefIdeal.S8x8320x32 ![0, 0, 384] X Cert.PrepRefIdeal.Gen.slices_S8x8320x512_S8x8320x32_0_0_384) Cert.PrepRefIdeal.Gen.slices_S8x8320x32_S8x8320x16_0_0_0) (broadcastInDim Cert.PrepRefIdeal.S8x8320x16 ![0, 1, 2] Cert.PrepRefIdeal.Gen.bcast_S1x8320x16_S8x8320x16_0_1_2 (broadcastInDim Cert.PrepRefIdeal.S1x8320x16 ![1, 2] Cert.PrepRefIdeal.Gen.bcast_S8320x16_S1x8320x16_1_2 SIN)))⟩] Cert.PrepRefIdeal.Gen.concatenates_S8x8320x16_S8x8320x16_S8x8320x32_d2

/-- The queries in head slots. -/
def CATQ (Q : FVec Ideal Cert.PrepRefIdeal.S8x8320x4x96 .f32) : FVec Ideal Cert.PrepRefIdeal.S8x8320x4x128 .f32 :=
  concatenate Cert.PrepRefIdeal.S8x8320x4x128 3 [⟨Cert.PrepRefIdeal.S8x8320x4x64, (extractStridedSlice Cert.PrepRefIdeal.S8x8320x4x64 ![0, 0, 0, 0] Q Cert.PrepRefIdeal.Gen.slices_S8x8320x4x96_S8x8320x4x64_0_0_0_0)⟩, ⟨Cert.PrepRefIdeal.S8x8320x4x32, ROPEQ Q⟩,
    ⟨Cert.PrepRefIdeal.S8x8320x4x32, broadcastInDim Cert.PrepRefIdeal.S8x8320x4x32 ![] Cert.PrepRefIdeal.Gen.bcast_S_S8x8320x4x32 (constant Cert.PrepRefIdeal.S_ .f32 0x00000000#32)⟩] Cert.PrepRefIdeal.Gen.concatenates_S8x8320x4x64_S8x8320x4x32_S8x8320x4x32_S8x8320x4x128_d3

/-- The keys in head slots. -/
def CATK (K : FVec Ideal Cert.PrepRefIdeal.S8x8320x4x128 .f32) (X : FVec Ideal S8x8320x512 .f32) : FVec Ideal Cert.PrepRefIdeal.S8x8320x4x128 .f32 :=
  concatenate Cert.PrepRefIdeal.S8x8320x4x128 3 [⟨Cert.PrepRefIdeal.S8x8320x4x64, (extractStridedSlice Cert.PrepRefIdeal.S8x8320x4x64 ![0, 0, 0, 0] K Cert.PrepRefIdeal.Gen.slices_S8x8320x4x128_S8x8320x4x64_0_0_0_0)⟩,
    ⟨Cert.PrepRefIdeal.S8x8320x4x32, broadcastInDim Cert.PrepRefIdeal.S8x8320x4x32 ![0, 1, 2, 3] Cert.PrepRefIdeal.Gen.bcast_S8x8320x1x32_S8x8320x4x32_0_1_2_3 (broadcastInDim Cert.PrepRefIdeal.S8x8320x1x32 ![0, 1, 3] Cert.PrepRefIdeal.Gen.bcast_S8x8320x32_S8x8320x1x32_0_1_3 (ROPEK X))⟩,
    ⟨Cert.PrepRefIdeal.S8x8320x4x32, broadcastInDim Cert.PrepRefIdeal.S8x8320x4x32 ![] Cert.PrepRefIdeal.Gen.bcast_S_S8x8320x4x32 (constant Cert.PrepRefIdeal.S_ .f32 0x00000000#32)⟩] Cert.PrepRefIdeal.Gen.concatenates_S8x8320x4x64_S8x8320x4x32_S8x8320x4x32_S8x8320x4x128_d3

/-- The values in head slots, each followed by a one. -/
def CATV (K : FVec Ideal Cert.PrepRefIdeal.S8x8320x4x128 .f32) : FVec Ideal Cert.PrepRefIdeal.S8x8320x4x128 .f32 :=
  concatenate Cert.PrepRefIdeal.S8x8320x4x128 3 [⟨Cert.PrepRefIdeal.S8x8320x4x64, (extractStridedSlice Cert.PrepRefIdeal.S8x8320x4x64 ![0, 0, 0, 64] K Cert.PrepRefIdeal.Gen.slices_S8x8320x4x128_S8x8320x4x64_0_0_0_64)⟩,
    ⟨Cert.PrepRefIdeal.S8x8320x4x1, broadcastInDim Cert.PrepRefIdeal.S8x8320x4x1 ![] Cert.PrepRefIdeal.Gen.bcast_S_S8x8320x4x1 (constant Cert.PrepRefIdeal.S_ .f32 0x3F800000#32)⟩,
    ⟨Cert.PrepRefIdeal.S8x8320x4x63, broadcastInDim Cert.PrepRefIdeal.S8x8320x4x63 ![] Cert.PrepRefIdeal.Gen.bcast_S_S8x8320x4x63 (constant Cert.PrepRefIdeal.S_ .f32 0x00000000#32)⟩] Cert.PrepRefIdeal.Gen.concatenates_S8x8320x4x64_S8x8320x4x1_S8x8320x4x63_S8x8320x4x128_d3

/-- A result of the reference: head slots side by side. -/
def FLAT (U : FVec Ideal Cert.PrepRefIdeal.S8x8320x4x128 .f32) : FVec Ideal S8x8320x512 .bf16 :=
  truncf .bf16 (shapeCast Cert.PrepRefIdeal.S8x8320x512 U Cert.PrepRefIdeal.Gen.shapeCasts_S8x8320x4x128_S8x8320x512) Cert.PrepRefIdeal.Gen.bitsLt_bf16_f32

/-- The queries at an index: a sum over the compressed queries. -/
theorem qH_apply (X : FVec Ideal S8x8320x512 .f32) (W : FVec Ideal S256 .f32) (A : FVec Ideal S256x384 .f32) (n : Fin 8) (r : Fin 8320) (h : Fin 4) (l : Fin 96) :
    QH X W A (ix4 n r h l) = HMul.hMul (α := EReal) (β := EReal) (γ := EReal)
      (∑ k : Fin 256, HMul.hMul (α := EReal) (β := EReal) (γ := EReal) (QN X W (ix3 n r k)) (A (ix2 k (⟨h.val * 96 + l.val, by omega⟩ : Fin 384)))) (Ideal.ofBits .f32 0x3E16C740#32) := by
  pointwise [QH]

/-- Keys and values at an index: a sum over the latents. -/
theorem kV_apply (X : FVec Ideal S8x8320x512 .f32) (W : FVec Ideal S128 .f32) (A : FVec Ideal S128x512 .f32) (n : Fin 8) (r : Fin 8320) (h : Fin 4) (l : Fin 128) :
    KV X W A (ix4 n r h l) =
      ∑ k : Fin 128, HMul.hMul (α := EReal) (β := EReal) (γ := EReal) (KN X W (ix3 n r k)) (A (ix2 k (⟨h.val * 128 + l.val, by omega⟩ : Fin 512))) := by
  pointwise [KV]

/-- A difference of products as a sum. -/
theorem sub_as_add (a c b s : EReal) : a * c - b * s = a * c + b * (-s) := by
  rw [sub_eq_add_neg, ← mul_neg]

/-- The queries before the rotated lanes. -/
theorem catQ_low (Q : FVec Ideal Cert.PrepRefIdeal.S8x8320x4x96 .f32) (n : Fin 8) (r : Fin 8320) (h : Fin 4) (l : Fin 64) :
    CATQ Q (ix4 n r h (⟨l.val, by omega⟩ : Fin 128)) = (Q (ix4 n r h (⟨l.val, by omega⟩ : Fin 96))) := by
  have hl := l.isLt
  pointwise [CATQ]

/-- The first half of the rotated lanes of the queries. -/
theorem catQ_first (Q : FVec Ideal Cert.PrepRefIdeal.S8x8320x4x96 .f32) (n : Fin 8) (r : Fin 8320) (h : Fin 4) (l : Fin 16) :
    CATQ Q (ix4 n r h (⟨64 + l.val, by omega⟩ : Fin 128)) = HAdd.hAdd (α := EReal) (β := EReal) (γ := EReal) (HMul.hMul (α := EReal) (β := EReal) (γ := EReal) (Q (ix4 n r h (⟨64 + l.val, by omega⟩ : Fin 96))) (COS (ix2 r l))) (HMul.hMul (α := EReal) (β := EReal) (γ := EReal) (Q (ix4 n r h (⟨80 + l.val, by omega⟩ : Fin 96))) (-(SIN (ix2 r l) : EReal))) := by
  have hl := l.isLt
  pointwise [CATQ, ROPEQ]
  rw [dif_pos (show l.val < 32 by omega)]
  have e : (⟨64 + (16 + l.val), by omega⟩ : Fin 96) = ⟨80 + l.val, by omega⟩ := Fin.ext (by show 64 + (16 + l.val) = 80 + l.val; omega)
  rw [e]
  exact sub_as_add _ _ _ _

set_option maxHeartbeats 20000000 in
/-- The second half. -/
theorem catQ_second (Q : FVec Ideal Cert.PrepRefIdeal.S8x8320x4x96 .f32) (n : Fin 8) (r : Fin 8320) (h : Fin 4) (l : Fin 16) :
    CATQ Q (ix4 n r h (⟨80 + l.val, by omega⟩ : Fin 128)) = HAdd.hAdd (α := EReal) (β := EReal) (γ := EReal) (HMul.hMul (α := EReal) (β := EReal) (γ := EReal) (Q (ix4 n r h (⟨80 + l.val, by omega⟩ : Fin 96))) (COS (ix2 r l))) (HMul.hMul (α := EReal) (β := EReal) (γ := EReal) (Q (ix4 n r h (⟨64 + l.val, by omega⟩ : Fin 96))) ((SIN (ix2 r l) : EReal))) := by
  have hl := l.isLt
  pointwise [CATQ, ROPEQ]
  rw [dif_neg (show ¬80 + l.val < 64 by omega), dif_pos (show 80 + l.val - 64 < 32 by omega), dif_neg (show ¬80 + l.val - 64 < 16 by omega)]
  have e0 : (⟨64 + (16 + (80 + l.val - 64 - 16)), by omega⟩ : Fin 96) = ⟨80 + l.val, by omega⟩ := Fin.ext (by show 64 + (16 + (80 + l.val - 64 - 16)) = 80 + l.val; omega)
  have e1 : (⟨64 + (80 + l.val - 64 - 16), by omega⟩ : Fin 96) = ⟨64 + l.val, by omega⟩ := Fin.ext (by show 64 + (80 + l.val - 64 - 16) = 64 + l.val; omega)
  have e2 : (⟨80 + l.val - 64 - 16, by omega⟩ : Fin 16) = l := Fin.ext (by show 80 + l.val - 64 - 16 = l.val; omega)
  rw [e0, e1, e2]

/-- The queries after the rotated lanes. -/
theorem catQ_pad (Q : FVec Ideal Cert.PrepRefIdeal.S8x8320x4x96 .f32) (n : Fin 8) (r : Fin 8320) (h : Fin 4) (l : Fin 32) :
    CATQ Q (ix4 n r h (⟨96 + l.val, by omega⟩ : Fin 128)) = (0 : EReal) := by
  have hl := l.isLt
  pointwise [CATQ]
  repeat' first
    | (exfalso; omega)
    | refine dite_read (fun _ => ?_) (fun _ => ?_)
    | refine ite_read (fun _ => ?_) (fun _ => ?_)
    | rfl

/-- The keys before the rotated lanes. -/
theorem catK_low (K : FVec Ideal Cert.PrepRefIdeal.S8x8320x4x128 .f32) (X : FVec Ideal S8x8320x512 .f32) (n : Fin 8) (r : Fin 8320) (h : Fin 4) (l : Fin 64) :
    CATK K X (ix4 n r h (⟨l.val, by omega⟩ : Fin 128)) = K (ix4 n r h (⟨l.val, by omega⟩ : Fin 128)) := by
  have hl := l.isLt
  pointwise [CATK]

/-- The first half of the rotated lanes of the keys. -/
theorem catK_first (K : FVec Ideal Cert.PrepRefIdeal.S8x8320x4x128 .f32) (X : FVec Ideal S8x8320x512 .f32) (n : Fin 8) (r : Fin 8320) (h : Fin 4) (l : Fin 16) :
    CATK K X (ix4 n r h (⟨64 + l.val, by omega⟩ : Fin 128)) = HAdd.hAdd (α := EReal) (β := EReal) (γ := EReal) (HMul.hMul (α := EReal) (β := EReal) (γ := EReal) (X (ix3 n r (⟨384 + l.val, by omega⟩ : Fin 512))) (COS (ix2 r l))) (HMul.hMul (α := EReal) (β := EReal) (γ := EReal) (X (ix3 n r (⟨400 + l.val, by omega⟩ : Fin 512))) (-(SIN (ix2 r l) : EReal))) := by
  have hl := l.isLt
  pointwise [CATK, ROPEK]
  rw [dif_pos (show l.val < 32 by omega)]
  have e : (⟨384 + (16 + l.val), by omega⟩ : Fin 512) = ⟨400 + l.val, by omega⟩ := Fin.ext (by show 384 + (16 + l.val) = 400 + l.val; omega)
  rw [e]
  exact sub_as_add _ _ _ _

set_option maxHeartbeats 20000000 in
/-- The second half. -/
theorem catK_second (K : FVec Ideal Cert.PrepRefIdeal.S8x8320x4x128 .f32) (X : FVec Ideal S8x8320x512 .f32) (n : Fin 8) (r : Fin 8320) (h : Fin 4) (l : Fin 16) :
    CATK K X (ix4 n r h (⟨80 + l.val, by omega⟩ : Fin 128)) = HAdd.hAdd (α := EReal) (β := EReal) (γ := EReal) (HMul.hMul (α := EReal) (β := EReal) (γ := EReal) (X (ix3 n r (⟨400 + l.val, by omega⟩ : Fin 512))) (COS (ix2 r l))) (HMul.hMul (α := EReal) (β := EReal) (γ := EReal) (X (ix3 n r (⟨384 + l.val, by omega⟩ : Fin 512))) ((SIN (ix2 r l) : EReal))) := by
  have hl := l.isLt
  pointwise [CATK, ROPEK]
  rw [dif_neg (show ¬80 + l.val < 64 by omega), dif_pos (show 80 + l.val - 64 < 32 by omega), dif_neg (show ¬80 + l.val - 64 < 16 by omega)]
  have e0 : (⟨384 + (16 + (80 + l.val - 64 - 16)), by omega⟩ : Fin 512) = ⟨400 + l.val, by omega⟩ := Fin.ext (by show 384 + (16 + (80 + l.val - 64 - 16)) = 400 + l.val; omega)
  have e1 : (⟨384 + (80 + l.val - 64 - 16), by omega⟩ : Fin 512) = ⟨384 + l.val, by omega⟩ := Fin.ext (by show 384 + (80 + l.val - 64 - 16) = 384 + l.val; omega)
  have e2 : (⟨80 + l.val - 64 - 16, by omega⟩ : Fin 16) = l := Fin.ext (by show 80 + l.val - 64 - 16 = l.val; omega)
  rw [e0, e1, e2]

/-- The keys after the rotated lanes. -/
theorem catK_pad (K : FVec Ideal Cert.PrepRefIdeal.S8x8320x4x128 .f32) (X : FVec Ideal S8x8320x512 .f32) (n : Fin 8) (r : Fin 8320) (h : Fin 4) (l : Fin 32) :
    CATK K X (ix4 n r h (⟨96 + l.val, by omega⟩ : Fin 128)) = (0 : EReal) := by
  have hl := l.isLt
  pointwise [CATK]
  repeat' first
    | (exfalso; omega)
    | refine dite_read (fun _ => ?_) (fun _ => ?_)
    | refine ite_read (fun _ => ?_) (fun _ => ?_)
    | rfl

/-- The values. -/
theorem catV_low (K : FVec Ideal Cert.PrepRefIdeal.S8x8320x4x128 .f32) (n : Fin 8) (r : Fin 8320) (h : Fin 4) (l : Fin 64) :
    CATV K (ix4 n r h (⟨l.val, by omega⟩ : Fin 128)) = K (ix4 n r h (⟨64 + l.val, by omega⟩ : Fin 128)) := by
  have hl := l.isLt
  pointwise [CATV]

/-- The lanes after the values: a one and then zeros. -/
theorem catV_pad (K : FVec Ideal Cert.PrepRefIdeal.S8x8320x4x128 .f32) (n : Fin 8) (r : Fin 8320) (h : Fin 4) (l : Fin 64) :
    CATV K (ix4 n r h (⟨64 + l.val, by omega⟩ : Fin 128)) = (if l.val = 0 then 1 else 0 : EReal) := by
  have hl := l.isLt
  pointwise [CATV]
  by_cases h0 : l.val = 0
  · rw [dif_pos (show l.val < 1 by omega), if_pos h0]
  · rw [dif_neg (show ¬l.val < 1 by omega), if_neg h0]

/-- Head slots side by side, at an index. -/
theorem flat_apply (U : FVec Ideal Cert.PrepRefIdeal.S8x8320x4x128 .f32) (n : Fin 8) (r : Fin 8320) (j : Fin 512) :
    FLAT U (ix3 n r j) = U (ix4 n r (⟨j.val / 128, by omega⟩ : Fin 4) (⟨j.val % 128, by omega⟩ : Fin 128)) := by
  pointwise [FLAT]

/-- A sum of products vanishes when the second factors do. -/
theorem sum_none {K : Nat} (q w : Fin K → EReal) (hw : ∀ k, w k = 0) : ∑ k, q k * w k = 0 :=
  Finset.sum_eq_zero fun k _ => by rw [hw k, mul_zero]

/-- A sum of products with a row of the identity picks a term. -/
theorem sum_pick {K : Nat} (q w : Fin K → EReal) (k0 : Fin K) (h1 : w k0 = 1) (h0 : ∀ k, k ≠ k0 → w k = 0) : ∑ k, q k * w k = q k0 := by
  rw [Finset.sum_eq_single k0 (fun k _ h => by rw [h0 k h, mul_zero]) (fun h => absurd (Finset.mem_univ k0) h), h1, mul_one]

/-- A nonnegative finite factor comes out of a sum. -/
theorem sum_out {K : Nat} (q : Fin K → EReal) (s : EReal) (h0 : 0 ≤ s) (ht : s ≠ ⊤) : ∑ k, q k * s = (∑ k, q k) * s := by
  have key : ∀ T : Finset (Fin K), ∑ k ∈ T, q k * s = (∑ k ∈ T, q k) * s := by
    intro T
    induction T using Finset.induction_on with
    | empty => rw [Finset.sum_empty, Finset.sum_empty, zero_mul]
    | insert a T ha ih => rw [Finset.sum_insert ha, Finset.sum_insert ha, ih, EReal.right_distrib_of_nonneg_of_ne_top h0 ht]
  exact key Finset.univ

/-- The scale as a number. -/
theorem scale_eq : Ideal.ofBits .f32 0x3E16C740#32 = (((9881408 : ℝ) * (2 : ℝ) ^ (-26 : ℤ) : ℝ) : EReal) := by
  simp [Ideal.ofBits, Ideal.ieee]

/-- The scale is not negative. -/
theorem scale_nonneg : (0 : EReal) ≤ Ideal.ofBits .f32 0x3E16C740#32 := by
  rw [scale_eq]
  exact EReal.coe_nonneg.mpr (by positivity)

/-- The scale is finite. -/
theorem scale_ne_top : (Ideal.ofBits .f32 0x3E16C740#32 : EReal) ≠ ⊤ := by
  rw [scale_eq]
  exact EReal.coe_ne_top _

/-- A sum against scaled weights is the scaled sum. -/
theorem sum_scale {K : Nat} (q w a : Fin K → EReal) (hw : ∀ k, w k = a k * Ideal.ofBits .f32 0x3E16C740#32) : ∑ k, q k * w k = (∑ k, q k * a k) * Ideal.ofBits .f32 0x3E16C740#32 := by
  rw [← sum_out _ _ scale_nonneg scale_ne_top]
  exact Finset.sum_congr rfl fun k _ => by rw [hw k, mul_assoc]

/-- The lanes of a head's slot: before the rotated ones, their two halves, and after them. -/
theorem lane (p : Fin 128) : (∃ l : Fin 64, p = ⟨l.val, by omega⟩) ∨ (∃ l : Fin 16, p = ⟨64 + l.val, by omega⟩)
    ∨ (∃ l : Fin 16, p = ⟨80 + l.val, by omega⟩) ∨ (∃ l : Fin 32, p = ⟨96 + l.val, by omega⟩) := by
  have hp := p.isLt
  by_cases h1 : p.val < 64
  · exact Or.inl ⟨⟨p.val, h1⟩, rfl⟩
  · by_cases h2 : p.val < 80
    · exact Or.inr (Or.inl ⟨⟨p.val - 64, by omega⟩, Fin.ext (by show p.val = 64 + (p.val - 64); omega)⟩)
    · by_cases h3 : p.val < 96
      · exact Or.inr (Or.inr (Or.inl ⟨⟨p.val - 80, by omega⟩, Fin.ext (by show p.val = 80 + (p.val - 80); omega)⟩))
      · exact Or.inr (Or.inr (Or.inr ⟨⟨p.val - 96, by omega⟩, Fin.ext (by show p.val = 96 + (p.val - 96); omega)⟩))

/-- The two halves of a head's slot. -/
theorem half (p : Fin 128) : (∃ l : Fin 64, p = ⟨l.val, by omega⟩) ∨ (∃ l : Fin 64, p = ⟨64 + l.val, by omega⟩) := by
  have hp := p.isLt
  by_cases h1 : p.val < 64
  · exact Or.inl ⟨⟨p.val, h1⟩, rfl⟩
  · exact Or.inr ⟨⟨p.val - 64, by omega⟩, Fin.ext (by show p.val = 64 + (p.val - 64); omega)⟩

/-- A column of the queries' first product. -/
theorem sumA (X : FVec Ideal S8x8320x512 .f32) (W : FVec Ideal S256 .f32) (f : FVec Ideal S256x384 .f32) (n : Fin 8) (r : Fin 8320) (h : Fin 4) (l : Fin 96) : (∑ k : Fin 256, HMul.hMul (α := EReal) (β := EReal) (γ := EReal) (QN X W (ix3 n r k)) (WQA f (ix2 k (⟨h.val * 128 + (l.val), by omega⟩ : Fin 512)))) = QH X W f (ix4 n r h l) := by
  have hh := h.isLt
  rw [qH_apply]
  exact sum_scale (fun k => QN X W (ix3 n r k)) _ (fun k => f (ix2 k (⟨h.val * 96 + l.val, by omega⟩ : Fin 384))) fun k => wQA_col f k h l

/-- Its empty columns. -/
theorem sumA_pad (X : FVec Ideal S8x8320x512 .f32) (W : FVec Ideal S256 .f32) (f : FVec Ideal S256x384 .f32) (n : Fin 8) (r : Fin 8320) (h : Fin 4) (l : Fin 32) : (∑ k : Fin 256, HMul.hMul (α := EReal) (β := EReal) (γ := EReal) (QN X W (ix3 n r k)) (WQA f (ix2 k (⟨h.val * 128 + (96 + l.val), by omega⟩ : Fin 512)))) = (0 : EReal) := by
  have hh := h.isLt
  exact sum_none (fun k => QN X W (ix3 n r k)) _ fun k => wQA_pad f k h l

/-- The second product's empty columns. -/
theorem sumB_low (X : FVec Ideal S8x8320x512 .f32) (W : FVec Ideal S256 .f32) (f : FVec Ideal S256x384 .f32) (n : Fin 8) (r : Fin 8320) (h : Fin 4) (l : Fin 64) : (∑ k : Fin 256, HMul.hMul (α := EReal) (β := EReal) (γ := EReal) (QN X W (ix3 n r k)) (WQB f (ix2 k (⟨h.val * 128 + (l.val), by omega⟩ : Fin 512)))) = (0 : EReal) := by
  have hh := h.isLt
  exact sum_none (fun k => QN X W (ix3 n r k)) _ fun k => wQB_low f k h l

/-- The same after the rotated ones. -/
theorem sumB_pad (X : FVec Ideal S8x8320x512 .f32) (W : FVec Ideal S256 .f32) (f : FVec Ideal S256x384 .f32) (n : Fin 8) (r : Fin 8320) (h : Fin 4) (l : Fin 32) : (∑ k : Fin 256, HMul.hMul (α := EReal) (β := EReal) (γ := EReal) (QN X W (ix3 n r k)) (WQB f (ix2 k (⟨h.val * 128 + (96 + l.val), by omega⟩ : Fin 512)))) = (0 : EReal) := by
  have hh := h.isLt
  exact sum_none (fun k => QN X W (ix3 n r k)) _ fun k => wQB_pad f k h l

/-- The second product in the first half: the other half's column. -/
theorem sumB_first (X : FVec Ideal S8x8320x512 .f32) (W : FVec Ideal S256 .f32) (f : FVec Ideal S256x384 .f32) (n : Fin 8) (r : Fin 8320) (h : Fin 4) (l : Fin 16) : (∑ k : Fin 256, HMul.hMul (α := EReal) (β := EReal) (γ := EReal) (QN X W (ix3 n r k)) (WQB f (ix2 k (⟨h.val * 128 + (64 + l.val), by omega⟩ : Fin 512)))) = QH X W f (ix4 n r h (⟨80 + l.val, by omega⟩ : Fin 96)) := by
  have hh := h.isLt
  rw [qH_apply]
  exact sum_scale (fun k => QN X W (ix3 n r k)) _ (fun k => f (ix2 k (⟨h.val * 96 + (80 + l.val), by omega⟩ : Fin 384))) fun k => wQB_first f k h l

/-- The second product in the second half: the other half's column. -/
theorem sumB_second (X : FVec Ideal S8x8320x512 .f32) (W : FVec Ideal S256 .f32) (f : FVec Ideal S256x384 .f32) (n : Fin 8) (r : Fin 8320) (h : Fin 4) (l : Fin 16) : (∑ k : Fin 256, HMul.hMul (α := EReal) (β := EReal) (γ := EReal) (QN X W (ix3 n r k)) (WQB f (ix2 k (⟨h.val * 128 + (80 + l.val), by omega⟩ : Fin 512)))) = QH X W f (ix4 n r h (⟨64 + l.val, by omega⟩ : Fin 96)) := by
  have hh := h.isLt
  rw [qH_apply]
  exact sum_scale (fun k => QN X W (ix3 n r k)) _ (fun k => f (ix2 k (⟨h.val * 96 + (64 + l.val), by omega⟩ : Fin 384))) fun k => wQB_second f k h l

/-- A lane of a head's slot of the queries. -/
theorem qlane (X : FVec Ideal S8x8320x512 .f32) (W : FVec Ideal S256 .f32) (f : FVec Ideal S256x384 .f32) (n : Fin 8) (r : Fin 8320) (h : Fin 4) (p : Fin 128) : HAdd.hAdd (α := EReal) (β := EReal) (γ := EReal) (HMul.hMul (α := EReal) (β := EReal) (γ := EReal) ((∑ k : Fin 256, HMul.hMul (α := EReal) (β := EReal) (γ := EReal) (QN X W (ix3 n r k)) (WQA f (ix2 k (⟨h.val * 128 + p.val, by omega⟩ : Fin 512))))) (C1 (ix2 r p))) (HMul.hMul (α := EReal) (β := EReal) (γ := EReal) ((∑ k : Fin 256, HMul.hMul (α := EReal) (β := EReal) (γ := EReal) (QN X W (ix3 n r k)) (WQB f (ix2 k (⟨h.val * 128 + p.val, by omega⟩ : Fin 512))))) (S1 (ix2 r p))) = CATQ (QH X W f) (ix4 n r h p) := by
  have hh := h.isLt
  rcases lane p with ⟨l, e⟩ | ⟨l, e⟩ | ⟨l, e⟩ | ⟨l, e⟩ <;> subst e
  · rw [catQ_low, c1_low, s1_low, mul_one, mul_zero, add_zero]
    exact sumA X W f n r h ⟨l.val, by omega⟩
  · rw [catQ_first, c1_first, s1_first]
    exact congrArg₂ (fun a b : EReal => a * COS (ix2 r l) + b * (-(SIN (ix2 r l) : EReal))) (sumA X W f n r h ⟨64 + l.val, by omega⟩) (sumB_first X W f n r h l)
  · rw [catQ_second, c1_second, s1_second]
    exact congrArg₂ (fun a b : EReal => a * COS (ix2 r l) + b * (SIN (ix2 r l) : EReal)) (sumA X W f n r h ⟨80 + l.val, by omega⟩) (sumB_second X W f n r h l)
  · rw [catQ_pad, c1_pad, s1_pad, mul_zero, mul_zero, add_zero]

/-- The queries' block, column by column, is the reference's. -/
theorem qcol (X : FVec Ideal S8x8320x512 .f32) (W : FVec Ideal S256 .f32) (f : FVec Ideal S256x384 .f32) (n : Fin 8) (r : Fin 8320) (j : Fin 512) :
    HAdd.hAdd (α := EReal) (β := EReal) (γ := EReal) (HMul.hMul (α := EReal) (β := EReal) (γ := EReal) ((∑ k : Fin 256, HMul.hMul (α := EReal) (β := EReal) (γ := EReal) (QN X W (ix3 n r k)) (WQA f (ix2 k j)))) (C1 (ix2 r (⟨j.val % 128, by omega⟩ : Fin 128)))) (HMul.hMul (α := EReal) (β := EReal) (γ := EReal) ((∑ k : Fin 256, HMul.hMul (α := EReal) (β := EReal) (γ := EReal) (QN X W (ix3 n r k)) (WQB f (ix2 k j)))) (S1 (ix2 r (⟨j.val % 128, by omega⟩ : Fin 128)))) = FLAT (CATQ (QH X W f)) (ix3 n r j) := by
  have hj := j.isLt
  rw [flat_apply]
  have e : j = (⟨j.val / 128 * 128 + j.val % 128, by omega⟩ : Fin 512) := Fin.ext (by show j.val = j.val / 128 * 128 + j.val % 128; omega)
  refine Eq.trans ?_ (qlane X W f n r ⟨j.val / 128, by omega⟩ (⟨j.val % 128, by omega⟩ : Fin 128))
  exact congrArg (fun i : Fin 512 => HAdd.hAdd (α := EReal) (β := EReal) (γ := EReal) (HMul.hMul (α := EReal) (β := EReal) (γ := EReal) ((∑ k : Fin 256, HMul.hMul (α := EReal) (β := EReal) (γ := EReal) (QN X W (ix3 n r k)) (WQA f (ix2 k i)))) (C1 (ix2 r (⟨j.val % 128, by omega⟩ : Fin 128)))) (HMul.hMul (α := EReal) (β := EReal) (γ := EReal) ((∑ k : Fin 256, HMul.hMul (α := EReal) (β := EReal) (γ := EReal) (QN X W (ix3 n r k)) (WQB f (ix2 k i)))) (S1 (ix2 r (⟨j.val % 128, by omega⟩ : Fin 128))))) e

/-- A column of the keys' product. -/
theorem sumK (X : FVec Ideal S8x8320x512 .f32) (W : FVec Ideal S128 .f32) (f : FVec Ideal S128x512 .f32) (n : Fin 8) (r : Fin 8320) (h : Fin 4) (l : Fin 64) : (∑ k : Fin 128, HMul.hMul (α := EReal) (β := EReal) (γ := EReal) (KN X W (ix3 n r k)) (WK f (ix2 k (⟨h.val * 128 + (l.val), by omega⟩ : Fin 512)))) = KV X W f (ix4 n r h (⟨l.val, by omega⟩ : Fin 128)) := by
  have hh := h.isLt
  rw [kV_apply]
  exact Finset.sum_congr rfl fun k _ => congrArg (HMul.hMul (α := EReal) (β := EReal) (γ := EReal) (KN X W (ix3 n r k))) (wK_col f k h l)

/-- Its empty columns. -/
theorem sumK_pad (X : FVec Ideal S8x8320x512 .f32) (W : FVec Ideal S128 .f32) (f : FVec Ideal S128x512 .f32) (n : Fin 8) (r : Fin 8320) (h : Fin 4) (l : Fin 64) : (∑ k : Fin 128, HMul.hMul (α := EReal) (β := EReal) (γ := EReal) (KN X W (ix3 n r k)) (WK f (ix2 k (⟨h.val * 128 + (64 + l.val), by omega⟩ : Fin 512)))) = (0 : EReal) := by
  have hh := h.isLt
  exact sum_none (fun k => KN X W (ix3 n r k)) _ fun k => wK_pad f k h l

/-- The shared key does not reach the lanes before the rotated ones. -/
theorem peEA_low (X : FVec Ideal S8x8320x512 .f32) (n : Fin 8) (r : Fin 8320) (l : Fin 64) : (∑ s : Fin 128, HMul.hMul (α := EReal) (β := EReal) (γ := EReal) (X (ix3 n r (⟨384 + s.val, by omega⟩ : Fin 512))) (EA (ix2 s (⟨l.val, by omega⟩ : Fin 128)))) = (0 : EReal) := by
  refine sum_none (fun s : Fin 128 => (X (ix3 n r (⟨384 + s.val, by omega⟩ : Fin 512)) : EReal)) _ fun s => ?_
  rw [eA_apply]
  exact if_neg fun hc => by have h2 := hc.2; have hl := l.isLt; simp only at h2; omega

/-- What the shared key puts into the first half of the rotated lanes. -/
theorem peEA_first (X : FVec Ideal S8x8320x512 .f32) (n : Fin 8) (r : Fin 8320) (l : Fin 16) : (∑ s : Fin 128, HMul.hMul (α := EReal) (β := EReal) (γ := EReal) (X (ix3 n r (⟨384 + s.val, by omega⟩ : Fin 512))) (EA (ix2 s (⟨64 + l.val, by omega⟩ : Fin 128)))) = X (ix3 n r (⟨384 + l.val, by omega⟩ : Fin 512)) := by
  have hl := l.isLt
  refine (sum_pick (fun s : Fin 128 => (X (ix3 n r (⟨384 + s.val, by omega⟩ : Fin 512)) : EReal)) _ (⟨l.val, by omega⟩ : Fin 128) ?_ ?_).trans ?_
  · rw [eA_apply]
    exact if_pos ⟨by show l.val < 32; omega, by show 64 + l.val = 64 + (l.val); omega⟩
  · intro s hs
    rw [eA_apply]
    refine if_neg fun hc => hs (Fin.ext ?_)
    have h1 : s.val < 32 := hc.1
    have h2 : 64 + l.val = 64 + s.val := hc.2
    show s.val = l.val
    omega
  · exact congrArg (fun i : Fin 512 => X (ix3 n r i)) (Fin.ext (by show 384 + (l.val) = 384 + l.val; omega))

/-- What the shared key puts into the second half of the rotated lanes. -/
theorem peEA_second (X : FVec Ideal S8x8320x512 .f32) (n : Fin 8) (r : Fin 8320) (l : Fin 16) : (∑ s : Fin 128, HMul.hMul (α := EReal) (β := EReal) (γ := EReal) (X (ix3 n r (⟨384 + s.val, by omega⟩ : Fin 512))) (EA (ix2 s (⟨80 + l.val, by omega⟩ : Fin 128)))) = X (ix3 n r (⟨400 + l.val, by omega⟩ : Fin 512)) := by
  have hl := l.isLt
  refine (sum_pick (fun s : Fin 128 => (X (ix3 n r (⟨384 + s.val, by omega⟩ : Fin 512)) : EReal)) _ (⟨16 + l.val, by omega⟩ : Fin 128) ?_ ?_).trans ?_
  · rw [eA_apply]
    exact if_pos ⟨by show 16 + l.val < 32; omega, by show 80 + l.val = 64 + (16 + l.val); omega⟩
  · intro s hs
    rw [eA_apply]
    refine if_neg fun hc => hs (Fin.ext ?_)
    have h1 : s.val < 32 := hc.1
    have h2 : 80 + l.val = 64 + s.val := hc.2
    show s.val = 16 + l.val
    omega
  · exact congrArg (fun i : Fin 512 => X (ix3 n r i)) (Fin.ext (by show 384 + (16 + l.val) = 400 + l.val; omega))

/-- The shared key does not reach the lanes before the rotated ones. -/
theorem peEB_low (X : FVec Ideal S8x8320x512 .f32) (n : Fin 8) (r : Fin 8320) (l : Fin 64) : (∑ s : Fin 128, HMul.hMul (α := EReal) (β := EReal) (γ := EReal) (X (ix3 n r (⟨384 + s.val, by omega⟩ : Fin 512))) (EB (ix2 s (⟨l.val, by omega⟩ : Fin 128)))) = (0 : EReal) := by
  refine sum_none (fun s : Fin 128 => (X (ix3 n r (⟨384 + s.val, by omega⟩ : Fin 512)) : EReal)) _ fun s => ?_
  rw [eB_apply]
  exact if_neg fun hc => by have h2 := hc.2; have hl := l.isLt; simp only at h2; omega

/-- What the shared key puts into the first half of the rotated lanes. -/
theorem peEB_first (X : FVec Ideal S8x8320x512 .f32) (n : Fin 8) (r : Fin 8320) (l : Fin 16) : (∑ s : Fin 128, HMul.hMul (α := EReal) (β := EReal) (γ := EReal) (X (ix3 n r (⟨384 + s.val, by omega⟩ : Fin 512))) (EB (ix2 s (⟨64 + l.val, by omega⟩ : Fin 128)))) = X (ix3 n r (⟨400 + l.val, by omega⟩ : Fin 512)) := by
  have hl := l.isLt
  refine (sum_pick (fun s : Fin 128 => (X (ix3 n r (⟨384 + s.val, by omega⟩ : Fin 512)) : EReal)) _ (⟨16 + l.val, by omega⟩ : Fin 128) ?_ ?_).trans ?_
  · rw [eB_apply]
    exact if_pos ⟨by show 16 + l.val < 32; omega, by show 64 + l.val = 64 + (16 + l.val + 16) % 32; omega⟩
  · intro s hs
    rw [eB_apply]
    refine if_neg fun hc => hs (Fin.ext ?_)
    have h1 : s.val < 32 := hc.1
    have h2 : 64 + l.val = 64 + (s.val + 16) % 32 := hc.2
    show s.val = 16 + l.val
    omega
  · exact congrArg (fun i : Fin 512 => X (ix3 n r i)) (Fin.ext (by show 384 + (16 + l.val) = 400 + l.val; omega))

/-- What the shared key puts into the second half of the rotated lanes. -/
theorem peEB_second (X : FVec Ideal S8x8320x512 .f32) (n : Fin 8) (r : Fin 8320) (l : Fin 16) : (∑ s : Fin 128, HMul.hMul (α := EReal) (β := EReal) (γ := EReal) (X (ix3 n r (⟨384 + s.val, by omega⟩ : Fin 512))) (EB (ix2 s (⟨80 + l.val, by omega⟩ : Fin 128)))) = X (ix3 n r (⟨384 + l.val, by omega⟩ : Fin 512)) := by
  have hl := l.isLt
  refine (sum_pick (fun s : Fin 128 => (X (ix3 n r (⟨384 + s.val, by omega⟩ : Fin 512)) : EReal)) _ (⟨l.val, by omega⟩ : Fin 128) ?_ ?_).trans ?_
  · rw [eB_apply]
    exact if_pos ⟨by show l.val < 32; omega, by show 80 + l.val = 64 + (l.val + 16) % 32; omega⟩
  · intro s hs
    rw [eB_apply]
    refine if_neg fun hc => hs (Fin.ext ?_)
    have h1 : s.val < 32 := hc.1
    have h2 : 80 + l.val = 64 + (s.val + 16) % 32 := hc.2
    show s.val = l.val
    omega
  · exact congrArg (fun i : Fin 512 => X (ix3 n r i)) (Fin.ext (by show 384 + (l.val) = 384 + l.val; omega))

/-- A lane of a head's slot of the keys. -/
theorem klane (X : FVec Ideal S8x8320x512 .f32) (W : FVec Ideal S128 .f32) (f : FVec Ideal S128x512 .f32) (n : Fin 8) (r : Fin 8320) (h : Fin 4) (p : Fin 128) : HAdd.hAdd (α := EReal) (β := EReal) (γ := EReal) ((∑ k : Fin 128, HMul.hMul (α := EReal) (β := EReal) (γ := EReal) (KN X W (ix3 n r k)) (WK f (ix2 k (⟨h.val * 128 + p.val, by omega⟩ : Fin 512))))) (HAdd.hAdd (α := EReal) (β := EReal) (γ := EReal) (HMul.hMul (α := EReal) (β := EReal) (γ := EReal) ((∑ s : Fin 128, HMul.hMul (α := EReal) (β := EReal) (γ := EReal) (X (ix3 n r (⟨384 + s.val, by omega⟩ : Fin 512))) (EA (ix2 s p)))) (C1 (ix2 r p))) (HMul.hMul (α := EReal) (β := EReal) (γ := EReal) ((∑ s : Fin 128, HMul.hMul (α := EReal) (β := EReal) (γ := EReal) (X (ix3 n r (⟨384 + s.val, by omega⟩ : Fin 512))) (EB (ix2 s p)))) (S1 (ix2 r p)))) = CATK (KV X W f) X (ix4 n r h p) := by
  have hh := h.isLt
  rcases lane p with ⟨l, e⟩ | ⟨l, e⟩ | ⟨l, e⟩ | ⟨l, e⟩ <;> subst e
  · rw [catK_low, c1_low, s1_low, mul_one, mul_zero, add_zero, peEA_low, add_zero]
    exact sumK X W f n r h l
  · rw [catK_first, c1_first, s1_first, peEA_first, peEB_first]
    exact (congrArg (fun a : EReal => a + _) (sumK_pad X W f n r h ⟨l.val, by omega⟩)).trans (zero_add _)
  · rw [catK_second, c1_second, s1_second, peEA_second, peEB_second]
    refine (congrArg (fun a : EReal => a + _) (Eq.trans ?_ (sumK_pad X W f n r h ⟨16 + l.val, by omega⟩))).trans (zero_add _)
    exact congrArg (fun i : Fin 512 => (∑ k : Fin 128, HMul.hMul (α := EReal) (β := EReal) (γ := EReal) (KN X W (ix3 n r k)) (WK f (ix2 k i)))) (Fin.ext (by show h.val * 128 + (80 + l.val) = h.val * 128 + (64 + (16 + l.val)); omega))
  · rw [catK_pad, c1_pad, s1_pad, mul_zero, mul_zero, add_zero, add_zero]
    refine Eq.trans ?_ (sumK_pad X W f n r h ⟨32 + l.val, by omega⟩)
    exact congrArg (fun i : Fin 512 => (∑ k : Fin 128, HMul.hMul (α := EReal) (β := EReal) (γ := EReal) (KN X W (ix3 n r k)) (WK f (ix2 k i)))) (Fin.ext (by show h.val * 128 + (96 + l.val) = h.val * 128 + (64 + (32 + l.val)); omega))

/-- The keys' block, column by column, is the reference's. -/
theorem kcol (X : FVec Ideal S8x8320x512 .f32) (W : FVec Ideal S128 .f32) (f : FVec Ideal S128x512 .f32) (n : Fin 8) (r : Fin 8320) (j : Fin 512) :
    HAdd.hAdd (α := EReal) (β := EReal) (γ := EReal) ((∑ k : Fin 128, HMul.hMul (α := EReal) (β := EReal) (γ := EReal) (KN X W (ix3 n r k)) (WK f (ix2 k j)))) (HAdd.hAdd (α := EReal) (β := EReal) (γ := EReal) (HMul.hMul (α := EReal) (β := EReal) (γ := EReal) ((∑ s : Fin 128, HMul.hMul (α := EReal) (β := EReal) (γ := EReal) (X (ix3 n r (⟨384 + s.val, by omega⟩ : Fin 512))) (EA (ix2 s (⟨j.val % 128, by omega⟩ : Fin 128))))) (C1 (ix2 r (⟨j.val % 128, by omega⟩ : Fin 128)))) (HMul.hMul (α := EReal) (β := EReal) (γ := EReal) ((∑ s : Fin 128, HMul.hMul (α := EReal) (β := EReal) (γ := EReal) (X (ix3 n r (⟨384 + s.val, by omega⟩ : Fin 512))) (EB (ix2 s (⟨j.val % 128, by omega⟩ : Fin 128))))) (S1 (ix2 r (⟨j.val % 128, by omega⟩ : Fin 128))))) = FLAT (CATK (KV X W f) X) (ix3 n r j) := by
  have hj := j.isLt
  rw [flat_apply]
  have e : j = (⟨j.val / 128 * 128 + j.val % 128, by omega⟩ : Fin 512) := Fin.ext (by show j.val = j.val / 128 * 128 + j.val % 128; omega)
  refine Eq.trans ?_ (klane X W f n r ⟨j.val / 128, by omega⟩ (⟨j.val % 128, by omega⟩ : Fin 128))
  exact congrArg (fun i : Fin 512 => HAdd.hAdd (α := EReal) (β := EReal) (γ := EReal) ((∑ k : Fin 128, HMul.hMul (α := EReal) (β := EReal) (γ := EReal) (KN X W (ix3 n r k)) (WK f (ix2 k i)))) (HAdd.hAdd (α := EReal) (β := EReal) (γ := EReal) (HMul.hMul (α := EReal) (β := EReal) (γ := EReal) ((∑ s : Fin 128, HMul.hMul (α := EReal) (β := EReal) (γ := EReal) (X (ix3 n r (⟨384 + s.val, by omega⟩ : Fin 512))) (EA (ix2 s (⟨j.val % 128, by omega⟩ : Fin 128))))) (C1 (ix2 r (⟨j.val % 128, by omega⟩ : Fin 128)))) (HMul.hMul (α := EReal) (β := EReal) (γ := EReal) ((∑ s : Fin 128, HMul.hMul (α := EReal) (β := EReal) (γ := EReal) (X (ix3 n r (⟨384 + s.val, by omega⟩ : Fin 512))) (EB (ix2 s (⟨j.val % 128, by omega⟩ : Fin 128))))) (S1 (ix2 r (⟨j.val % 128, by omega⟩ : Fin 128)))))) e

/-- A lane of a head's slot of the values. -/
theorem vlane (X : FVec Ideal S8x8320x512 .f32) (W : FVec Ideal S128 .f32) (f : FVec Ideal S128x512 .f32) (n : Fin 8) (r : Fin 8320) (h : Fin 4) (p : Fin 128) : HAdd.hAdd (α := EReal) (β := EReal) (γ := EReal) ((∑ k : Fin 128, HMul.hMul (α := EReal) (β := EReal) (γ := EReal) (KN X W (ix3 n r k)) (WV f (ix2 k (⟨h.val * 128 + p.val, by omega⟩ : Fin 512))))) (if p.val = 64 then 1 else 0) = CATV (KV X W f) (ix4 n r h p) := by
  have hh := h.isLt
  rcases half p with ⟨l, e⟩ | ⟨l, e⟩ <;> subst e
  · have hl := l.isLt
    rw [catV_low, if_neg (show ¬l.val = 64 by omega), add_zero, kV_apply]
    exact Finset.sum_congr rfl fun k _ => congrArg (HMul.hMul (α := EReal) (β := EReal) (γ := EReal) (KN X W (ix3 n r k))) (wV_col f k h l)
  · rw [catV_pad]
    refine (congrArg (fun a : EReal => a + _) (sum_none (fun k => KN X W (ix3 n r k)) _ fun k => wV_pad f k h l)).trans ((zero_add _).trans ?_)
    by_cases h0 : l.val = 0
    · rw [if_pos h0, if_pos (show 64 + l.val = 64 by omega)]
    · rw [if_neg h0, if_neg (show ¬64 + l.val = 64 by omega)]

/-- The values' block, column by column, is the reference's. -/
theorem vcol (X : FVec Ideal S8x8320x512 .f32) (W : FVec Ideal S128 .f32) (f : FVec Ideal S128x512 .f32) (n : Fin 8) (r : Fin 8320) (j : Fin 512) :
    HAdd.hAdd (α := EReal) (β := EReal) (γ := EReal) ((∑ k : Fin 128, HMul.hMul (α := EReal) (β := EReal) (γ := EReal) (KN X W (ix3 n r k)) (WV f (ix2 k j)))) (if j.val % 128 = 64 then 1 else 0) = FLAT (CATV (KV X W f)) (ix3 n r j) := by
  have hj := j.isLt
  rw [flat_apply]
  have e : j = (⟨j.val / 128 * 128 + j.val % 128, by omega⟩ : Fin 512) := Fin.ext (by show j.val = j.val / 128 * 128 + j.val % 128; omega)
  refine Eq.trans ?_ (vlane X W f n r ⟨j.val / 128, by omega⟩ (⟨j.val % 128, by omega⟩ : Fin 128))
  exact congrArg (fun i : Fin 512 => HAdd.hAdd (α := EReal) (β := EReal) (γ := EReal) ((∑ k : Fin 128, HMul.hMul (α := EReal) (β := EReal) (γ := EReal) (KN X W (ix3 n r k)) (WV f (ix2 k i)))) (if j.val % 128 = 64 then 1 else 0)) e

/-- Where each window stands at a point. -/
theorem idx : ∀ t : Fin cfg0.N, win0_0.index t = ![t.val / 13, t.val % 13, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val % 13, 0]
    ∧ win0_10.index t = ![t.val % 13, 0] ∧ win0_11.index t = ![t.val / 13, t.val % 13, 0]
    ∧ win0_12.index t = ![t.val / 13, t.val % 13, 0] ∧ win0_13.index t = ![t.val / 13, t.val % 13, 0] :=
  (by decide +kernel : ∀ t : Fin grid0.N, _)

/-- The sequence a point works on. -/
abbrev sq (t : Fin cfg0.N) : Fin 8 := ⟨t.val / 13, by have h : t.val < 104 := t.isLt; omega⟩

/-- The row of the sequence that a row of a point's block is. -/
abbrev row (t : Fin cfg0.N) (r : Fin 640) : Fin 8320 := ⟨t.val % 13 * 640 + r.val, by have h : t.val < 104 := t.isLt; have := r.isLt; omega⟩

/-- The kernel's window on the compressed rows: the point's rows of its sequence. -/
theorem read0 (c : Dev nD) (t : Fin cfg0.N) (r : Fin 640) (k : Fin 512) : iblk m c 0 t (ix3 (0 : Fin 1) r k) = m ((c : Thread nD τ).loc main_arg0) (ix3 (sq t) (row t r) k) := by
  blk_point [iblk, V, idx t]

set_option maxHeartbeats 20000000 in
/-- The kernel's window on a norm's weights. -/
theorem read1 (c : Dev nD) (t : Fin cfg0.N) (k : Fin 256) : iblk m c 1 t (ix2 (0 : Fin 1) k) = m ((c : Thread nD τ).loc main_arg1) (ix1 k) := by
  have e : ((cfg0.win 1).blk t).view.emb (ix2 (0 : Fin 1) k) = ix2 (0 : Fin 1) k := by blk_ext [idx t]
  show V m c main_v67 (((cfg0.win 1).blk t).view.emb (ix2 (0 : Fin 1) k)) = _
  rw [e]
  have e' : V m c main_v67 = shapeCast S1x256 (m ((c : Thread nD τ).loc main_arg1)) shapeCasts_S256_S1x256 := by
    unfold V
    after_reads_simp [Matrix.cons_val]
    rfl
  rw [e']
  pointwise

set_option maxHeartbeats 20000000 in
/-- The kernel's window on a norm's weights. -/
theorem read2 (c : Dev nD) (t : Fin cfg0.N) (k : Fin 128) : iblk m c 2 t (ix2 (0 : Fin 1) k) = m ((c : Thread nD τ).loc main_arg3) (ix1 k) := by
  have e : ((cfg0.win 2).blk t).view.emb (ix2 (0 : Fin 1) k) = ix2 (0 : Fin 1) k := by blk_ext [idx t]
  show V m c main_v68 (((cfg0.win 2).blk t).view.emb (ix2 (0 : Fin 1) k)) = _
  rw [e]
  have e' : V m c main_v68 = shapeCast S1x128 (m ((c : Thread nD τ).loc main_arg3)) shapeCasts_S128_S1x128 := by
    unfold V
    after_reads_simp [Matrix.cons_val]
    rfl
  rw [e']
  pointwise

set_option maxHeartbeats 20000000 in
/-- The kernel's window on the raising of the queries holds it whole. -/
theorem read3 (c : Dev nD) (t : Fin cfg0.N) (k : Fin 256) (j : Fin 512) : iblk m c 3 t (ix2 k j) = WQA (m (c, Proc.tc.devRef main_arg2)) (ix2 k j) := by
  have e : ((cfg0.win 3).blk t).view.emb (ix2 k j) = ix2 k j := by blk_ext [idx t]
  show V m c main_v58 (((cfg0.win 3).blk t).view.emb (ix2 k j)) = _
  rw [e]
  unfold V
  after_reads_simp [Matrix.cons_val]
  rfl

set_option maxHeartbeats 20000000 in
/-- The same of the one with the halves exchanged. -/
theorem read4 (c : Dev nD) (t : Fin cfg0.N) (k : Fin 256) (j : Fin 512) : iblk m c 4 t (ix2 k j) = WQB (m (c, Proc.tc.devRef main_arg2)) (ix2 k j) := by
  have e : ((cfg0.win 4).blk t).view.emb (ix2 k j) = ix2 k j := by blk_ext [idx t]
  show V m c main_v60 (((cfg0.win 4).blk t).view.emb (ix2 k j)) = _
  rw [e]
  unfold V
  after_reads_simp [Matrix.cons_val]
  rfl

set_option maxHeartbeats 20000000 in
/-- The same of the raising to the keys. -/
theorem read5 (c : Dev nD) (t : Fin cfg0.N) (k : Fin 128) (j : Fin 512) : iblk m c 5 t (ix2 k j) = WK (m (c, Proc.tc.devRef main_arg4)) (ix2 k j) := by
  have e : ((cfg0.win 5).blk t).view.emb (ix2 k j) = ix2 k j := by blk_ext [idx t]
  show V m c main_v62 (((cfg0.win 5).blk t).view.emb (ix2 k j)) = _
  rw [e]
  unfold V
  after_reads_simp [Matrix.cons_val]
  rfl

set_option maxHeartbeats 20000000 in
/-- The same of the raising to the values. -/
theorem read6 (c : Dev nD) (t : Fin cfg0.N) (k : Fin 128) (j : Fin 512) : iblk m c 6 t (ix2 k j) = WV (m (c, Proc.tc.devRef main_arg4)) (ix2 k j) := by
  have e : ((cfg0.win 6).blk t).view.emb (ix2 k j) = ix2 k j := by blk_ext [idx t]
  show V m c main_v64 (((cfg0.win 6).blk t).view.emb (ix2 k j)) = _
  rw [e]
  unfold V
  after_reads_simp [Matrix.cons_val]
  rfl

set_option maxHeartbeats 20000000 in
/-- The same of the table that moves the shared key. -/
theorem read7 (c : Dev nD) (t : Fin cfg0.N) (k : Fin 128) (j : Fin 128) : iblk m c 7 t (ix2 k j) = EA (ix2 k j) := by
  have e : ((cfg0.win 7).blk t).view.emb (ix2 k j) = ix2 k j := by blk_ext [idx t]
  show V m c main_v65 (((cfg0.win 7).blk t).view.emb (ix2 k j)) = _
  rw [e]
  unfold V
  after_reads_simp [Matrix.cons_val]

set_option maxHeartbeats 20000000 in
/-- The same of the one with the halves exchanged. -/
theorem read8 (c : Dev nD) (t : Fin cfg0.N) (k : Fin 128) (j : Fin 128) : iblk m c 8 t (ix2 k j) = EB (ix2 k j) := by
  have e : ((cfg0.win 8).blk t).view.emb (ix2 k j) = ix2 k j := by blk_ext [idx t]
  show V m c main_v66 (((cfg0.win 8).blk t).view.emb (ix2 k j)) = _
  rw [e]
  unfold V
  after_reads_simp [Matrix.cons_val]

set_option maxHeartbeats 20000000 in
/-- The kernel's window on a table of the rotary embedding: the point's rows. -/
theorem read9 (c : Dev nD) (t : Fin cfg0.N) (r : Fin 640) (j : Fin 128) : iblk m c 9 t (ix2 r j) = C1 (ix2 (row t r) j) := by
  have e : ((cfg0.win 9).blk t).view.emb (ix2 r j) = ix2 (row t r) j := by blk_ext [idx t]
  show V m c main_v89 (((cfg0.win 9).blk t).view.emb (ix2 r j)) = _
  rw [e]
  unfold V
  after_reads_simp [Matrix.cons_val]
  rfl

set_option maxHeartbeats 20000000 in
/-- The kernel's window on a table of the rotary embedding: the point's rows. -/
theorem read10 (c : Dev nD) (t : Fin cfg0.N) (r : Fin 640) (j : Fin 128) : iblk m c 10 t (ix2 r j) = S1 (ix2 (row t r) j) := by
  have e : ((cfg0.win 10).blk t).view.emb (ix2 r j) = ix2 (row t r) j := by blk_ext [idx t]
  show V m c main_v93 (((cfg0.win 10).blk t).view.emb (ix2 r j)) = _
  rw [e]
  unfold V
  after_reads_simp [Matrix.cons_val]
  rfl

/-- A block's compressed queries, normed, are the rows of the normed array. -/
theorem normq_apply (c : Dev nD) (t : Fin cfg0.N) (r : Fin 640) (k : Fin 256) : k0_pay5 (iblk m c 0 t) (iblk m c 1 t) (ix2 r k)
    = QN (m ((c : Thread nD τ).loc main_arg0)) (m ((c : Thread nD τ).loc main_arg1)) (ix3 (sq t) (row t r) k) := by
  pointwise [k0_pay5, k0_pay4, QN]
  simp only [read1, read0]

/-- The same of the latents. -/
theorem normk_apply (c : Dev nD) (t : Fin cfg0.N) (r : Fin 640) (k : Fin 128) : k0_pay6 (iblk m c 0 t) (iblk m c 2 t) (ix2 r k)
    = KN (m ((c : Thread nD τ).loc main_arg0)) (m ((c : Thread nD τ).loc main_arg3)) (ix3 (sq t) (row t r) k) := by
  pointwise [k0_pay6, k0_pay4, KN]
  simp only [read2, read0]

/-- A block's shared keys. -/
theorem kpe_apply (c : Dev nD) (t : Fin cfg0.N) (r : Fin 640) (s : Fin 128) : k0_pay7 (iblk m c 0 t) (ix2 r s)
    = m ((c : Thread nD τ).loc main_arg0) (ix3 (sq t) (row t r) (⟨384 + s.val, by omega⟩ : Fin 512)) := by
  pointwise [k0_pay7, k0_pay4]
  simp only [read0]

/-- A product of the kernel's body at an index. -/
theorem prod10 (x : FVec Ideal S640x256 .bf16) (w : Vec Ideal S256x512 .bf16) (r : Fin 640) (j : Fin 512) :
    k0_pay10 x w (ix2 r j) = ∑ k : Fin 256, HMul.hMul (α := EReal) (β := EReal) (γ := EReal) (x (ix2 r k)) (w (ix2 k j)) := by
  pointwise [k0_pay10]

/-- A product of the kernel's body at an index. -/
theorem prod11 (x : FVec Ideal S640x256 .bf16) (w : Vec Ideal S256x512 .bf16) (r : Fin 640) (j : Fin 512) :
    k0_pay11 x w (ix2 r j) = ∑ k : Fin 256, HMul.hMul (α := EReal) (β := EReal) (γ := EReal) (x (ix2 r k)) (w (ix2 k j)) := by
  pointwise [k0_pay11]

/-- A product of the kernel's body at an index. -/
theorem prod12 (x : FVec Ideal S640x128 .bf16) (w : Vec Ideal S128x512 .bf16) (r : Fin 640) (j : Fin 512) :
    k0_pay12 x w (ix2 r j) = ∑ k : Fin 128, HMul.hMul (α := EReal) (β := EReal) (γ := EReal) (x (ix2 r k)) (w (ix2 k j)) := by
  pointwise [k0_pay12]

/-- The rotated shared key over a head's lanes, in the kernel's body. -/
theorem prod13 (x : FVec Ideal S640x128 .bf16) (c1 s1 : FVec Ideal S640x128 .f32) (ea eb : Vec Ideal S128x128 .bf16) (r : Fin 640) (j : Fin 128) :
    k0_pay13 x c1 s1 ea eb (ix2 r j) = HAdd.hAdd (α := EReal) (β := EReal) (γ := EReal) (HMul.hMul (α := EReal) (β := EReal) (γ := EReal) (∑ s : Fin 128, HMul.hMul (α := EReal) (β := EReal) (γ := EReal) (x (ix2 r s)) (ea (ix2 s j))) (c1 (ix2 r j)))
      (HMul.hMul (α := EReal) (β := EReal) (γ := EReal) (∑ s : Fin 128, HMul.hMul (α := EReal) (β := EReal) (γ := EReal) (x (ix2 r s)) (eb (ix2 s j))) (s1 (ix2 r j))) := by
  pointwise [k0_pay13]

/-- The lane of a head from the low bits of the column. -/
theorem lane_bits : ∀ j : Fin 512, BitVec.setWidth 32 (IntOp.cmpi CmpIPredicate.eq (IntOp.andi (BitVec.ofNat 32 j.val) 127#32) 64#32) = if j.val % 128 = 64 then 1#32 else 0#32 := by
  decide +kernel

/-- The values' block in the kernel's body: a product, and a one in one lane of every head. -/
theorem prod14 (x : FVec Ideal S640x128 .bf16) (w : Vec Ideal S128x512 .bf16) (r : Fin 640) (j : Fin 512) :
    k0_pay14 x w (ix3 (0 : Fin 1) r j) = HAdd.hAdd (α := EReal) (β := EReal) (γ := EReal) (∑ k : Fin 128, HMul.hMul (α := EReal) (β := EReal) (γ := EReal) (x (ix2 r k)) (w (ix2 k j))) (if j.val % 128 = 64 then 1 else 0) := by
  pointwise [k0_pay14]
  rw [lane_bits j]
  refine congrArg (HAdd.hAdd (α := EReal) (β := EReal) (γ := EReal) _) ?_
  by_cases h : j.val % 128 = 64
  · rw [if_pos h, if_pos h]
    show (((1#32 : BitVec 32).toInt : ℝ) : EReal) = 1
    norm_num
  · rw [if_neg h, if_neg h]
    show (((0#32 : BitVec 32).toInt : ℝ) : EReal) = 0
    norm_num

/-- The first output's block at an index. -/
theorem e11_apply (P0 : Vec Ideal S1x640x512 .f32) (P1 : Vec Ideal S1x256 .f32) (P2 : Vec Ideal S256x512 .bf16) (P3 : Vec Ideal S640x128 .f32) (P4 : Vec Ideal S256x512 .bf16) (P5 : Vec Ideal S640x128 .f32)
    (r : Fin 640) (j : Fin 512) : Cert.PrepIdeal.Value.E11 P0 P1 P2 P3 P4 P5 (ix3 (0 : Fin 1) r j)
    = HAdd.hAdd (α := EReal) (β := EReal) (γ := EReal) (HMul.hMul (α := EReal) (β := EReal) (γ := EReal) (k0_pay10 (k0_pay5 P0 P1) P2 (ix2 r j)) (P3 (ix2 r (⟨j.val % 128, by omega⟩ : Fin 128))))
      (HMul.hMul (α := EReal) (β := EReal) (γ := EReal) (k0_pay11 (k0_pay5 P0 P1) P4 (ix2 r j)) (P5 (ix2 r (⟨j.val % 128, by omega⟩ : Fin 128)))) := by
  have e0 : Cert.PrepIdeal.Value.ix11_0 (ix3 (0 : Fin 1) r j) = ix2 r j := by funext a; fin_cases a <;> rfl
  have e1 : Cert.PrepIdeal.Value.ix11_1 (ix3 (0 : Fin 1) r j) = ix2 r (⟨j.val % 128, by omega⟩ : Fin 128) := by funext a; fin_cases a <;> rfl
  have e2 : Cert.PrepIdeal.Value.ix11_2 (ix3 (0 : Fin 1) r j) = ix2 r j := by funext a; fin_cases a <;> rfl
  have e3 : Cert.PrepIdeal.Value.ix11_3 (ix3 (0 : Fin 1) r j) = ix2 r (⟨j.val % 128, by omega⟩ : Fin 128) := by funext a; fin_cases a <;> rfl
  rw [← e0, ← e1]
  rfl

/-- The second output's block at an index. -/
theorem e12_apply (P0 : Vec Ideal S1x640x512 .f32) (P1 : Vec Ideal S1x128 .f32) (P2 : Vec Ideal S128x512 .bf16) (P3 P4 : Vec Ideal S640x128 .f32) (P5 P6 : Vec Ideal S128x128 .bf16)
    (r : Fin 640) (j : Fin 512) : Cert.PrepIdeal.Value.E12 P0 P1 P2 P3 P4 P5 P6 (ix3 (0 : Fin 1) r j)
    = HAdd.hAdd (α := EReal) (β := EReal) (γ := EReal) (k0_pay12 (k0_pay6 P0 P1) P2 (ix2 r j)) (k0_pay13 (k0_pay7 P0) (k0_pay8 P3) (k0_pay9 P4) P5 P6 (ix2 r (⟨j.val % 128, by omega⟩ : Fin 128))) := by
  have e0 : Cert.PrepIdeal.Value.ix12_0 (ix3 (0 : Fin 1) r j) = ix2 r j := by funext a; fin_cases a <;> rfl
  have e1 : Cert.PrepIdeal.Value.ix12_1 (ix3 (0 : Fin 1) r j) = ix2 r (⟨j.val % 128, by omega⟩ : Fin 128) := by funext a; fin_cases a <;> rfl
  rw [← e0, ← e1]
  rfl

/-- A table's block as the kernel's body reads it. -/
theorem pay8_apply (v : Vec Ideal S640x128 .f32) (r : Fin 640) (l : Fin 128) : k0_pay8 v (ix2 r l) = v (ix2 r l) := by
  pointwise [k0_pay8]

/-- A table's block as the kernel's body reads it. -/
theorem pay9_apply (v : Vec Ideal S640x128 .f32) (r : Fin 640) (l : Fin 128) : k0_pay9 v (ix2 r l) = v (ix2 r l) := by
  pointwise [k0_pay9]

/-- Where an element of an output's block at a point sits in its array. -/
theorem emb11 (t : Fin cfg0.N) (y0 : Fin 1) (r : Fin 640) (j : Fin 512) : ((cfg0.win 11).blk t).view.emb (ix3 y0 r j) = ix3 (sq t) (row t r) j := by
  blk_ext [idx t]

/-- Where an element of an output's block at a point sits in its array. -/
theorem emb12 (t : Fin cfg0.N) (y0 : Fin 1) (r : Fin 640) (j : Fin 512) : ((cfg0.win 12).blk t).view.emb (ix3 y0 r j) = ix3 (sq t) (row t r) j := by
  blk_ext [idx t]

/-- Where an element of an output's block at a point sits in its array. -/
theorem emb13 (t : Fin cfg0.N) (y0 : Fin 1) (r : Fin 640) (j : Fin 512) : ((cfg0.win 13).blk t).view.emb (ix3 y0 r j) = ix3 (sq t) (row t r) j := by
  blk_ext [idx t]

/-- The queries' block at a point is the reference's. -/
theorem block11 (c : Dev nD) (t : Fin cfg0.N) (r : Fin 640) (j : Fin 512) : Cert.PrepIdeal.Value.E11 (iblk m c 0 t) (iblk m c 1 t) (iblk m c 3 t) (iblk m c 9 t) (iblk m c 4 t) (iblk m c 10 t) (ix3 (0 : Fin 1) r j)
    = FLAT (CATQ (QH (m ((c : Thread nD τ).loc main_arg0)) (m ((c : Thread nD τ).loc main_arg1)) (m ((c : Thread nD τ).loc main_arg2)))) (ix3 (sq t) (row t r) j) := by
  refine Eq.trans ?_ (qcol (m ((c : Thread nD τ).loc main_arg0)) (m ((c : Thread nD τ).loc main_arg1)) (m ((c : Thread nD τ).loc main_arg2)) (sq t) (row t r) j)
  rw [e11_apply, prod10, prod11, read9, read10]
  refine congrArg₂ (fun a b : EReal => a * C1 (ix2 (row t r) (⟨j.val % 128, by omega⟩ : Fin 128)) + b * S1 (ix2 (row t r) (⟨j.val % 128, by omega⟩ : Fin 128))) ?_ ?_
  · exact Finset.sum_congr rfl fun k _ => by rw [normq_apply, read3]
  · exact Finset.sum_congr rfl fun k _ => by rw [normq_apply, read4]

/-- The keys' block at a point is the reference's. -/
theorem block12 (c : Dev nD) (t : Fin cfg0.N) (r : Fin 640) (j : Fin 512) : Cert.PrepIdeal.Value.E12 (iblk m c 0 t) (iblk m c 2 t) (iblk m c 5 t) (iblk m c 9 t) (iblk m c 10 t) (iblk m c 7 t) (iblk m c 8 t) (ix3 (0 : Fin 1) r j)
    = FLAT (CATK (KV (m ((c : Thread nD τ).loc main_arg0)) (m ((c : Thread nD τ).loc main_arg3)) (m ((c : Thread nD τ).loc main_arg4))) (m ((c : Thread nD τ).loc main_arg0))) (ix3 (sq t) (row t r) j) := by
  refine Eq.trans ?_ (kcol (m ((c : Thread nD τ).loc main_arg0)) (m ((c : Thread nD τ).loc main_arg3)) (m ((c : Thread nD τ).loc main_arg4)) (sq t) (row t r) j)
  rw [e12_apply, prod12, prod13, pay8_apply, pay9_apply, read9, read10]
  refine congrArg₂ (fun a b : EReal => a + b) ?_ (congrArg₂ (fun a b : EReal => a * C1 (ix2 (row t r) (⟨j.val % 128, by omega⟩ : Fin 128)) + b * S1 (ix2 (row t r) (⟨j.val % 128, by omega⟩ : Fin 128))) ?_ ?_)
  · exact Finset.sum_congr rfl fun k _ => by rw [normk_apply, read5]
  · exact Finset.sum_congr rfl fun s _ => by rw [kpe_apply, read7]
  · exact Finset.sum_congr rfl fun s _ => by rw [kpe_apply, read8]

/-- The values' block at a point is the reference's. -/
theorem block13 (c : Dev nD) (t : Fin cfg0.N) (r : Fin 640) (j : Fin 512) : k0_pay14 (k0_pay6 (iblk m c 0 t) (iblk m c 2 t)) (iblk m c 6 t) (ix3 (0 : Fin 1) r j)
    = FLAT (CATV (KV (m ((c : Thread nD τ).loc main_arg0)) (m ((c : Thread nD τ).loc main_arg3)) (m ((c : Thread nD τ).loc main_arg4)))) (ix3 (sq t) (row t r) j) := by
  refine Eq.trans ?_ (vcol (m ((c : Thread nD τ).loc main_arg0)) (m ((c : Thread nD τ).loc main_arg3)) (m ((c : Thread nD τ).loc main_arg4)) (sq t) (row t r) j)
  rw [prod14]
  refine congrArg (fun a : EReal => a + _) ?_
  exact Finset.sum_congr rfl fun k _ => by rw [normk_apply, read6]

/-- The first result array after the run is the reference's term. -/
theorem final11 (c : Dev nD) : (dats m 0 c).arrAt 11 (cfgs 0).N
    = FLAT (CATQ (QH (m ((c : Thread nD τ).loc main_arg0)) (m ((c : Thread nD τ).loc main_arg1)) (m ((c : Thread nD τ).loc main_arg2)))) := by
  refine (dats m 0 c).arrAt_eq_of_covers 11 _ (by decide +kernel) fun t _ y => ?_
  blk_simp
  idx_vars y
  have z : y0 = (0 : Fin 1) := Subsingleton.elim _ _
  subst z
  rw [after0_11, emb11]
  unfold_out out0_11
  frame_out
  refine (Cert.PrepIdeal.Value.canon11_eq (iblk m c 0 t) (iblk m c 1 t) (iblk m c 3 t) (iblk m c 9 t) (iblk m c 4 t) (iblk m c 10 t) _).trans ?_
  exact block11 m c t y1 y2

/-- The second result array after the run is the reference's term. -/
theorem final12 (c : Dev nD) : (dats m 0 c).arrAt 12 (cfgs 0).N
    = FLAT (CATK (KV (m ((c : Thread nD τ).loc main_arg0)) (m ((c : Thread nD τ).loc main_arg3)) (m ((c : Thread nD τ).loc main_arg4))) (m ((c : Thread nD τ).loc main_arg0))) := by
  refine (dats m 0 c).arrAt_eq_of_covers 12 _ (by decide +kernel) fun t _ y => ?_
  blk_simp
  idx_vars y
  have z : y0 = (0 : Fin 1) := Subsingleton.elim _ _
  subst z
  rw [after0_12, emb12]
  unfold_out out0_12
  frame_out
  refine (Cert.PrepIdeal.Value.canon12_eq (iblk m c 0 t) (iblk m c 2 t) (iblk m c 5 t) (iblk m c 9 t) (iblk m c 10 t) (iblk m c 7 t) (iblk m c 8 t) _).trans ?_
  exact block12 m c t y1 y2

/-- The third result array after the run is the reference's term. -/
theorem final13 (c : Dev nD) : (dats m 0 c).arrAt 13 (cfgs 0).N
    = FLAT (CATV (KV (m ((c : Thread nD τ).loc main_arg0)) (m ((c : Thread nD τ).loc main_arg3)) (m ((c : Thread nD τ).loc main_arg4)))) := by
  refine (dats m 0 c).arrAt_eq_of_covers 13 _ (by decide +kernel) fun t _ y => ?_
  blk_simp
  idx_vars y
  have z : y0 = (0 : Fin 1) := Subsingleton.elim _ _
  subst z
  rw [after0_13, emb13]
  unfold_out out0_13
  frame_out
  exact block13 m c t y1 y2

/-- The reference's run's first result is `CATQ`, flat. -/
theorem refQ_eq (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v96 (F := Ideal) m' c = FLAT (CATQ (QH (m' ((c : Thread Cert.PrepRefIdeal.nD Cert.PrepRefIdeal.τ).loc Cert.PrepRefIdeal.main_arg0)) (m' ((c : Thread Cert.PrepRefIdeal.nD Cert.PrepRefIdeal.τ).loc Cert.PrepRefIdeal.main_arg1)) (m' ((c : Thread Cert.PrepRefIdeal.nD Cert.PrepRefIdeal.τ).loc Cert.PrepRefIdeal.main_arg2)))) := by
  unfold Cert.PrepRefIdeal.Value.res_main_v96
  rfl

/-- The reference's run's second result is `CATK`, flat. -/
theorem refK_eq (m' : (ℓ : Loc Cert.PrepRefIdeal.nD Cert.PrepRefIdeal.τ Cert.PrepRefIdeal.sig) → Buf (Elt Ideal) ℓ) (c : Dev Cert.PrepRefIdeal.nD) :
    Cert.PrepRefIdeal.Value.res_main_v101 (F := Ideal) m' c = FLAT (CATK (KV (m' ((c : Thread Cert.PrepRefIdeal.nD Cert.PrepRefIdeal.τ).loc Cert.PrepRefIdeal.main_arg0)) (m' ((c : Thread Cert.PrepRefIdeal.nD Cert.PrepRefIdeal.τ).loc Cert.PrepRefIdeal.main_arg3)) (m' ((c : Thread Cert.PrepRefIdeal.nD Cert.PrepRefIdeal.τ).loc Cert.PrepRefIdeal.main_arg4))) (m' ((c : Thread Cert.PrepRefIdeal.nD Cert.PrepRefIdeal.τ).loc Cert.PrepRefIdeal.main_arg0))) := by
  unfold Cert.PrepRefIdeal.Value.res_main_v101
  rfl

end Cert.PrepIdeal.Whole

end
-- ==== Proof.PrepClaims.lean ====
module

public import proofs.«01_k».proof.Defs
public import proofs.«01_k».proof.Proof.Gen.Prep.Frame
public import proofs.«01_k».proof.Proof.Gen.PrepIdeal.Frame
public import proofs.«01_k».proof.Proof.Gen.PrepIdeal.Value
public import proofs.«01_k».proof.Proof.Gen.PrepRefIdeal.Run
public import proofs.«01_k».proof.Proof.PrepValue
public import Idealize.ShloMosaic.Lib.Quiescent

/-! # The claims about the raising of the compressed queries and latents to heads

The two runs of the kernel are the generated ones; the reference is a host program, whose run is generated too, and which
has no semaphore. The value of the kernel's result is the theorem of `PrepValue`. -/

@[expose] public section

noncomputable section

namespace Cert.PrepClaims

open Idealize.ShloMosaic Idealize.SL.Sem

/-- The kernel runs to its end, keeps its arguments and leaves every semaphore at zero. -/
theorem frame_kernel : Cert.quiescent_Prep (hPrep := Cert.Prep.Gen.facts) :=
  fun m ρ _ => Cert.Prep.Gen.frame m ρ

/-- The same of the kernel over the extended reals. -/
theorem frame_ideal : Cert.quiescent_PrepIdeal (hPrepIdeal := Cert.PrepIdeal.Gen.facts) :=
  fun m ρ _ => Cert.PrepIdeal.Gen.frame m ρ

/-- The same of the reference over the extended reals. -/
theorem frame_reference : Cert.quiescent_PrepRefIdeal (hPrepRefIdeal := Cert.PrepRefIdeal.Gen.facts) :=
  fun m ρ _ => (θ_run Cert.PrepRefIdeal.defs _ _).mono
    (fun r h => ⟨fun c => ⟨(h c).2.2.2.1, (h c).2.2.2.2.1, (h c).2.2.2.2.2.1, (h c).2.2.2.2.2.2.1, (h c).2.2.2.2.2.2.2⟩,
      sem_eq_zero_of_no_sems (by decide) r.2⟩)
    (Cert.PrepRefIdeal.Value.run (F := Ideal) m ρ)

/-- Over the extended reals the kernel's results are the reference's. -/
theorem value : Cert.algebraic_PrepIdeal_PrepRefIdeal (hPrepIdeal := Cert.PrepIdeal.Gen.facts)
    (hPrepRefIdeal := Cert.PrepRefIdeal.Gen.facts) := by
  intro m ρ m' ρ' _ hagree
  refine ⟨fun c => (Cert.PrepIdeal.Gen.dats m 0 c).arrAt 11 (Cert.PrepIdeal.cfgs 0).N, fun c => (Cert.PrepIdeal.Gen.dats m 0 c).arrAt 12 (Cert.PrepIdeal.cfgs 0).N, fun c => (Cert.PrepIdeal.Gen.dats m 0 c).arrAt 13 (Cert.PrepIdeal.cfgs 0).N,
    Cert.PrepIdeal.Value.run_blocks (F := Ideal) m ρ, ?_⟩
  refine (θ_run Cert.PrepRefIdeal.defs _ _).mono (fun r h c => ⟨((h c).1).trans ?_, ((h c).2.1).trans ?_, ((h c).2.2.1).trans ?_, (h c).2.2.2.1, (h c).2.2.2.2.1, (h c).2.2.2.2.2.1, (h c).2.2.2.2.2.2.1, (h c).2.2.2.2.2.2.2⟩)
    (Cert.PrepRefIdeal.Value.run (F := Ideal) m' ρ')
  · refine Eq.trans ?_ (Cert.PrepIdeal.Whole.final11 m c).symm
    refine (Cert.PrepIdeal.Whole.refQ_eq m' c).trans ?_
    rw [← (hagree c).1, ← (hagree c).2.1, ← (hagree c).2.2.1] <;> rfl
  · refine Eq.trans ?_ (Cert.PrepIdeal.Whole.final12 m c).symm
    refine (Cert.PrepIdeal.Whole.refK_eq m' c).trans ?_
    rw [← (hagree c).1, ← (hagree c).2.2.2.1, ← (hagree c).2.2.2.2] <;> rfl
  · refine Eq.trans ?_ (Cert.PrepIdeal.Whole.final13 m c).symm
    rw [← (hagree c).1, ← (hagree c).2.2.2.1, ← (hagree c).2.2.2.2] <;> rfl

end Cert.PrepClaims

end
-- ==== Proof.CombineValue.lean ====
/- The value of `CombineIdeal`: its result array is the reference's term of the argument arrays. -/
module

public import proofs.«01_k».proof.Proof.Gen.CombineIdeal.Frame
public import proofs.«01_k».proof.Proof.Gen.CombineRefIdeal.Run
public import Idealize.ShloMosaic.Lib.Pipeline.ValueKit

@[expose] public section

set_option maxRecDepth 16384

noncomputable section

namespace Cert.CombineIdeal.Whole

open Cert.CombineIdeal Cert.CombineIdeal.Gen Idealize.ShloMosaic Idealize.ShloMosaic.TcCoe Idealize.SL.Sem
open Idealize.ShloMosaic.Pipeline (Dat)

variable (m : (ℓ : Loc nD τ sig) → Buf (Elt Ideal) ℓ)

/-- The reference's term: the residual stream with the two routed rows of each token added. -/
abbrev REF (H : FVec Ideal S66560x1024 .f32) (Y : FVec Ideal S133120x1024 .f32) : FVec Ideal S66560x1024 .f32 :=
  addf H (addf (extractStridedSlice Cert.CombineRefIdeal.S66560x1024 ![0, 0] Y Cert.CombineRefIdeal.Gen.slices_S133120x1024_S66560x1024_0_0)
    (extractStridedSlice Cert.CombineRefIdeal.S66560x1024 ![66560, 0] Y Cert.CombineRefIdeal.Gen.slices_S133120x1024_S66560x1024_66560_0))

/-- Where each window stands at a point. -/
theorem idx : ∀ t : Fin cfg0.N, win0_0.index t = ![t.val, 0] ∧ win0_1.index t = ![t.val, 0]
    ∧ win0_2.index t = ![t.val + 65, 0] ∧ win0_3.index t = ![t.val, 0] :=
  (by decide +kernel : ∀ t : Fin grid0.N, _)

/-- Where an element of the output's block at a point sits in the result array. -/
theorem emb3 (t : Fin cfg0.N) (y : S1024x1024.Idx) : ((cfg0.win 3).blk t).view.emb y
    = ix2 (⟨t.val * 1024 + (y 0).val, by have h : t.val < 65 := t.isLt; have h' : (y 0).val < 1024 := (y 0).isLt; omega⟩ : Fin 66560) (y 1 : Fin 1024) := by
  blk_ext [idx t]

/-- The result array after the run is the reference's term. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  rw [emb3]
  idx_vars y
  pointwise [k0_pay1, REF]
  blk_point [iblk, V, idx t]

end Cert.CombineIdeal.Whole

end
-- ==== Proof.CombineClaims.lean ====
module

public import proofs.«01_k».proof.Defs
public import proofs.«01_k».proof.Proof.Gen.Combine.Frame
public import proofs.«01_k».proof.Proof.Gen.CombineIdeal.Frame
public import proofs.«01_k».proof.Proof.Gen.CombineIdeal.Value
public import proofs.«01_k».proof.Proof.Gen.CombineRefIdeal.Run
public import proofs.«01_k».proof.Proof.CombineValue
public import Idealize.ShloMosaic.Lib.Quiescent

/-! # The claims about the combine of the layer before the last

The two runs of the kernel are the generated ones; the reference is a host program, whose run is generated too, and which
has no semaphore. The value of the kernel's result is the theorem of `CombineValue`. -/

@[expose] public section

noncomputable section

namespace Cert.CombineClaims

open Idealize.ShloMosaic Idealize.SL.Sem

/-- The kernel runs to its end, keeps its arguments and leaves every semaphore at zero. -/
theorem frame_kernel : Cert.quiescent_Combine (hCombine := Cert.Combine.Gen.facts) :=
  fun m ρ _ => Cert.Combine.Gen.frame m ρ

/-- The same of the kernel over the extended reals. -/
theorem frame_ideal : Cert.quiescent_CombineIdeal (hCombineIdeal := Cert.CombineIdeal.Gen.facts) :=
  fun m ρ _ => Cert.CombineIdeal.Gen.frame m ρ

/-- The same of the reference over the extended reals. -/
theorem frame_reference : Cert.quiescent_CombineRefIdeal (hCombineRefIdeal := Cert.CombineRefIdeal.Gen.facts) :=
  fun m ρ _ => (θ_run Cert.CombineRefIdeal.defs _ _).mono
    (fun r h => ⟨fun c => ⟨(h c).2.1, (h c).2.2⟩,
      sem_eq_zero_of_no_sems (by decide) r.2⟩)
    (Cert.CombineRefIdeal.Value.run (F := Ideal) m ρ)

/-- Over the extended reals the kernel's result is the reference's. -/
theorem value : Cert.algebraic_CombineIdeal_CombineRefIdeal (hCombineIdeal := Cert.CombineIdeal.Gen.facts)
    (hCombineRefIdeal := Cert.CombineRefIdeal.Gen.facts) := by
  intro m ρ m' ρ' _ hagree
  refine ⟨fun c => (Cert.CombineIdeal.Gen.dats m 0 c).arrAt 3 (Cert.CombineIdeal.cfgs 0).N,
    Cert.CombineIdeal.Value.run_blocks (F := Ideal) m ρ, ?_⟩
  refine (θ_run Cert.CombineRefIdeal.defs _ _).mono (fun r h c => ⟨((h c).1).trans ?_, (h c).2.1, (h c).2.2⟩)
    (Cert.CombineRefIdeal.Value.run (F := Ideal) m' ρ')
  · refine Eq.trans ?_ (Cert.CombineIdeal.Whole.final m c).symm
    rw [← (hagree c).1, ← (hagree c).2] <;> rfl

end Cert.CombineClaims

end
-- ==== Proof.lean ====
module

public import proofs.«01_k».proof.Defs
public import proofs.«01_k».proof.Proof.FinalClaims
public import proofs.«01_k».proof.Proof.GatherClaims
public import proofs.«01_k».proof.Proof.FfnClaims
public import proofs.«01_k».proof.Proof.MergeClaims
public import proofs.«01_k».proof.Proof.InprojClaims
public import proofs.«01_k».proof.Proof.ExpertsClaims
public import proofs.«01_k».proof.Proof.PrepClaims
public import proofs.«01_k».proof.Proof.CombineClaims
public import proofs.«01_k».proof.Proof.Gen.Pre_idx_in_rows
public import proofs.«01_k».proof.Proof.Gen.Pre_experts_in_range
public import Idealize.ShloMosaic.Adequacy
public import Idealize.ShloMosaic.Init

/-! # The claims of the certificate, each proved in the module of its program -/

@[expose] public section

noncomputable section

namespace Cert.Proof

open Idealize.ShloMosaic Idealize.SL.Sem

/-- Every claim of the certificate holds. -/
theorem claim : Cert.Claim := ⟨Cert.Final.Gen.facts, Cert.FinalIdeal.Gen.facts, Cert.FinalRefIdeal.Gen.facts, Cert.Gather.Gen.facts, Cert.GatherIdeal.Gen.facts, Cert.GatherRefIdeal.Gen.facts, Cert.GatherRef.Gen.facts, Cert.Ffn.Gen.facts, Cert.FfnIdeal.Gen.facts, Cert.FfnRefIdeal.Gen.facts, Cert.Merge.Gen.facts, Cert.MergeIdeal.Gen.facts, Cert.MergeRefIdeal.Gen.facts, Cert.Inproj.Gen.facts, Cert.InprojIdeal.Gen.facts, Cert.InprojRefIdeal.Gen.facts, Cert.Experts.Gen.facts, Cert.ExpertsIdeal.Gen.facts, Cert.ExpertsRefIdeal.Gen.facts, Cert.Prep.Gen.facts, Cert.PrepIdeal.Gen.facts, Cert.PrepRefIdeal.Gen.facts, Cert.Combine.Gen.facts, Cert.CombineIdeal.Gen.facts, Cert.CombineRefIdeal.Gen.facts, Cert.Pre_idx_in_rows.Gen.facts, Cert.Pre_experts_in_range.Gen.facts,
  Cert.FinalClaims.frame_kernel, Cert.FinalClaims.frame_ideal, Cert.FinalClaims.frame_reference, Cert.GatherClaims.frame_kernel, Cert.GatherClaims.frame_ideal, Cert.GatherClaims.frame_reference, Cert.GatherClaims.frame_plain, Cert.FfnClaims.frame_kernel, Cert.FfnClaims.frame_ideal, Cert.FfnClaims.frame_reference, Cert.MergeClaims.frame_kernel, Cert.MergeClaims.frame_ideal, Cert.MergeClaims.frame_reference, Cert.InprojClaims.frame_kernel, Cert.InprojClaims.frame_ideal, Cert.InprojClaims.frame_reference, Cert.ExpertsClaims.frame_kernel, Cert.ExpertsClaims.frame_ideal, Cert.ExpertsClaims.frame_reference, Cert.PrepClaims.frame_kernel, Cert.PrepClaims.frame_ideal, Cert.PrepClaims.frame_reference, Cert.CombineClaims.frame_kernel, Cert.CombineClaims.frame_ideal, Cert.CombineClaims.frame_reference,
  trivial, Cert.FinalClaims.value, trivial, Cert.GatherClaims.value, Cert.GatherClaims.exact, trivial, Cert.FfnClaims.value, trivial, Cert.MergeClaims.value, trivial, Cert.InprojClaims.value, trivial, Cert.ExpertsClaims.value, trivial, Cert.PrepClaims.value, trivial, Cert.CombineClaims.value⟩

end Cert.Proof

end
